-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v147_0)) (v1 : (c : Dev Cert.KernelIdeal.nD) → Buf (Elt Ideal) ((c.tc : Thread Cert.KernelIdeal.nD Cert.KernelIdeal.τ).loc Cert.KernelIdeal.main_v147_1)) (v2 : (c : Dev Cert.KernelIdeal.nD) → Buf (Elt Ideal) ((c.tc : Thread Cert.KernelIdeal.nD Cert.KernelIdeal.τ).loc Cert.KernelIdeal.main_v147_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147_0) = v0 c
          ∧ r.2.mem ((c.tc : Thread Cert.KernelIdeal.nD Cert.KernelIdeal.τ).loc Cert.KernelIdeal.main_v147_1) = v1 c
          ∧ r.2.mem ((c.tc : Thread Cert.KernelIdeal.nD Cert.KernelIdeal.τ).loc Cert.KernelIdeal.main_v147_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_v202) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v36) = v2 c
          ∧ r.2.mem ((c.tc : Thread Cert.Reference12Ideal.nD Cert.Reference12Ideal.τ).loc Cert.Reference12Ideal.main_v37) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2304x14336 : Shape := ⟨2, ![2304, 14336]⟩
abbrev S2x8 : Shape := ⟨2, ![2, 8]⟩
abbrev S2304x2048 : Shape := ⟨2, ![2304, 2048]⟩
abbrev S_ : Shape := ⟨0, ![]⟩

class Facts : Prop where
  bitsLt_bf16_f32 : FTy.bits .bf16 < FTy.bits .f32
  bcast_S_S2304x14336 : S_.BroadcastsInDim S2304x14336 (![] : Fin 0 → Fin S2304x14336.rank)
  reducesTo_S2304x14336_S_d0_1 : S2304x14336.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S2304x2048 : S_.BroadcastsInDim S2304x2048 (![] : Fin 0 → Fin S2304x2048.rank)
  reducesTo_S2304x2048_S_d0_1 : S2304x2048.ReducesTo [0, 1] S_

variable [Facts]

def fn {F : FTy → Type} [FloatOps F] (main_arg0 : FVec F S2304x14336 .bf16) (main_arg1 : FVec F S2x8 .f32) (main_arg2 : FVec F S2304x2048 .bf16) : IVec S_ 1 :=
  let main_v0 : FVec F S2304x14336 .f32 := (extf .f32 · bitsLt_bf16_f32) main_arg0
  let main_v1 : FVec F S2304x2048 .f32 := (extf .f32 · bitsLt_bf16_f32) main_arg2
  let main_v2 : FVec F S2304x14336 .f32 := Host.absf main_v0
  let main_cst : FVec F S_ .f32 := constant S_ .f32 0x7F800000#32
  let main_v3 : FVec F S2304x14336 .f32 := broadcastInDim S2304x14336 ![] bcast_S_S2304x14336 main_cst
  let main_v4 : IVec S2304x14336 1 := cmpf .olt main_v2 main_v3
  let main_c : IVec S_ 1 := constantI S_ 1 1#1
  let main_v5 : IVec S_ 1 := (fun x v => Host.reduce IntOp.andi x v reducesTo_S2304x14336_S_d0_1 h_S_) main_v4 main_c
  let main_v6 : FVec F S2x8 .f32 := Host.absf main_arg1
  let main_cst_0 : FVec F S_ .f32 := constant S_ .f32 0x7F800000#32
  let main_v7 : FVec F S2x8 .f32 := broadcastInDim S2x8 ![] bcast_S_S2x8 main_cst_0
  let main_v8 : IVec S2x8 1 := cmpf .olt main_v6 main_v7
  let main_c_1 : IVec S_ 1 := constantI S_ 1 1#1
  let main_v9 : IVec S_ 1 := (fun x v => Host.reduce IntOp.andi x v reducesTo_S2x8_S_d0_1 h_S_) main_v8 main_c_1
  let main_v10 : IVec S_ 1 := andi main_v5 main_v9
  let main_v11 : FVec F S2304x2048 .f32 := Host.absf main_v1
  let main_cst_2 : FVec F S_ .f32 := constant S_ .f32 0x7F800000#32
  let main_v12 : FVec F S2304x2048 .f32 := broadcastInDim S2304x2048 ![] bcast_S_S2304x2048 main_cst_2
  let main_v13 : IVec S2304x2048 1 := cmpf .olt main_v11 main_v12
  let main_c_3 : IVec S_ 1 := constantI S_ 1 1#1
  let main_v14 : IVec S_ 1 := (fun x v => Host.reduce IntOp.andi x v reducesTo_S2304x2048_S_d0_1 h_S_) main_v13 main_c_3
  let main_v15 : IVec S_ 1 := andi main_v10 main_v14
  main_v15
-- ==== Kernel.lean ====
abbrev S2304x14336 : Shape := ⟨2, ![2304, 14336]⟩
abbrev S2x8 : Shape := ⟨2, ![2, 8]⟩
abbrev S2304x2048 : Shape := ⟨2, ![2304, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S2304x1024 : Shape := ⟨2, ![2304, 1024]⟩
abbrev S2304x8x128 : Shape := ⟨3, ![2304, 8, 128]⟩
abbrev S8x2304x128 : Shape := ⟨3, ![8, 2304, 128]⟩
abbrev S32x64 : Shape := ⟨2, ![32, 64]⟩
abbrev S8x2048x128 : Shape := ⟨3, ![8, 2048, 128]⟩
abbrev S8x2048x64 : Shape := ⟨3, ![8, 2048, 64]⟩
abbrev S1x2048x64 : Shape := ⟨3, ![1, 2048, 64]⟩
abbrev S8x256x128 : Shape := ⟨3, ![8, 256, 128]⟩
abbrev S2304x8x256 : Shape := ⟨3, ![2304, 8, 256]⟩
abbrev S8x2304x256 : Shape := ⟨3, ![8, 2304, 256]⟩
abbrev S18 : Shape := ⟨1, ![18]⟩
abbrev S2304 : Shape := ⟨1, ![2304]⟩
abbrev S1x8 : Shape := ⟨2, ![1, 8]⟩
abbrev S8 : Shape := ⟨1, ![8]⟩
abbrev S18x1 : Shape := ⟨2, ![18, 1]⟩
abbrev S1x2304 : Shape := ⟨2, ![1, 2304]⟩
abbrev S18x2304 : Shape := ⟨2, ![18, 2304]⟩
abbrev S8x1x1 : Shape := ⟨3, ![8, 1, 1]⟩
abbrev S1x18x2304 : Shape := ⟨3, ![1, 18, 2304]⟩
abbrev S8x18x2304 : Shape := ⟨3, ![8, 18, 2304]⟩
abbrev S8x18x2304x1 : Shape := ⟨4, ![8, 18, 2304, 1]⟩
abbrev S8x1x2304x128 : Shape := ⟨4, ![8, 1, 2304, 128]⟩
abbrev S8x18x2304x128 : Shape := ⟨4, ![8, 18, 2304, 128]⟩
abbrev S8x18x128x256 : Shape := ⟨4, ![8, 18, 128, 256]⟩
abbrev S8x1x18x128x256 : Shape := ⟨5, ![8, 1, 18, 128, 256]⟩
abbrev S8x2x18x128x256 : Shape := ⟨5, ![8, 2, 18, 128, 256]⟩
abbrev S8x2x8x128 : Shape := ⟨4, ![8, 2, 8, 128]⟩
abbrev S2304x256 : Shape := ⟨2, ![2304, 256]⟩
abbrev S1x1x18x128x256 : Shape := ⟨5, ![1, 1, 18, 128, 256]⟩
abbrev S1x1x8x128 : Shape := ⟨4, ![1, 1, 8, 128]⟩
abbrev S8x128 : Shape := ⟨2, ![8, 128]⟩
abbrev S18x128x256 : Shape := ⟨3, ![18, 128, 256]⟩
abbrev S1x1 : Shape := ⟨2, ![1, 1]⟩
abbrev S128x1 : Shape := ⟨2, ![128, 1]⟩
abbrev S128x128 : Shape := ⟨2, ![128, 128]⟩
abbrev S128x256 : Shape := ⟨2, ![128, 256]⟩
abbrev S1x128x256 : Shape := ⟨3, ![1, 128, 256]⟩
abbrev S1x1x1x128x256 : Shape := ⟨5, ![1, 1, 1, 128, 256]⟩
abbrev S128 : Shape := ⟨1, ![128]⟩
abbrev S1 : Shape := ⟨1, ![1]⟩

abbrev nBuf : Space → Nat
  | .hbm => 182
  | .vmem => 23
  | .smem => 1
  | _ => 0

abbrev hbmTy0_0 (i : Nat) : BufTy := match i % 128 with
  | 0 => ⟨S2304x14336, .bf16⟩
  | 1 => ⟨S2x8, .f32⟩
  | 2 => ⟨S2304x2048, .bf16⟩
  | 3 => ⟨S2048, .f32⟩
  | 4 => ⟨S2048, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S2048x1, .f32⟩
  | 14 => ⟨S1x32, .f32⟩
  | 15 => ⟨S2048x32, .f32⟩
  | 16 => ⟨S2048x32, .f32⟩
  | 17 => ⟨S2048x32, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x64, .f32⟩
  | 24 => ⟨S2048x64, .f32⟩
  | 25 => ⟨S2048x64, .f32⟩
  | 26 => ⟨S2048x128, .f32⟩
  | 27 => ⟨S2048x64, .f32⟩
  | 28 => ⟨S2048x128, .f32⟩
  | 29 => ⟨S_, .f32⟩
  | 30 => ⟨S256x128, .f32⟩
  | 31 => ⟨S2304x128, .f32⟩
  | 32 => ⟨S_, .f32⟩
  | 33 => ⟨S256x128, .f32⟩
  | 34 => ⟨S2304x128, .f32⟩
  | 35 => ⟨S2304x1024, .bf16⟩
  | 36 => ⟨S2304x1024, .f32⟩
  | 37 => ⟨S2304x8x128, .f32⟩
  | 38 => ⟨S8x2304x128, .f32⟩
  | 39 => ⟨S32x64, .f32⟩
  | 40 => ⟨S2048, .f32⟩
  | 41 => ⟨S32x64, .f32⟩
  | 42 => ⟨S2048, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048x1, .f32⟩
  | 52 => ⟨S1x32, .f32⟩
  | 53 => ⟨S2048x32, .f32⟩
  | 54 => ⟨S2048x32, .f32⟩
  | 55 => ⟨S2048x32, .f32⟩
  | 56 => ⟨S2048x1, .f32⟩
  | 57 => ⟨S1x32, .f32⟩
  | 58 => ⟨S2048x32, .f32⟩
  | 59 => ⟨S2048x32, .f32⟩
  | 60 => ⟨S2048x32, .f32⟩
  | 61 => ⟨S2048x64, .f32⟩
  | 62 => ⟨S2048x64, .f32⟩
  | 63 => ⟨S2048x64, .f32⟩
  | 64 => ⟨S8x2048x128, .f32⟩
  | 65 => ⟨S8x2048x64, .f32⟩
  | 66 => ⟨S8x2048x64, .f32⟩
  | 67 => ⟨S1x2048x64, .f32⟩
  | 68 => ⟨S8x2048x64, .f32⟩
  | 69 => ⟨S8x2048x64, .f32⟩
  | 70 => ⟨S1x2048x64, .f32⟩
  | 71 => ⟨S8x2048x64, .f32⟩
  | 72 => ⟨S8x2048x64, .f32⟩
  | 73 => ⟨S8x2048x64, .f32⟩
  | 74 => ⟨S1x2048x64, .f32⟩
  | 75 => ⟨S8x2048x64, .f32⟩
  | 76 => ⟨S8x2048x64, .f32⟩
  | 77 => ⟨S1x2048x64, .f32⟩
  | 78 => ⟨S8x2048x64, .f32⟩
  | 79 => ⟨S8x2048x64, .f32⟩
  | 80 => ⟨S8x2048x64, .f32⟩
  | 81 => ⟨S8x2048x128, .f32⟩
  | 82 => ⟨S8x256x128, .f32⟩
  | 83 => ⟨S8x2304x128, .f32⟩
  | 84 => ⟨S_, .f32⟩
  | 85 => ⟨S8x2304x128, .f32⟩
  | 86 => ⟨S8x2304x128, .f32⟩
  | 87 => ⟨S2304x2048, .bf16⟩
  | 88 => ⟨S2304x2048, .f32⟩
  | 89 => ⟨S2304x8x256, .f32⟩
  | 90 => ⟨S8x2304x256, .f32⟩
  | 91 => ⟨S18, .f32⟩
  | 92 => ⟨S_, .f32⟩
  | 93 => ⟨S18, .f32⟩
  | 94 => ⟨S18, .f32⟩
  | 95 => ⟨S2304, .f32⟩
  | 96 => ⟨S_, .f32⟩
  | 97 => ⟨S2304, .f32⟩
  | 98 => ⟨S2304, .i1⟩
  | 99 => ⟨S_, .f32⟩
  | 100 => ⟨S2304, .f32⟩
  | 101 => ⟨S2304, .f32⟩
  | 102 => ⟨S_, .f32⟩
  | 103 => ⟨S2304, .f32⟩
  | 104 => ⟨S2304, .f32⟩
  | 105 => ⟨S2304, .f32⟩
  | 106 => ⟨S_, .f32⟩
  | 107 => ⟨S2304, .f32⟩
  | 108 => ⟨S2304, .f32⟩
  | 109 => ⟨S1x8, .f32⟩
  | 110 => ⟨S8, .f32⟩
  | 111 => ⟨S18x1, .f32⟩
  | 112 => ⟨S_, .f32⟩
  | 113 => ⟨S18x1, .f32⟩
  | 114 => ⟨S18x1, .f32⟩
  | 115 => ⟨S1x2304, .f32⟩
  | 116 => ⟨S18x2304, .f32⟩
  | 117 => ⟨S18x2304, .f32⟩
  | 118 => ⟨S18x2304, .f32⟩
  | 119 => ⟨S_, .f32⟩
  | 120 => ⟨S18x2304, .f32⟩
  | 121 => ⟨S18x2304, .i1⟩
  | 122 => ⟨S_, .f32⟩
  | 123 => ⟨S18x2304, .f32⟩
  | 124 => ⟨S18x2304, .f32⟩
  | 125 => ⟨S8x1x1, .f32⟩
  | 126 => ⟨S1x18x2304, .f32⟩
  | 127 => ⟨S8x18x2304, .f32⟩
  | _ => ⟨S2304x14336, .bf16⟩

abbrev hbmTy0_1 (i : Nat) : BufTy := match i % 128 with
  | 0 => ⟨S8x18x2304, .f32⟩
  | 1 => ⟨S8x18x2304, .f32⟩
  | 2 => ⟨S8x18x2304, .f32⟩
  | 3 => ⟨S_, .f32⟩
  | 4 => ⟨S_, .f32⟩
  | 5 => ⟨S8x18x2304, .i1⟩
  | 6 => ⟨S8x18x2304, .f32⟩
  | 7 => ⟨S8x18x2304, .f32⟩
  | 8 => ⟨S8x18x2304x1, .f32⟩
  | 9 => ⟨S8x1x2304x128, .f32⟩
  | 10 => ⟨S8x18x2304x128, .f32⟩
  | 11 => ⟨S8x18x2304x128, .f32⟩
  | 12 => ⟨S8x18x2304x128, .f32⟩
  | 13 => ⟨S8x18x128x256, .f32⟩
  | 14 => ⟨S1x8, .f32⟩
  | 15 => ⟨S8, .f32⟩
  | 16 => ⟨S18x1, .f32⟩
  | 17 => ⟨S_, .f32⟩
  | 18 => ⟨S18x1, .f32⟩
  | 19 => ⟨S18x1, .f32⟩
  | 20 => ⟨S1x2304, .f32⟩
  | 21 => ⟨S18x2304, .f32⟩
  | 22 => ⟨S18x2304, .f32⟩
  | 23 => ⟨S18x2304, .f32⟩
  | 24 => ⟨S_, .f32⟩
  | 25 => ⟨S18x2304, .f32⟩
  | 26 => ⟨S18x2304, .i1⟩
  | 27 => ⟨S_, .f32⟩
  | 28 => ⟨S18x2304, .f32⟩
  | 29 => ⟨S18x2304, .f32⟩
  | 30 => ⟨S8x1x1, .f32⟩
  | 31 => ⟨S1x18x2304, .f32⟩
  | 32 => ⟨S8x18x2304, .f32⟩
  | 33 => ⟨S8x18x2304, .f32⟩
  | 34 => ⟨S8x18x2304, .f32⟩
  | 35 => ⟨S8x18x2304, .f32⟩
  | 36 => ⟨S_, .f32⟩
  | 37 => ⟨S_, .f32⟩
  | 38 => ⟨S8x18x2304, .i1⟩
  | 39 => ⟨S8x18x2304, .f32⟩
  | 40 => ⟨S8x18x2304, .f32⟩
  | 41 => ⟨S8x18x2304x1, .f32⟩
  | 42 => ⟨S8x1x2304x128, .f32⟩
  | 43 => ⟨S8x18x2304x128, .f32⟩
  | 44 => ⟨S8x18x2304x128, .f32⟩
  | 45 => ⟨S8x18x2304x128, .f32⟩
  | 46 => ⟨S8x18x128x256, .f32⟩
  | 47 => ⟨S8x1x18x128x256, .f32⟩
  | 48 => ⟨S8x1x18x128x256, .f32⟩
  | 49 => ⟨S8x2x18x128x256, .f32⟩
  | 50 => ⟨S2304x1024, .bf16⟩
  | 51 => ⟨S2304x1024, .bf16⟩
  | 52 => ⟨S2304x2048, .bf16⟩
  | 53 => ⟨S8x2x8x128, .f32⟩
  | _ => ⟨S2304x14336, .bf16⟩

abbrev hbmTy (i : Nat) : BufTy := match i / 128 with
  | 0 => hbmTy0_0 i
  | 1 => hbmTy0_1 i
  | _ => ⟨S2304x14336, .bf16⟩

abbrev bufTy : (tb : Table) → Fin (tcTables nBuf tb) → BufTy
  | .hbm, ⟨i, _⟩ => hbmTy i
  | .local _ .vmem, ⟨0, _⟩ => ⟨S2304x128, .bf16⟩
  | .local _ .vmem, ⟨1, _⟩ => ⟨S2304x128, .bf16⟩
  | .local _ .vmem, ⟨2, _⟩ => ⟨S2304x128, .bf16⟩
  | .local _ .vmem, ⟨3, _⟩ => ⟨S2304x128, .bf16⟩
  | .local _ .vmem, ⟨4, _⟩ => ⟨S2304x256, .bf16⟩
  | .local _ .vmem, ⟨5, _⟩ => ⟨S2304x256, .bf16⟩
  | .local _ .vmem, ⟨6, _⟩ => ⟨S2304x128, .f32⟩
  | .local _ .vmem, ⟨7, _⟩ => ⟨S2304x128, .f32⟩
  | .local _ .vmem, ⟨8, _⟩ => ⟨S1x1x18x128x256, .f32⟩
  | .local _ .vmem, ⟨9, _⟩ => ⟨S1x1x18x128x256, .f32⟩
  | .local _ .vmem, ⟨10, _⟩ => ⟨S2304x256, .bf16⟩
  | .local _ .vmem, ⟨11, _⟩ => ⟨S2304x256, .bf16⟩
  | .local _ .vmem, ⟨12, _⟩ => ⟨S2304x128, .bf16⟩
  | .local _ .vmem, ⟨13, _⟩ => ⟨S2304x128, .bf16⟩
  | .local _ .vmem, ⟨14, _⟩ => ⟨S2304x128, .bf16⟩
  | .local _ .vmem, ⟨15, _⟩ => ⟨S2304x128, .bf16⟩
  | .local _ .vmem, ⟨16, _⟩ => ⟨S2304x256, .bf16⟩
  | .local _ .vmem, ⟨17, _⟩ => ⟨S2304x256, .bf16⟩
  | .local _ .vmem, ⟨18, _⟩ => ⟨S1x1x8x128, .f32⟩
  | .local _ .vmem, ⟨19, _⟩ => ⟨S1x1x8x128, .f32⟩
  | .local _ .vmem, ⟨20, _⟩ => ⟨S8x128, .f32⟩
  | .local _ .vmem, ⟨21, _⟩ => ⟨S18x128x256, .f32⟩
  | .local _ .vmem, ⟨22, _⟩ => ⟨S18x128x256, .f32⟩
  | .local _ .smem, ⟨0, _⟩ => ⟨S2x8, .f32⟩
  | _, _ => ⟨S2304x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_8 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_cst_10 : Ref sig .tc := ⟨.hbm, 99, rfl⟩
abbrev main_v85 : Ref sig .tc := ⟨.hbm, 100, rfl⟩
abbrev main_v86 : Ref sig .tc := ⟨.hbm, 101, rfl⟩
abbrev main_cst_11 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_12 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_13 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_14 : Ref sig .tc := ⟨.hbm, 119, rfl⟩
abbrev main_v101 : Ref sig .tc := ⟨.hbm, 120, rfl⟩
abbrev main_v102 : Ref sig .tc := ⟨.hbm, 121, rfl⟩
abbrev main_cst_15 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_16 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_17 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_18 : Ref sig .tc := ⟨.hbm, 152, rfl⟩
abbrev main_v127 : Ref sig .tc := ⟨.hbm, 153, rfl⟩
abbrev main_v128 : Ref sig .tc := ⟨.hbm, 154, rfl⟩
abbrev main_cst_19 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_20 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147_0 : Ref sig .tc := ⟨.hbm, 178, rfl⟩
abbrev main_v147_1 : Ref sig .tc := ⟨.hbm, 179, rfl⟩
abbrev main_v147_2 : Ref sig .tc := ⟨.hbm, 180, rfl⟩
abbrev main_v147_3 : Ref sig .tc := ⟨.hbm, 181, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let v0 : Index := Scalar.indexCast arg1
  let arg0 : BitVec 32 := BitVec.ofNat 32 (i 0).val
  let v1 : Index := Scalar.indexCast arg0
  ![v0.toNat, v1.toNat]
@[reducible] def k0_t1_loop : Scf.Loop 32 :=
  let c0_i32_8 : BitVec 32 := 0#32
  let c9_i32 : BitVec 32 := 9#32
  let v43 : BitVec 32 := Scalar.addi c0_i32_8 c9_i32
  let c1_i32 : BitVec 32 := 1#32
  ⟨c0_i32_8, v43, c1_i32⟩
def k0_mult1 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c2_i32 : BitVec 32 := 2#32
  let v52 : BitVec 32 := Scalar.muli arg17 c2_i32
  let c0_i32_24 : BitVec 32 := 0#32
  let v53 : BitVec 32 := Scalar.addi v52 c0_i32_24
  let c128_i32 : BitVec 32 := 128#32
  let v54 : BitVec 32 := Scalar.muli v53 c128_i32
  v54
def k0_mult2 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c2_i32_25 : BitVec 32 := 2#32
  let v56 : BitVec 32 := Scalar.muli arg17 c2_i32_25
  let c1_i32_26 : BitVec 32 := 1#32
  let v57 : BitVec 32 := Scalar.addi v56 c1_i32_26
  let c128_i32_27 : BitVec 32 := 128#32
  let v58 : BitVec 32 := Scalar.muli v57 c128_i32_27
  v58
def k0_off2 (k0_t1 : Fin k0_t1_loop.trips) (c0_i32_24 : BitVec 32) : Fin 2 → Nat :=
  let c0_i32_8 : BitVec 32 := 0#32
  let c1_i32 : BitVec 32 := 1#32
  let arg17 : BitVec 32 := Scf.iv c0_i32_8 c1_i32 k0_t1
  let c2_i32 : BitVec 32 := 2#32
  let v52 : BitVec 32 := Scalar.muli arg17 c2_i32
  let v53 : BitVec 32 := Scalar.addi v52 c0_i32_24
  let c128_i32 : BitVec 32 := 128#32
  let v54 : BitVec 32 := Scalar.muli v53 c128_i32
  let v55 : BitVec 32 := v54
  let v60 : Index := Scalar.indexCast v55
  let c0_28 : Index := 0#32
  ![v60.toNat, 0]
def k0_off3 (k0_t1 : Fin k0_t1_loop.trips) (c0_i32_24 : BitVec 32) : Fin 2 → Nat :=
  let c0_i32_8 : BitVec 32 := 0#32
  let c1_i32 : BitVec 32 := 1#32
  let arg17 : BitVec 32 := Scf.iv c0_i32_8 c1_i32 k0_t1
  let c2_i32 : BitVec 32 := 2#32
  let v52 : BitVec 32 := Scalar.muli arg17 c2_i32
  let v53 : BitVec 32 := Scalar.addi v52 c0_i32_24
  let c128_i32 : BitVec 32 := 128#32
  let v54 : BitVec 32 := Scalar.muli v53 c128_i32
  let v55 : BitVec 32 := v54
  let v92 : Index := Scalar.indexCast v55
  let c0_35 : Index := 0#32
  ![v92.toNat, 0]
def k0_off4 (k0_t1 : Fin k0_t1_loop.trips) (c0_i32_40 : BitVec 32) : Fin 3 → Nat :=
  let c0_i32_8 : BitVec 32 := 0#32
  let c1_i32 : BitVec 32 := 1#32
  let arg17 : BitVec 32 := Scf.iv c0_i32_8 c1_i32 k0_t1
  let c2_i32_39 : BitVec 32 := 2#32
  let v98 : BitVec 32 := Scalar.muli arg17 c2_i32_39
  let v99 : BitVec 32 := Scalar.addi v98 c0_i32_40
  let v100 : Index := Scalar.indexCast v99
  let c0_41 : Index := 0#32
  let c0_42 : Index := 0#32
  ![v100.toNat, 0, 0]
@[reducible] def k0_t2_loop : Scf.Loop 32 :=
  let c0_i32_11 : BitVec 32 := 0#32
  let c18_i32 : BitVec 32 := 18#32
  let v45 : BitVec 32 := Scalar.addi c0_i32_11 c18_i32
  let c1_i32_12 : BitVec 32 := 1#32
  ⟨c0_i32_11, v45, c1_i32_12⟩
def k0_off5 (k0_t2 : Fin k0_t2_loop.trips) : Fin 3 → Nat :=
  let c17_i32 : BitVec 32 := 17#32
  let c0_i32_11 : BitVec 32 := 0#32
  let c1_i32_12 : BitVec 32 := 1#32
  let arg17 : BitVec 32 := Scf.iv c0_i32_11 c1_i32_12 k0_t2
  let v52 : BitVec 32 := Scalar.subi c17_i32 arg17
  let v53 : Index := Scalar.indexCast v52
  let c0_24 : Index := 0#32
  let c0_25 : Index := 0#32
  ![v53.toNat, 0, 0]
def k0_off6 (i : grid0.Coords) (k0_t2 : Fin k0_t2_loop.trips) : Fin 3 → Nat :=
  let arg1 : BitVec 32 := BitVec.ofNat 32 (i 1).val
  let c0_i32_26 : BitVec 32 := 0#32
  let v59 : BitVec 1 := Scalar.cmpi .eq arg1 c0_i32_26
  let c17_i32 : BitVec 32 := 17#32
  let c0_i32_11 : BitVec 32 := 0#32
  let c1_i32_12 : BitVec 32 := 1#32
  let arg17 : BitVec 32 := Scf.iv c0_i32_11 c1_i32_12 k0_t2
  let v52 : BitVec 32 := Scalar.subi c17_i32 arg17
  let c16_i32 : BitVec 32 := 16#32
  let v60 : BitVec 32 := Scalar.addi v52 c16_i32
  let c18_i32_27 : BitVec 32 := 18#32
  let v61 : BitVec 32 := Scalar.remsi v60 c18_i32_27
  let c17_i32_28 : BitVec 32 := 17#32
  let v62 : BitVec 32 := Scalar.subi c17_i32_28 v52
  let v63 : BitVec 32 := Scalar.select v59 v61 v62
  let v64 : Index := Scalar.indexCast v63
  let c0_29 : Index := 0#32
  let c0_30 : Index := 0#32
  ![v64.toNat, 0, 0]
@[reducible] def k0_t3_loop : Scf.Loop 32 :=
  let c0_i32_14 : BitVec 32 := 0#32
  let c9_i32_15 : BitVec 32 := 9#32
  let v47 : BitVec 32 := Scalar.addi c0_i32_14 c9_i32_15
  let c1_i32_16 : BitVec 32 := 1#32
  ⟨c0_i32_14, v47, c1_i32_16⟩
def k0_mult3 (i : grid0.Coords) (k0_t3 : Fin k0_t3_loop.trips) : BitVec 32 :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let c0_i32_24 : BitVec 32 := 0#32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  v61
def k0_mult4 (i : grid0.Coords) (k0_t3 : Fin k0_t3_loop.trips) : BitVec 32 :=
  let arg1 : BitVec 32 := BitVec.ofNat 32 (i 1).val
  let c0_i32_29 : BitVec 32 := 0#32
  let v63 : BitVec 1 := Scalar.cmpi .eq arg1 c0_i32_29
  let c0_i32_14 : BitVec 32 := 0#32
  let c1_i32_16 : BitVec 32 := 1#32
  let arg17 : BitVec 32 := Scf.iv c0_i32_14 c1_i32_16 k0_t3
  let c2_i32_25 : BitVec 32 := 2#32
  let v54 : BitVec 32 := Scalar.muli arg17 c2_i32_25
  let c1_i32_26 : BitVec 32 := 1#32
  let v55 : BitVec 32 := Scalar.addi v54 c1_i32_26
  let c16_i32_30 : BitVec 32 := 16#32
  let v64 : BitVec 32 := Scalar.addi v55 c16_i32_30
  let c18_i32_31 : BitVec 32 := 18#32
  let v65 : BitVec 32 := Scalar.remsi v64 c18_i32_31
  let c17_i32_32 : BitVec 32 := 17#32
  let v66 : BitVec 32 := Scalar.subi c17_i32_32 v55
  let v67 : BitVec 32 := Scalar.select v63 v65 v66
  let c128_i32_33 : BitVec 32 := 128#32
  let v68 : BitVec 32 := Scalar.muli v67 c128_i32_33
  v68
def k0_off7 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v70 : Index := Scalar.indexCast v62
  let c0_34 : Index := 0#32
  ![v70.toNat, 0]
def k0_off8 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v114 : Index := Scalar.indexCast v62
  let c0_47 : Index := 0#32
  ![v114.toNat, 0]
def k0_off9 (k0_t3 : Fin k0_t3_loop.trips) (c0_i32_24 : BitVec 32) : Fin 5 → Nat :=
  let c0_51 : Index := 0#32
  let c0_52 : Index := 0#32
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let v122 : Index := Scalar.indexCast v53
  let c0_53 : Index := 0#32
  let c0_54 : Index := 0#32
  ![0, 0, v122.toNat, 0, 0]
def k0_off10 (k0_t3 : Fin k0_t3_loop.trips) (c0_i32_24 : BitVec 32) : Fin 3 → Nat :=
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let v128 : Index := Scalar.indexCast v53
  let c0_59 : Index := 0#32
  let c0_60 : Index := 0#32
  ![v128.toNat, 0, 0]
def k0_cond1 (i : grid0.Coords) : BitVec 1 :=
  let arg1 : BitVec 32 := BitVec.ofNat 32 (i 1).val
  let c0_i32_109 : BitVec 32 := 0#32
  let v284 : BitVec 1 := Scalar.cmpi .eq arg1 c0_i32_109
  let v285 : BitVec 32 := Scalar.extui v284
  let c0_i32_110 : BitVec 32 := 0#32
  let v286 : BitVec 1 := Scalar.cmpi .ne v285 c0_i32_110
  v286

def k0_off11 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v291 : Index := Scalar.indexCast v62
  let c0_113 : Index := 0#32
  ![v291.toNat, 0]
def k0_off12 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v297 : Index := Scalar.indexCast v62
  let c0_115 : Index := 0#32
  ![v297.toNat, 0]
def k0_cond2 (i : grid0.Coords) : BitVec 1 :=
  let arg1 : BitVec 32 := BitVec.ofNat 32 (i 1).val
  let c1_i32_111 : BitVec 32 := 1#32
  let v287 : BitVec 1 := Scalar.cmpi .eq arg1 c1_i32_111
  let v288 : BitVec 32 := Scalar.extui v287
  let c0_i32_112 : BitVec 32 := 0#32
  let v289 : BitVec 1 := Scalar.cmpi .ne v288 c0_i32_112
  v289

def k0_off13 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v290 : Index := Scalar.indexCast v62
  let c0_113 : Index := 0#32
  ![v290.toNat, 0]
def k0_off14 (i : grid0.Coords) (k0_t3 : Fin k0_t3_loop.trips) (c0_i32_24 : BitVec 32) : Fin 2 → Nat :=
  let arg1 : BitVec 32 := BitVec.ofNat 32 (i 1).val
  let c0_i32_27 : BitVec 32 := 0#32
  let v56 : BitVec 1 := Scalar.cmpi .eq arg1 c0_i32_27
  let c0_i32_14 : BitVec 32 := 0#32
  let c1_i32_16 : BitVec 32 := 1#32
  let arg17 : BitVec 32 := Scf.iv c0_i32_14 c1_i32_16 k0_t3
  let c2_i32 : BitVec 32 := 2#32
  let v52 : BitVec 32 := Scalar.muli arg17 c2_i32
  let v53 : BitVec 32 := Scalar.addi v52 c0_i32_24
  let c16_i32 : BitVec 32 := 16#32
  let v57 : BitVec 32 := Scalar.addi v53 c16_i32
  let c18_i32_28 : BitVec 32 := 18#32
  let v58 : BitVec 32 := Scalar.remsi v57 c18_i32_28
  let c17_i32 : BitVec 32 := 17#32
  let v59 : BitVec 32 := Scalar.subi c17_i32 v53
  let v60 : BitVec 32 := Scalar.select v56 v58 v59
  let c128_i32 : BitVec 32 := 128#32
  let v61 : BitVec 32 := Scalar.muli v60 c128_i32
  let v62 : BitVec 32 := v61
  let v306 : Index := Scalar.indexCast v62
  let c0_117 : Index := 0#32
  ![v306.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x18x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2304x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2304x14336 : Shape := ⟨2, ![2304, 14336]⟩
abbrev S2x8 : Shape := ⟨2, ![2, 8]⟩
abbrev S2304x2048 : Shape := ⟨2, ![2304, 2048]⟩
abbrev S2304x1024 : Shape := ⟨2, ![2304, 1024]⟩
abbrev S32x64 : Shape := ⟨2, ![32, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2304x8x128 : Shape := ⟨3, ![2304, 8, 128]⟩
abbrev S8x2304x128 : Shape := ⟨3, ![8, 2304, 128]⟩
abbrev S8x2048x128 : Shape := ⟨3, ![8, 2048, 128]⟩
abbrev S8x2048x64 : Shape := ⟨3, ![8, 2048, 64]⟩
abbrev S1x2048x64 : Shape := ⟨3, ![1, 2048, 64]⟩
abbrev S8x256x128 : Shape := ⟨3, ![8, 256, 128]⟩
abbrev S2304x8x256 : Shape := ⟨3, ![2304, 8, 256]⟩
abbrev S8x2304x256 : Shape := ⟨3, ![8, 2304, 256]⟩
abbrev S2304 : Shape := ⟨1, ![2304]⟩
abbrev S1x8 : Shape := ⟨2, ![1, 8]⟩
abbrev S8 : Shape := ⟨1, ![8]⟩
abbrev S2304x1 : Shape := ⟨2, ![2304, 1]⟩
abbrev S1x2304 : Shape := ⟨2, ![1, 2304]⟩
abbrev S2304x2304 : Shape := ⟨2, ![2304, 2304]⟩
abbrev S8x1x1 : Shape := ⟨3, ![8, 1, 1]⟩
abbrev S1x2304x2304 : Shape := ⟨3, ![1, 2304, 2304]⟩
abbrev S8x2304x2304 : Shape := ⟨3, ![8, 2304, 2304]⟩
abbrev S8x256x2304 : Shape := ⟨3, ![8, 256, 2304]⟩

abbrev nBuf : Space → Nat
  | .hbm => 234
  | .vmem => 0
  | .smem => 0
  | _ => 0

abbrev hbmTy0_0 (i : Nat) : BufTy := match i % 128 with
  | 0 => ⟨S2304x14336, .bf16⟩
  | 1 => ⟨S2x8, .f32⟩
  | 2 => ⟨S2304x2048, .bf16⟩
  | 3 => ⟨S2304x1024, .bf16⟩
  | 4 => ⟨S2304x1024, .f32⟩
  | 5 => ⟨S2304x1024, .bf16⟩
  | 6 => ⟨S2304x1024, .f32⟩
  | 7 => ⟨S2304x2048, .bf16⟩
  | 8 => ⟨S2304x2048, .f32⟩
  | 9 => ⟨S32x64, .f32⟩
  | 10 => ⟨S2048, .f32⟩
  | 11 => ⟨S32x64, .f32⟩
  | 12 => ⟨S2048, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x64, .f32⟩
  | 32 => ⟨S2048x64, .f32⟩
  | 33 => ⟨S2048x64, .f32⟩
  | 34 => ⟨S2304x8x128, .f32⟩
  | 35 => ⟨S8x2304x128, .f32⟩
  | 36 => ⟨S8x2048x128, .f32⟩
  | 37 => ⟨S8x2048x64, .f32⟩
  | 38 => ⟨S8x2048x64, .f32⟩
  | 39 => ⟨S1x2048x64, .f32⟩
  | 40 => ⟨S8x2048x64, .f32⟩
  | 41 => ⟨S8x2048x64, .f32⟩
  | 42 => ⟨S1x2048x64, .f32⟩
  | 43 => ⟨S8x2048x64, .f32⟩
  | 44 => ⟨S8x2048x64, .f32⟩
  | 45 => ⟨S8x2048x64, .f32⟩
  | 46 => ⟨S1x2048x64, .f32⟩
  | 47 => ⟨S8x2048x64, .f32⟩
  | 48 => ⟨S8x2048x64, .f32⟩
  | 49 => ⟨S1x2048x64, .f32⟩
  | 50 => ⟨S8x2048x64, .f32⟩
  | 51 => ⟨S8x2048x64, .f32⟩
  | 52 => ⟨S8x2048x64, .f32⟩
  | 53 => ⟨S8x2048x128, .f32⟩
  | 54 => ⟨S8x256x128, .f32⟩
  | 55 => ⟨S8x2304x128, .f32⟩
  | 56 => ⟨S2304x8x128, .f32⟩
  | 57 => ⟨S8x2304x128, .f32⟩
  | 58 => ⟨S8x2048x128, .f32⟩
  | 59 => ⟨S8x2048x64, .f32⟩
  | 60 => ⟨S8x2048x64, .f32⟩
  | 61 => ⟨S1x2048x64, .f32⟩
  | 62 => ⟨S8x2048x64, .f32⟩
  | 63 => ⟨S8x2048x64, .f32⟩
  | 64 => ⟨S1x2048x64, .f32⟩
  | 65 => ⟨S8x2048x64, .f32⟩
  | 66 => ⟨S8x2048x64, .f32⟩
  | 67 => ⟨S8x2048x64, .f32⟩
  | 68 => ⟨S1x2048x64, .f32⟩
  | 69 => ⟨S8x2048x64, .f32⟩
  | 70 => ⟨S8x2048x64, .f32⟩
  | 71 => ⟨S1x2048x64, .f32⟩
  | 72 => ⟨S8x2048x64, .f32⟩
  | 73 => ⟨S8x2048x64, .f32⟩
  | 74 => ⟨S8x2048x64, .f32⟩
  | 75 => ⟨S8x2048x128, .f32⟩
  | 76 => ⟨S8x256x128, .f32⟩
  | 77 => ⟨S8x2304x128, .f32⟩
  | 78 => ⟨S_, .f32⟩
  | 79 => ⟨S8x2304x128, .f32⟩
  | 80 => ⟨S8x2304x128, .f32⟩
  | 81 => ⟨S2304x8x256, .f32⟩
  | 82 => ⟨S8x2304x256, .f32⟩
  | 83 => ⟨S2304, .f32⟩
  | 84 => ⟨S_, .f32⟩
  | 85 => ⟨S2304, .f32⟩
  | 86 => ⟨S2304, .i1⟩
  | 87 => ⟨S_, .f32⟩
  | 88 => ⟨S2304, .f32⟩
  | 89 => ⟨S2304, .f32⟩
  | 90 => ⟨S_, .f32⟩
  | 91 => ⟨S2304, .f32⟩
  | 92 => ⟨S2304, .f32⟩
  | 93 => ⟨S2304, .f32⟩
  | 94 => ⟨S_, .f32⟩
  | 95 => ⟨S2304, .f32⟩
  | 96 => ⟨S2304, .f32⟩
  | 97 => ⟨S1x8, .f32⟩
  | 98 => ⟨S8, .f32⟩
  | 99 => ⟨S2304x1, .f32⟩
  | 100 => ⟨S1x2304, .f32⟩
  | 101 => ⟨S2304x2304, .f32⟩
  | 102 => ⟨S2304x2304, .f32⟩
  | 103 => ⟨S2304x2304, .f32⟩
  | 104 => ⟨S_, .f32⟩
  | 105 => ⟨S2304x2304, .f32⟩
  | 106 => ⟨S2304x2304, .i1⟩
  | 107 => ⟨S_, .f32⟩
  | 108 => ⟨S2304x2304, .f32⟩
  | 109 => ⟨S2304x2304, .f32⟩
  | 110 => ⟨S8x1x1, .f32⟩
  | 111 => ⟨S1x2304x2304, .f32⟩
  | 112 => ⟨S8x2304x2304, .f32⟩
  | 113 => ⟨S8x2304x2304, .f32⟩
  | 114 => ⟨S8x2304x2304, .f32⟩
  | 115 => ⟨S8x2304x2304, .f32⟩
  | 116 => ⟨S_, .f32⟩
  | 117 => ⟨S_, .f32⟩
  | 118 => ⟨S8x2304x2304, .i1⟩
  | 119 => ⟨S8x2304x2304, .f32⟩
  | 120 => ⟨S8x2304x2304, .f32⟩
  | 121 => ⟨S8x2304x2304, .f32⟩
  | 122 => ⟨S8x2304x2304, .f32⟩
  | 123 => ⟨S8x2304x256, .f32⟩
  | 124 => ⟨S1x8, .f32⟩
  | 125 => ⟨S8, .f32⟩
  | 126 => ⟨S2304x1, .f32⟩
  | 127 => ⟨S1x2304, .f32⟩
  | _ => ⟨S2304x14336, .bf16⟩

abbrev hbmTy0_1 (i : Nat) : BufTy := match i % 128 with
  | 0 => ⟨S2304x2304, .f32⟩
  | 1 => ⟨S2304x2304, .f32⟩
  | 2 => ⟨S2304x2304, .f32⟩
  | 3 => ⟨S_, .f32⟩
  | 4 => ⟨S2304x2304, .f32⟩
  | 5 => ⟨S2304x2304, .i1⟩
  | 6 => ⟨S_, .f32⟩
  | 7 => ⟨S2304x2304, .f32⟩
  | 8 => ⟨S2304x2304, .f32⟩
  | 9 => ⟨S8x1x1, .f32⟩
  | 10 => ⟨S1x2304x2304, .f32⟩
  | 11 => ⟨S8x2304x2304, .f32⟩
  | 12 => ⟨S8x2304x2304, .f32⟩
  | 13 => ⟨S8x2304x2304, .f32⟩
  | 14 => ⟨S8x2304x2304, .f32⟩
  | 15 => ⟨S_, .f32⟩
  | 16 => ⟨S_, .f32⟩
  | 17 => ⟨S8x2304x2304, .i1⟩
  | 18 => ⟨S8x2304x2304, .f32⟩
  | 19 => ⟨S8x2304x2304, .f32⟩
  | 20 => ⟨S8x2304x2304, .f32⟩
  | 21 => ⟨S8x2304x2304, .f32⟩
  | 22 => ⟨S8x2304x256, .f32⟩
  | 23 => ⟨S8x2304x256, .f32⟩
  | 24 => ⟨S2304x8x256, .f32⟩
  | 25 => ⟨S2304x2048, .f32⟩
  | 26 => ⟨S2304x2048, .f32⟩
  | 27 => ⟨S2304x8x256, .f32⟩
  | 28 => ⟨S8x2304x256, .f32⟩
  | 29 => ⟨S8x256x2304, .f32⟩
  | 30 => ⟨S8x2304x256, .f32⟩
  | 31 => ⟨S8x2304x2304, .f32⟩
  | 32 => ⟨S8x2304x2304, .f32⟩
  | 33 => ⟨S8x2304x128, .f32⟩
  | 34 => ⟨S8x2304x128, .f32⟩
  | 35 => ⟨S8x256x2304, .f32⟩
  | 36 => ⟨S8x2304x256, .f32⟩
  | 37 => ⟨S8x2304x256, .f32⟩
  | 38 => ⟨S8x2304x2304, .f32⟩
  | 39 => ⟨S8x2304x2304, .f32⟩
  | 40 => ⟨S8x2304x128, .f32⟩
  | 41 => ⟨S8x2304x128, .f32⟩
  | 42 => ⟨S8x2304x128, .f32⟩
  | 43 => ⟨S8x2304x128, .f32⟩
  | 44 => ⟨S2304x8x256, .f32⟩
  | 45 => ⟨S2304x2048, .f32⟩
  | 46 => ⟨S_, .f32⟩
  | 47 => ⟨S8x2304x128, .f32⟩
  | 48 => ⟨S8x2304x128, .f32⟩
  | 49 => ⟨S8x2048x128, .f32⟩
  | 50 => ⟨S8x256x128, .f32⟩
  | 51 => ⟨S_, .f32⟩
  | 52 => ⟨S8x2304x128, .f32⟩
  | 53 => ⟨S8x2048x64, .f32⟩
  | 54 => ⟨S8x2048x64, .f32⟩
  | 55 => ⟨S8x2048x64, .f32⟩
  | 56 => ⟨S8x2048x64, .f32⟩
  | 57 => ⟨S8x2048x64, .f32⟩
  | 58 => ⟨S8x2048x64, .f32⟩
  | 59 => ⟨S8x2048x64, .f32⟩
  | 60 => ⟨S8x2048x64, .f32⟩
  | 61 => ⟨S8x2048x64, .f32⟩
  | 62 => ⟨S8x2048x64, .f32⟩
  | 63 => ⟨S8x2048x64, .f32⟩
  | 64 => ⟨S8x2048x64, .f32⟩
  | 65 => ⟨S8x2048x64, .f32⟩
  | 66 => ⟨S_, .f32⟩
  | 67 => ⟨S8x2048x128, .f32⟩
  | 68 => ⟨S_, .f32⟩
  | 69 => ⟨S8x2048x128, .f32⟩
  | 70 => ⟨S8x2048x128, .f32⟩
  | 71 => ⟨S_, .f32⟩
  | 72 => ⟨S8x2304x128, .f32⟩
  | 73 => ⟨S8x2304x128, .f32⟩
  | 74 => ⟨S2304x8x128, .f32⟩
  | 75 => ⟨S2304x1024, .f32⟩
  | 76 => ⟨S8x2048x128, .f32⟩
  | 77 => ⟨S8x256x128, .f32⟩
  | 78 => ⟨S_, .f32⟩
  | 79 => ⟨S8x2304x128, .f32⟩
  | 80 => ⟨S8x2048x64, .f32⟩
  | 81 => ⟨S8x2048x64, .f32⟩
  | 82 => ⟨S8x2048x64, .f32⟩
  | 83 => ⟨S8x2048x64, .f32⟩
  | 84 => ⟨S8x2048x64, .f32⟩
  | 85 => ⟨S8x2048x64, .f32⟩
  | 86 => ⟨S8x2048x64, .f32⟩
  | 87 => ⟨S8x2048x64, .f32⟩
  | 88 => ⟨S8x2048x64, .f32⟩
  | 89 => ⟨S8x2048x64, .f32⟩
  | 90 => ⟨S8x2048x64, .f32⟩
  | 91 => ⟨S8x2048x64, .f32⟩
  | 92 => ⟨S8x2048x64, .f32⟩
  | 93 => ⟨S_, .f32⟩
  | 94 => ⟨S8x2048x128, .f32⟩
  | 95 => ⟨S_, .f32⟩
  | 96 => ⟨S8x2048x128, .f32⟩
  | 97 => ⟨S8x2048x128, .f32⟩
  | 98 => ⟨S_, .f32⟩
  | 99 => ⟨S8x2304x128, .f32⟩
  | 100 => ⟨S8x2304x128, .f32⟩
  | 101 => ⟨S2304x8x128, .f32⟩
  | 102 => ⟨S2304x1024, .f32⟩
  | 103 => ⟨S2304x1024, .bf16⟩
  | 104 => ⟨S2304x1024, .bf16⟩
  | 105 => ⟨S2304x2048, .bf16⟩
  | _ => ⟨S2304x14336, .bf16⟩

abbrev hbmTy (i : Nat) : BufTy := match i / 128 with
  | 0 => hbmTy0_0 i
  | 1 => hbmTy0_1 i
  | _ => ⟨S2304x14336, .bf16⟩

abbrev bufTy : (tb : Table) → Fin (tcTables nBuf tb) → BufTy
  | .hbm, ⟨i, _⟩ => hbmTy i
  | _, _ => ⟨S2304x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_cst_1 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst_2 : Ref sig .tc := ⟨.hbm, 84, rfl⟩
abbrev main_v78 : Ref sig .tc := ⟨.hbm, 85, rfl⟩
abbrev main_v79 : Ref sig .tc := ⟨.hbm, 86, rfl⟩
abbrev main_cst_3 : Ref sig .tc := ⟨.hbm, 87, rfl⟩
abbrev main_v80 : Ref sig .tc := ⟨.hbm, 88, rfl⟩
abbrev main_v81 : Ref sig .tc := ⟨.hbm, 89, rfl⟩
abbrev main_cst_4 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_cst_7 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_8 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_9 : Ref sig .tc := ⟨.hbm, 131, rfl⟩
abbrev main_v115 : Ref sig .tc := ⟨.hbm, 132, rfl⟩
abbrev main_v116 : Ref sig .tc := ⟨.hbm, 133, rfl⟩
abbrev main_cst_10 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_cst_11 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_cst_12 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_13 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_cst_14 : Ref sig .tc := ⟨.hbm, 194, rfl⟩
abbrev main_v170 : Ref sig .tc := ⟨.hbm, 195, rfl⟩
abbrev main_cst_15 : Ref sig .tc := ⟨.hbm, 196, rfl⟩
abbrev main_v171 : Ref sig .tc := ⟨.hbm, 197, rfl⟩
abbrev main_v172 : Ref sig .tc := ⟨.hbm, 198, rfl⟩
abbrev main_cst_16 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_cst_17 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_18 : Ref sig .tc := ⟨.hbm, 221, rfl⟩
abbrev main_v193 : Ref sig .tc := ⟨.hbm, 222, rfl⟩
abbrev main_cst_19 : Ref sig .tc := ⟨.hbm, 223, rfl⟩
abbrev main_v194 : Ref sig .tc := ⟨.hbm, 224, rfl⟩
abbrev main_v195 : Ref sig .tc := ⟨.hbm, 225, rfl⟩
abbrev main_cst_20 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩

abbrev nD : Nat := 1
abbrev τ : Topo := Topo.v7x

variable {F : FTy → Type} [FloatOps F]
-- ==== Kernel2.lean ====
abbrev S2304x2048 : Shape := ⟨2, ![2304, 2048]⟩
abbrev S2304x14336 : Shape := ⟨2, ![2304, 14336]⟩
abbrev S2048x14336 : Shape := ⟨2, ![2048, 14336]⟩
abbrev S2304x1024 : Shape := ⟨2, ![2304, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x14336, .bf16⟩
  | .hbm, ⟨2, _⟩ => ⟨S2048x14336, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2304x2048 : Shape := ⟨2, ![2304, 2048]⟩
abbrev S2304x14336 : Shape := ⟨2, ![2304, 14336]⟩
abbrev S_ : Shape := ⟨0, ![]⟩
abbrev S2048x14336 : Shape := ⟨2, ![2048, 14336]⟩
abbrev S14336x2048 : Shape := ⟨2, ![14336, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x14336, .bf16⟩
  | .hbm, ⟨2, _⟩ => ⟨S_, .f32⟩
  | .hbm, ⟨3, _⟩ => ⟨S2048x14336, .f32⟩
  | .hbm, ⟨4, _⟩ => ⟨S2304x2048, .f32⟩
  | .hbm, ⟨5, _⟩ => ⟨S2304x14336, .f32⟩
  | .hbm, ⟨6, _⟩ => ⟨S2304x14336, .f32⟩
  | .hbm, ⟨7, _⟩ => ⟨S14336x2048, .f32⟩
  | .hbm, ⟨8, _⟩ => ⟨S2048x14336, .f32⟩
  | .hbm, ⟨9, _⟩ => ⟨S2048x14336, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2304x14336 : Shape := ⟨2, ![2304, 14336]⟩
abbrev S2048x14336 : Shape := ⟨2, ![2048, 14336]⟩
abbrev S2304x2048 : Shape := ⟨2, ![2304, 2048]⟩
abbrev S1152x2048 : Shape := ⟨2, ![1152, 2048]⟩
abbrev S1024x2048 : Shape := ⟨2, ![1024, 2048]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x14336, .bf16⟩
  | .hbm, ⟨1, _⟩ => ⟨S2048x14336, .bf16⟩
  | .hbm, ⟨2, _⟩ => ⟨S2304x2048, .f32⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2304x14336 : Shape := ⟨2, ![2304, 14336]⟩
abbrev S2048x14336 : Shape := ⟨2, ![2048, 14336]⟩
abbrev S_ : Shape := ⟨0, ![]⟩
abbrev S2304x2048 : Shape := ⟨2, ![2304, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x14336, .bf16⟩
  | .hbm, ⟨1, _⟩ => ⟨S2048x14336, .bf16⟩
  | .hbm, ⟨2, _⟩ => ⟨S_, .f32⟩
  | .hbm, ⟨3, _⟩ => ⟨S2304x2048, .f32⟩
  | .hbm, ⟨4, _⟩ => ⟨S2048x14336, .f32⟩
  | .hbm, ⟨5, _⟩ => ⟨S2304x14336, .f32⟩
  | .hbm, ⟨6, _⟩ => ⟨S2304x14336, .f32⟩
  | .hbm, ⟨7, _⟩ => ⟨S2304x2048, .f32⟩
  | _, _ => ⟨S2304x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2304x2048 : Shape := ⟨2, ![2304, 2048]⟩
abbrev S2048x14336 : Shape := ⟨2, ![2048, 14336]⟩
abbrev S2304x14336 : Shape := ⟨2, ![2304, 14336]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x14336, .bf16⟩
  | .hbm, ⟨2, _⟩ => ⟨S2304x14336, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2304x2048 : Shape := ⟨2, ![2304, 2048]⟩
abbrev S2048x14336 : Shape := ⟨2, ![2048, 14336]⟩
abbrev S2304x14336 : Shape := ⟨2, ![2304, 14336]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x14336, .bf16⟩
  | .hbm, ⟨2, _⟩ => ⟨S2304x2048, .f32⟩
  | .hbm, ⟨3, _⟩ => ⟨S2048x14336, .f32⟩
  | .hbm, ⟨4, _⟩ => ⟨S2304x14336, .f32⟩
  | .hbm, ⟨5, _⟩ => ⟨S2304x14336, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2304x1024 : Shape := ⟨2, ![2304, 1024]⟩
abbrev S1024x2048 : Shape := ⟨2, ![1024, 2048]⟩
abbrev S2304x2048 : Shape := ⟨2, ![2304, 2048]⟩
abbrev S1152x1024 : Shape := ⟨2, ![1152, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x2048, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x1024 : Shape := ⟨2, ![2304, 1024]⟩
abbrev S1024x2048 : Shape := ⟨2, ![1024, 2048]⟩
abbrev S2304x2048 : Shape := ⟨2, ![2304, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x1024, .f32⟩
  | .hbm, ⟨3, _⟩ => ⟨S1024x2048, .f32⟩
  | .hbm, ⟨4, _⟩ => ⟨S2304x2048, .f32⟩
  | .hbm, ⟨5, _⟩ => ⟨S2304x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S2304x2048 : Shape := ⟨2, ![2304, 2048]⟩
abbrev S1024x2048 : Shape := ⟨2, ![1024, 2048]⟩
abbrev S2304x1024 : Shape := ⟨2, ![2304, 1024]⟩
abbrev S1152x2048 : Shape := ⟨2, ![1152, 2048]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S2304x1024, .bf16⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1152x1024, .bf16⟩
  | .local _ .vmem, ⟨4, _⟩ => ⟨S1152x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x2048 : Shape := ⟨2, ![2304, 2048]⟩
abbrev S1024x2048 : Shape := ⟨2, ![1024, 2048]⟩
abbrev S_ : Shape := ⟨0, ![]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S_, .f32⟩
  | .hbm, ⟨3, _⟩ => ⟨S2304x1024, .f32⟩
  | .hbm, ⟨4, _⟩ => ⟨S1024x2048, .f32⟩
  | .hbm, ⟨5, _⟩ => ⟨S2304x2048, .f32⟩
  | .hbm, ⟨6, _⟩ => ⟨S2304x2048, .f32⟩
  | .hbm, ⟨7, _⟩ => ⟨S2304x1024, .f32⟩
  | .hbm, ⟨8, _⟩ => ⟨S2304x1024, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2304x1024 : Shape := ⟨2, ![2304, 1024]⟩
abbrev S2304x2048 : Shape := ⟨2, ![2304, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S1024x2048, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1024x1024, .bf16⟩
  | .local _ .vmem, ⟨4, _⟩ => ⟨S1024x1024, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x1024 : Shape := ⟨2, ![2304, 1024]⟩
abbrev S2304x2048 : Shape := ⟨2, ![2304, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S_, .f32⟩
  | .hbm, ⟨3, _⟩ => ⟨S1024x2048, .f32⟩
  | .hbm, ⟨4, _⟩ => ⟨S2304x1024, .f32⟩
  | .hbm, ⟨5, _⟩ => ⟨S2304x2048, .f32⟩
  | .hbm, ⟨6, _⟩ => ⟨S2304x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2304x2048 : Shape := ⟨2, ![2304, 2048]⟩
abbrev S2048x2048 : Shape := ⟨2, ![2048, 2048]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x2048 : Shape := ⟨2, ![2304, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | .hbm, ⟨5, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2304x2048 : Shape := ⟨2, ![2304, 2048]⟩
abbrev S2048x2048 : Shape := ⟨2, ![2048, 2048]⟩
abbrev S1152x2048 : Shape := ⟨2, ![1152, 2048]⟩
abbrev S1024x2048 : Shape := ⟨2, ![1024, 2048]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .local _ .vmem, ⟨0, _⟩ => ⟨S1152x2048, .bf16⟩
  | .local _ .vmem, ⟨1, _⟩ => ⟨S1152x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1152x1024, .bf16⟩
  | .local _ .vmem, ⟨5, _⟩ => ⟨S1152x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S_, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2304x2048 : Shape := ⟨2, ![2304, 2048]⟩
abbrev S2048x2048 : Shape := ⟨2, ![2048, 2048]⟩
abbrev S2304x1024 : Shape := ⟨2, ![2304, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2048x2048, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S_, .f32⟩
  | .hbm, ⟨3, _⟩ => ⟨S2048x2048, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2304x2048 : Shape := ⟨2, ![2304, 2048]⟩
abbrev S2048x2048 : Shape := ⟨2, ![2048, 2048]⟩
abbrev S1152x2048 : Shape := ⟨2, ![1152, 2048]⟩
abbrev S2048x1024 : Shape := ⟨2, ![2048, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2304x2048 : Shape := ⟨2, ![2304, 2048]⟩
abbrev S2304x14336 : Shape := ⟨2, ![2304, 14336]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x2048, .bf16⟩
  | .hbm, ⟨3, _⟩ => ⟨S2304x14336, .bf16⟩
  | .hbm, ⟨4, _⟩ => ⟨S2304x2048, .bf16⟩
  | .hbm, ⟨5, _⟩ => ⟨S2304x2048, .bf16⟩
  | .hbm, ⟨6, _⟩ => ⟨S2304x2048, .bf16⟩
  | .hbm, ⟨7, _⟩ => ⟨S2304x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S2304x2048 : Shape := ⟨2, ![2304, 2048]⟩
abbrev S2304x14336 : Shape := ⟨2, ![2304, 14336]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x2048, .bf16⟩
  | .hbm, ⟨3, _⟩ => ⟨S2304x14336, .bf16⟩
  | .hbm, ⟨4, _⟩ => ⟨S2304x2048, .f32⟩
  | .hbm, ⟨5, _⟩ => ⟨S2304x2048, .f32⟩
  | .hbm, ⟨6, _⟩ => ⟨S2304x2048, .bf16⟩
  | .hbm, ⟨7, _⟩ => ⟨S2304x2048, .f32⟩
  | .hbm, ⟨8, _⟩ => ⟨S2304x2048, .bf16⟩
  | .hbm, ⟨9, _⟩ => ⟨S2304x2048, .f32⟩
  | .hbm, ⟨10, _⟩ => ⟨S2304x2048, .f32⟩
  | .hbm, ⟨11, _⟩ => ⟨S2304x2048, .f32⟩
  | .hbm, ⟨12, _⟩ => ⟨S_, .f32⟩
  | .hbm, ⟨13, _⟩ => ⟨S2304x2048, .f32⟩
  | .hbm, ⟨14, _⟩ => ⟨S2304x2048, .f32⟩
  | .hbm, ⟨15, _⟩ => ⟨S_, .f32⟩
  | .hbm, ⟨16, _⟩ => ⟨S2304x2048, .f32⟩
  | .hbm, ⟨17, _⟩ => ⟨S2304x2048, .f32⟩
  | .hbm, ⟨18, _⟩ => ⟨S_, .f32⟩
  | .hbm, ⟨19, _⟩ => ⟨S2304x2048, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .f32⟩
  | .hbm, ⟨25, _⟩ => ⟨S_, .f32⟩
  | .hbm, ⟨26, _⟩ => ⟨S2304x2048, .f32⟩
  | .hbm, ⟨27, _⟩ => ⟨S2304x2048, .f32⟩
  | .hbm, ⟨28, _⟩ => ⟨S_, .f32⟩
  | .hbm, ⟨29, _⟩ => ⟨S2304x2048, .f32⟩
  | .hbm, ⟨30, _⟩ => ⟨S2304x2048, .f32⟩
  | .hbm, ⟨31, _⟩ => ⟨S_, .f32⟩
  | .hbm, ⟨32, _⟩ => ⟨S2304x2048, .f32⟩
  | .hbm, ⟨33, _⟩ => ⟨S2304x2048, .f32⟩
  | .hbm, ⟨34, _⟩ => ⟨S2304x2048, .f32⟩
  | .hbm, ⟨35, _⟩ => ⟨S2304x2048, .f32⟩
  | .hbm, ⟨36, _⟩ => ⟨S2304x2048, .f32⟩
  | .hbm, ⟨37, _⟩ => ⟨S2304x2048, .f32⟩
  | .hbm, ⟨38, _⟩ => ⟨S2304x2048, .f32⟩
  | .hbm, ⟨39, _⟩ => ⟨S2304x2048, .f32⟩
  | .hbm, ⟨40, _⟩ => ⟨S2304x2048, .f32⟩
  | .hbm, ⟨41, _⟩ => ⟨S2304x2048, .f32⟩
  | .hbm, ⟨42, _⟩ => ⟨S2304x2048, .f32⟩
  | .hbm, ⟨43, _⟩ => ⟨S2304x2048, .f32⟩
  | .hbm, ⟨44, _⟩ => ⟨S2304x2048, .bf16⟩
  | .hbm, ⟨45, _⟩ => ⟨S2304x2048, .bf16⟩
  | .hbm, ⟨46, _⟩ => ⟨S2304x2048, .bf16⟩
  | .hbm, ⟨47, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel13.lean ====
abbrev S2304x2048 : Shape := ⟨2, ![2304, 2048]⟩
abbrev S2304x14336 : Shape := ⟨2, ![2304, 14336]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x14336, .bf16⟩
  | .hbm, ⟨3, _⟩ => ⟨S2304x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2304x2048 : Shape := ⟨2, ![2304, 2048]⟩
abbrev S2304x14336 : Shape := ⟨2, ![2304, 14336]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x14336, .bf16⟩
  | .hbm, ⟨3, _⟩ => ⟨S2304x2048, .f32⟩
  | .hbm, ⟨4, _⟩ => ⟨S2304x2048, .f32⟩
  | .hbm, ⟨5, _⟩ => ⟨S2304x2048, .bf16⟩
  | .hbm, ⟨6, _⟩ => ⟨S2304x2048, .f32⟩
  | .hbm, ⟨7, _⟩ => ⟨S2304x2048, .bf16⟩
  | .hbm, ⟨8, _⟩ => ⟨S2304x2048, .f32⟩
  | .hbm, ⟨9, _⟩ => ⟨S2304x2048, .f32⟩
  | .hbm, ⟨10, _⟩ => ⟨S2304x2048, .f32⟩
  | .hbm, ⟨11, _⟩ => ⟨S_, .f32⟩
  | .hbm, ⟨12, _⟩ => ⟨S2304x2048, .f32⟩
  | .hbm, ⟨13, _⟩ => ⟨S2304x2048, .f32⟩
  | .hbm, ⟨14, _⟩ => ⟨S_, .f32⟩
  | .hbm, ⟨15, _⟩ => ⟨S2304x2048, .f32⟩
  | .hbm, ⟨16, _⟩ => ⟨S2304x2048, .f32⟩
  | .hbm, ⟨17, _⟩ => ⟨S2304x2048, .f32⟩
  | .hbm, ⟨18, _⟩ => ⟨S2304x2048, .f32⟩
  | .hbm, ⟨19, _⟩ => ⟨S2304x2048, .f32⟩
  | .hbm, ⟨20, _⟩ => ⟨S_, .f32⟩
  | .hbm, ⟨21, _⟩ => ⟨S2304x2048, .f32⟩
  | .hbm, ⟨22, _⟩ => ⟨S2304x2048, .f32⟩
  | .hbm, ⟨23, _⟩ => ⟨S_, .f32⟩
  | .hbm, ⟨24, _⟩ => ⟨S2304x2048, .f32⟩
  | .hbm, ⟨25, _⟩ => ⟨S2304x2048, .f32⟩
  | .hbm, ⟨26, _⟩ => ⟨S2304x2048, .f32⟩
  | .hbm, ⟨27, _⟩ => ⟨S2304x2048, .f32⟩
  | .hbm, ⟨28, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Blocks.lean ====
module

public import proofs.«01_k».proof.Proof.Gen.KernelIdeal.Loops
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! What one grid point `(head, direction)` of the backward retention kernel computes from its blocks, as pure functions.
A block of 2304 rows is cut into 18 chunks of 128 rows; position `t` of the recurrence visits chunk `ch i t`. -/

/-- The blocks of one grid point: the log decays, the head's columns of the queries, keys and values, the two rotary
tables, the states saved at the chunks' starts, and the head's columns of the result's cotangent. -/
structure Blk (F : FTy → Type) [FloatOps F] where
  lg : Vec F S2x8 .f32
  q : Vec F S2304x128 .bf16
  k : Vec F S2304x128 .bf16
  v : Vec F S2304x256 .bf16
  c : Vec F S2304x128 .f32
  s : Vec F S2304x128 .f32
  st : Vec F S1x1x18x128x256 .f32
  dO : Vec F S2304x256 .bf16

/-- Chunk `n` (128 rows) of a block of 2304 rows. -/
def rows {α : Type} {W : ℕ} (x : (⟨2, ![2304, W]⟩ : Shape).Idx → α) (n : Fin 18) : (⟨2, ![128, W]⟩ : Shape).Idx → α :=
  fun j => x (ix2 ⟨128 * n.val + (j 0).val, by
    have h0 : (j 0).val < 128 := (j 0).isLt
    have := n.isLt
    omega⟩ (j 1))

/-- Slab `t` of a stack of 18 states. -/
def slab {α : Type} (x : S18x128x256.Idx → α) (t : Fin 18) : S1x128x256.Idx → α := fun j => x (ix3 t (j 1) (j 2))

/-- Slab `t` of the saved states of one head and direction. -/
def slab5 {α : Type} (x : S1x1x18x128x256.Idx → α) (t : Fin 18) : S1x1x1x128x256.Idx → α :=
  fun j => x (ix5 (j 0) (j 1) t (j 3) (j 4))

/-- The chunk visited at position `t`: forward the two context chunks come first, backward all chunks in reverse. -/
def ch (i : grid0.Coords) (t : Fin 18) : Fin 18 :=
  ⟨if (i 1).val = 0 then (t.val + 16) % 18 else 17 - t.val, by split <;> omega⟩

/-- The position at which chunk `n` is visited. -/
def sl (i : grid0.Coords) (n : Fin 18) : Fin 18 :=
  ⟨if (i 1).val = 0 then (n.val + 2) % 18 else 17 - n.val, by split <;> omega⟩

theorem ch_sl (i : grid0.Coords) (n : Fin 18) : ch i (sl i n) = n := by
  apply Fin.ext
  have := n.isLt
  unfold ch sl
  dsimp only
  split <;> omega

theorem sl_ch (i : grid0.Coords) (t : Fin 18) : sl i (ch i t) = t := by
  apply Fin.ext
  have := t.isLt
  unfold ch sl
  dsimp only
  split <;> omega

/-- The head's log decay in this direction. -/
def lgv (i : grid0.Coords) (X : Blk F) : Elt F .f32 := X.lg (ix2 (i 1) (i 0))

/-- A chunk's part of the queries' gradient before rounding, from the chunk's data. -/
def dqF (v24 : FVec F S128x128 .f32) (v29 : FVec F S128x1 .f32) (c s : Vec F S128x128 .f32) (k : Vec F S128x128 .bf16)
    (v dO : Vec F S128x256 .bf16) (st : Vec F S1x1x1x128x256 .f32) : FVec F S128x128 .f32 :=
  k0_pay63 (k0_pay27 c) (k0_pay29 s) (k0_pay45 v29 dO (k0_pay35 st)) (k0_pay55 v24 (k0_pay33 (k0_pay27 c) (k0_pay29 s) k) v dO)

/-- A chunk's part of the keys' gradient before rounding, from the chunk's data. -/
def dkF (v24 : FVec F S128x128 .f32) (v34 : FVec F S128x1 .f32) (c s : Vec F S128x128 .f32) (q : Vec F S128x128 .bf16)
    (v dO : Vec F S128x256 .bf16) (ds : Vec F S1x128x256 .f32) : FVec F S128x128 .f32 :=
  k0_pay7 (k0_pay27 c) (k0_pay29 s) (k0_pay49 v34 v ds) (k0_pay57 (k0_pay39 (k0_pay31 c s q)) (k0_pay53 v24 v dO))

/-- A chunk's part of the values' gradient before rounding, from the chunk's data. -/
def dvF (v24 : FVec F S128x128 .f32) (v34 : FVec F S128x1 .f32) (c s : Vec F S128x128 .f32) (q k : Vec F S128x128 .bf16)
    (dO : Vec F S128x256 .bf16) (ds : Vec F S1x128x256 .f32) : FVec F S128x256 .f32 :=
  k0_pay9 (k0_pay47 v34 (k0_pay33 (k0_pay27 c) (k0_pay29 s) k) ds)
    (k0_pay59 dO (k0_pay51 v24 (k0_pay31 c s q) (k0_pay33 (k0_pay27 c) (k0_pay29 s) k)))

variable (i : grid0.Coords) (X : Blk F)

/-- The decay between two positions of a chunk. -/
def w24 : FVec F S128x128 .f32 := k0_pay66 i (lgv i X)
/-- The decay from a chunk's start. -/
def w29 : FVec F S128x1 .f32 := k0_pay67 i (lgv i X)
/-- The decay to a chunk's end. -/
def w34 : FVec F S128x1 .f32 := k0_pay68 i (lgv i X)
/-- The decay over a chunk. -/
def w38 : FVec F S1x1 .f32 := k0_pay69 (lgv i X)

/-- Chunk `n`'s part of the states' cotangent: its decayed rotated queries, transposed, times its cotangent. -/
def qdo (n : Fin 18) : FVec F S1x128x256 .f32 :=
  k0_pay1 (k0_pay20 (w29 i X) (rows X.q n) (rows X.c n) (rows X.s n) (rows X.dO n))

/-- The states' cotangent after the last `t` positions. -/
def carry : ℕ → FVec F S128x256 .f32
  | 0 => k0_pay3
  | t + 1 => k0_pay5 (w38 i X) (carry t) (qdo i X (ch i ⟨(17 - t) % 18, Nat.mod_lt _ (by decide)⟩))

/-- The cotangent of the state that position `t` leaves. -/
def dst (t : Fin 18) : FVec F S1x128x256 .f32 := k0_pay4 (carry i X (17 - t.val))

/-- The queries' gradient of the chunk visited at position `t`, before rounding. -/
def dqC (t : Fin 18) : FVec F S128x128 .f32 :=
  dqF (w24 i X) (w29 i X) (rows X.c (ch i t)) (rows X.s (ch i t)) (rows X.k (ch i t)) (rows X.v (ch i t)) (rows X.dO (ch i t))
    (slab5 X.st t)

/-- The keys' gradient of the chunk visited at position `t`, before rounding. -/
def dkC (t : Fin 18) : FVec F S128x128 .f32 :=
  dkF (w24 i X) (w34 i X) (rows X.c (ch i t)) (rows X.s (ch i t)) (rows X.q (ch i t)) (rows X.v (ch i t)) (rows X.dO (ch i t))
    (dst i X t)

/-- The values' gradient of the chunk visited at position `t`, before rounding. -/
def dvC (t : Fin 18) : FVec F S128x256 .f32 :=
  dvF (w24 i X) (w34 i X) (rows X.c (ch i t)) (rows X.s (ch i t)) (rows X.q (ch i t)) (rows X.k (ch i t)) (rows X.dO (ch i t))
    (dst i X t)

/-- What position `t` stores of the queries' gradient over prior contents `p`: the forward direction stores, the
backward direction adds. -/
def stq (t : Fin 18) (p : Vec F S128x128 .bf16) : FVec F S128x128 .bf16 :=
  if (i 1).val = 0 then k0_pay11 (dqC i X t) else k0_pay21 (dqC i X t) p

/-- What position `t` stores of the keys' gradient over prior contents `p`. -/
def stk (t : Fin 18) (p : Vec F S128x128 .bf16) : FVec F S128x128 .bf16 :=
  if (i 1).val = 0 then k0_pay11 (dkC i X t) else k0_pay22 (dkC i X t) p

/-- A chunk of the values' gradient rounded to be stored. -/
def rnd (x : FVec F S128x256 .f32) : FVec F S128x256 .bf16 := truncf .bf16 x bitsLt_bf16_f32

/-- What position `t` stores of the values' gradient over prior contents `p`. -/
def stv (t : Fin 18) (p : Vec F S128x256 .bf16) : FVec F S128x256 .bf16 :=
  if (i 1).val = 0 then rnd (dvC i X t) else k0_pay23 (dvC i X t) p

/-- The chunk of a row. -/
def chunkOf (r : Fin 2304) : Fin 18 := ⟨r.val / 128, by omega⟩
/-- A row's place in its chunk. -/
def place (r : Fin 2304) : Fin 128 := ⟨r.val % 128, by omega⟩

/-- A block all of whose chunks are stored: at each row, what the position of the row's chunk stores. -/
def full {α : Type} {W : ℕ} (i : grid0.Coords) (st : Fin 18 → ((⟨2, ![128, W]⟩ : Shape).Idx → α) → (⟨2, ![128, W]⟩ : Shape).Idx → α)
    (g : (⟨2, ![2304, W]⟩ : Shape).Idx → α) : (⟨2, ![2304, W]⟩ : Shape).Idx → α :=
  fun y => st (sl i (chunkOf (y 0))) (rows g (chunkOf (y 0))) (ix2 (place (y 0)) (y 1))

/-- A block the first `n` positions of which are stored. -/
def part {α : Type} {W : ℕ} (i : grid0.Coords) (st : Fin 18 → ((⟨2, ![128, W]⟩ : Shape).Idx → α) → (⟨2, ![128, W]⟩ : Shape).Idx → α)
    (g : (⟨2, ![2304, W]⟩ : Shape).Idx → α) (n : ℕ) : (⟨2, ![2304, W]⟩ : Shape).Idx → α :=
  fun y => if (sl i (chunkOf (y 0))).val < n then full i st g y else g y

end Cert.KernelIdeal.Hand
end
-- ==== Proof.TripsA.lean ====
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! What one trip of each of the kernel's three loops leaves, its inputs held at the blocks `X`. -/

theorem readAt_rows {W : ℕ} {e : EltTy} {κ sp} (m : Memref sig κ sp (⟨2, ![2304, W]⟩ : Shape) e) (f : m.view.ty.Contents (Elt F))
    {off : Fin 2 → ℕ} (n : Fin 18) (hoff : off = ![128 * n.val, 0])
    (inb : ∀ a : Fin 2, off a + (![128, W] : Fin 2 → ℕ) a ≤ (⟨2, ![2304, W]⟩ : Shape).size a) :
    m.view.readAt (Elt F) (Rect.unit (s := ⟨2, ![2304, W]⟩) off ![128, W] inb).toLoadRect f = rows (m.view.read (Elt F) f) n := by
  subst hoff
  funext y
  refine congrArg (m.view.read (Elt F) f) (funext fun a => Fin.ext ?_)
  match a with
  | ⟨0, _⟩ => show 128 * n.val + 1 * (y 0).val = 128 * n.val + (y 0).val; omega
  | ⟨1, _⟩ => show 0 + 1 * (y 1).val = (y 1).val; omega

theorem readAt_slab {e : EltTy} {κ sp} (m : Memref sig κ sp S18x128x256 e) (f : m.view.ty.Contents (Elt F))
    {off : Fin 3 → ℕ} (n : Fin 18) (hoff : off = ![n.val, 0, 0])
    (inb : ∀ a : Fin 3, off a + (![1, 128, 256] : Fin 3 → ℕ) a ≤ S18x128x256.size a) :
    m.view.readAt (Elt F) (Rect.unit (s := S18x128x256) off ![1, 128, 256] inb).toLoadRect f = slab (m.view.read (Elt F) f) n := by
  subst hoff
  funext y
  refine congrArg (m.view.read (Elt F) f) (funext fun a => Fin.ext ?_)
  match a with
  | ⟨0, _⟩ =>
    have h : (y 0).val < 1 := (y 0).isLt
    show n.val + 1 * (y 0).val = n.val; omega
  | ⟨1, _⟩ => show 0 + 1 * (y 1).val = (y 1).val; omega
  | ⟨2, _⟩ => show 0 + 1 * (y 2).val = (y 2).val; omega

theorem readAt_slab5 {e : EltTy} {κ sp} (m : Memref sig κ sp S1x1x18x128x256 e) (f : m.view.ty.Contents (Elt F))
    {off : Fin 5 → ℕ} (n : Fin 18) (hoff : off = ![0, 0, n.val, 0, 0])
    (inb : ∀ a : Fin 5, off a + (![1, 1, 1, 128, 256] : Fin 5 → ℕ) a ≤ S1x1x18x128x256.size a) :
    m.view.readAt (Elt F) (Rect.unit (s := S1x1x18x128x256) off ![1, 1, 1, 128, 256] inb).toLoadRect f
      = slab5 (m.view.read (Elt F) f) n := by
  subst hoff
  funext y
  refine congrArg (m.view.read (Elt F) f) (funext fun a => Fin.ext ?_)
  match a with
  | ⟨0, _⟩ => show 0 + 1 * (y 0).val = (y 0).val; omega
  | ⟨1, _⟩ => show 0 + 1 * (y 1).val = (y 1).val; omega
  | ⟨2, _⟩ =>
    have h : (y 2).val < 1 := (y 2).isLt
    show n.val + 1 * (y 2).val = n.val; omega
  | ⟨3, _⟩ => show 0 + 1 * (y 3).val = (y 3).val; omega
  | ⟨4, _⟩ => show 0 + 1 * (y 4).val = (y 4).val; omega

theorem cond1_iff : ∀ i : grid0.Coords, k0_cond1 i = 1#1 ↔ (i 1).val = 0 := by decide +kernel

theorem cond2_iff : ∀ i : grid0.Coords, k0_cond2 i = 1#1 ↔ ¬ (i 1).val = 0 := by decide +kernel

/-- Position `2k + b`. -/
def pos (k : Fin k0_t3_loop.trips) (b : Fin 2) : Fin 18 := ⟨2 * k.val + b.val, by
  have := k.isLt; have hN : k0_t3_loop.trips = 9 := by decide
  omega⟩
/-- Chunk `2k + b` in the order of the first loop. -/
def chn (k : Fin k0_t1_loop.trips) (b : Fin 2) : Fin 18 := ⟨2 * k.val + b.val, by
  have := k.isLt; have hN : k0_t1_loop.trips = 9 := by decide
  omega⟩

theorem off7_ch (i : grid0.Coords) (k : Fin k0_t3_loop.trips) (b : Fin 2) :
    k0_off7 i k (BitVec.ofNat 32 b.val) = ![128 * (ch i (pos k b)).val, 0] := k0_off7_eq i k b

theorem off8_ch (i : grid0.Coords) (k : Fin k0_t3_loop.trips) (b : Fin 2) :
    k0_off8 i k (BitVec.ofNat 32 b.val) = ![128 * (ch i (pos k b)).val, 0] := k0_off8_eq i k b

theorem off11_ch (i : grid0.Coords) (k : Fin k0_t3_loop.trips) (b : Fin 2) :
    k0_off11 i k (BitVec.ofNat 32 b.val) = ![128 * (ch i (pos k b)).val, 0] := k0_off11_eq i k b

theorem off12_ch (i : grid0.Coords) (k : Fin k0_t3_loop.trips) (b : Fin 2) :
    k0_off12 i k (BitVec.ofNat 32 b.val) = ![128 * (ch i (pos k b)).val, 0] := k0_off12_eq i k b

theorem off13_ch (i : grid0.Coords) (k : Fin k0_t3_loop.trips) (b : Fin 2) :
    k0_off13 i k (BitVec.ofNat 32 b.val) = ![128 * (ch i (pos k b)).val, 0] := k0_off13_eq i k b

theorem off14_ch (i : grid0.Coords) (k : Fin k0_t3_loop.trips) (b : Fin 2) :
    k0_off14 i k (BitVec.ofNat 32 b.val) = ![128 * (ch i (pos k b)).val, 0] := k0_off14_eq i k b

theorem off2_ch (k : Fin k0_t1_loop.trips) (b : Fin 2) : k0_off2 k (BitVec.ofNat 32 b.val) = ![128 * (chn k b).val, 0] := by
  rw [k0_off2_eq]
  refine congrArg (fun n : ℕ => (![n, 0] : Fin 2 → ℕ)) ?_
  show 256 * k.val + 128 * b.val = 128 * (2 * k.val + b.val)
  omega

theorem off3_ch (k : Fin k0_t1_loop.trips) (b : Fin 2) : k0_off3 k (BitVec.ofNat 32 b.val) = ![128 * (chn k b).val, 0] := by
  rw [k0_off3_eq]
  refine congrArg (fun n : ℕ => (![n, 0] : Fin 2 → ℕ)) ?_
  show 256 * k.val + 128 * b.val = 128 * (2 * k.val + b.val)
  omega

end Cert.KernelIdeal.Hand
end
-- ==== Proof.TripsB.lean ====
module

public import proofs.«01_k».proof.Proof.TripsA

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

theorem trip1 (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (c0 : BitVec 32) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w29 i X) c0 (harg3.unread X.q) (harg6.unread X.c) (harg7.unread X.s) (harg9.unread X.dO) k).1
      = [⟨Rect.unit (s := S18x128x256) (k0_off4 k 1#32) S1x128x256.size (k0_off4_inb k 1), qdo i X (chn k 1)⟩,
         ⟨Rect.unit (s := S18x128x256) (k0_off4 k 0#32) S1x128x256.size (k0_off4_inb k 0), qdo i X (chn k 0)⟩] := by
  have q0 := (readAt_rows arg3 (harg3.unread X.q) _ (off2_ch k 0) (k0_off2_inb k 0)).trans (congrArg (rows · _) (harg3.read_unread X.q))
  have c0 := (readAt_rows arg6 (harg6.unread X.c) _ (off2_ch k 0) (k0_off2_inb k 0)).trans (congrArg (rows · _) (harg6.read_unread X.c))
  have s0 := (readAt_rows arg7 (harg7.unread X.s) _ (off2_ch k 0) (k0_off2_inb k 0)).trans (congrArg (rows · _) (harg7.read_unread X.s))
  have d0 := (readAt_rows arg9 (harg9.unread X.dO) _ (off3_ch k 0) (k0_off3_inb k 0)).trans (congrArg (rows · _) (harg9.read_unread X.dO))
  have q1 := (readAt_rows arg3 (harg3.unread X.q) _ (off2_ch k 1) (k0_off2_inb k 1)).trans (congrArg (rows · _) (harg3.read_unread X.q))
  have c1 := (readAt_rows arg6 (harg6.unread X.c) _ (off2_ch k 1) (k0_off2_inb k 1)).trans (congrArg (rows · _) (harg6.read_unread X.c))
  have s1 := (readAt_rows arg7 (harg7.unread X.s) _ (off2_ch k 1) (k0_off2_inb k 1)).trans (congrArg (rows · _) (harg7.read_unread X.s))
  have d1 := (readAt_rows arg9 (harg9.unread X.dO) _ (off3_ch k 1) (k0_off3_inb k 1)).trans (congrArg (rows · _) (harg9.read_unread X.dO))
  unfold qdo
  rw [← q0, ← c0, ← s0, ← d0, ← q1, ← c1, ← s1, ← d1]
  unfold trip_k0_t1
  rfl

theorem trip2 (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (v38 : FVec F S1x1 .f32) (X15 : BufTy.Contents (Elt F) arg15.view.ty) (k : Fin k0_t2_loop.trips) (acc : FVec F S128x256 .f32) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v38 X15 k).2.1 acc
      = [⟨Rect.unit (s := S18x128x256) (k0_off5 k) S1x128x256.size (k0_off5_inb k), k0_pay4 acc⟩]
    ∧ (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v38 X15 k).1 acc
      = k0_pay5 v38 acc (View.readAt (Elt F) arg15.view (Rect.unit (s := S18x128x256) (k0_off6 i k) S1x128x256.size (k0_off6_inb i k)).toLoadRect X15) := by
  unfold trip_k0_t2
  exact ⟨rfl, rfl⟩

end Cert.KernelIdeal.Hand
end
-- ==== Proof.Store.lean ====
module

public import proofs.«01_k».proof.Proof.TripsA

public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! Two chunks stored by one trip extend a block whose first `2k` positions are stored. -/

theorem rows_part {α : Type} {W : ℕ} (i : grid0.Coords) (st : Fin 18 → ((⟨2, ![128, W]⟩ : Shape).Idx → α) → (⟨2, ![128, W]⟩ : Shape).Idx → α)
    (g : (⟨2, ![2304, W]⟩ : Shape).Idx → α) (n : ℕ) (t : Fin 18) (h : n ≤ t.val) : rows (part i st g n) (ch i t) = rows g (ch i t) := by
  funext j
  have hj : (j 0).val < 128 := (j 0).isLt
  have hc : ∀ hh, chunkOf ⟨128 * (ch i t).val + (j 0).val, hh⟩ = ch i t := fun hh => Fin.ext (by
    show (128 * (ch i t).val + (j 0).val) / 128 = _
    omega)
  refine if_neg fun hlt => ?_
  have hlt' : (sl i (chunkOf ⟨128 * (ch i t).val + (j 0).val, by have := (ch i t).isLt; omega⟩)).val < n := hlt
  rw [hc, sl_ch] at hlt'
  omega

theorem ch_inj (i : grid0.Coords) {t t' : Fin 18} (h : ch i t = ch i t') : t = t' := by
  rw [← sl_ch i t, h, sl_ch]

section Abstract
variable {W : ℕ} {e : EltTy} {κ : Kind} {sp : Space} (i : grid0.Coords) (m : Memref sig κ sp (⟨2, ![2304, W]⟩ : Shape) e)
  (f : m.view.ty.Contents (Elt F)) (L : List (View.Piece (Elt F) (⟨2, ![2304, W]⟩ : Shape) e))
  (st : Fin 18 → ((⟨2, ![128, W]⟩ : Shape).Idx → Elt F e) → (⟨2, ![128, W]⟩ : Shape).Idx → Elt F e)
  (g : (⟨2, ![2304, W]⟩ : Shape).Idx → Elt F e)

/-- A piece of one chunk, read inside. -/
theorem read_chunk (y : (⟨2, ![2304, W]⟩ : Shape).Idx) (n : Fin 18) {o : Fin 2 → ℕ} (h : o = ![128 * n.val, 0])
    (inb : ∀ a : Fin 2, o a + (![128, W] : Fin 2 → ℕ) a ≤ (⟨2, ![2304, W]⟩ : Shape).size a)
    (w : (⟨2, ![128, W]⟩ : Shape).Idx → Elt F e) (hy : chunkOf (y 0) = n) :
    m.view.read (Elt F) (m.view.writes (Elt F) f (⟨Rect.unit (s := ⟨2, ![2304, W]⟩) o ![128, W] inb, w⟩ :: L)) y
      = w (ix2 (place (y 0)) (y 1)) := by
  refine View.read_writes_cons_rows_of_mem m.view f inb w L y (ix2 (place (y 0)) (y 1)) h ?_ rfl
  have hv : (y 0).val / 128 = n.val := congrArg Fin.val hy
  show (y 0).val = 128 * n.val + (y 0).val % 128
  omega

/-- A piece of one chunk, read outside. -/
theorem read_not_chunk (y : (⟨2, ![2304, W]⟩ : Shape).Idx) (n : Fin 18) {o : Fin 2 → ℕ} (h : o = ![128 * n.val, 0])
    (inb : ∀ a : Fin 2, o a + (![128, W] : Fin 2 → ℕ) a ≤ (⟨2, ![2304, W]⟩ : Shape).size a)
    (w : (⟨2, ![128, W]⟩ : Shape).Idx → Elt F e) (hy : ¬ chunkOf (y 0) = n) :
    m.view.read (Elt F) (m.view.writes (Elt F) f (⟨Rect.unit (s := ⟨2, ![2304, W]⟩) o ![128, W] inb, w⟩ :: L)) y
      = m.view.read (Elt F) (m.view.writes (Elt F) f L) y := by
  refine View.read_writes_cons_rows_of_not_mem (W := 128) m.view f inb w L y h rfl ?_
  have hv : ¬ (y 0).val / 128 = n.val := fun hh => hy (Fin.ext hh)
  omega

variable (k : Fin k0_t3_loop.trips) {o1 o0 : Fin 2 → ℕ} (h1 : o1 = ![128 * (ch i (pos k 1)).val, 0]) (h0 : o0 = ![128 * (ch i (pos k 0)).val, 0])
  (inb1 : ∀ a : Fin 2, o1 a + (![128, W] : Fin 2 → ℕ) a ≤ (⟨2, ![2304, W]⟩ : Shape).size a)
  (inb0 : ∀ a : Fin 2, o0 a + (![128, W] : Fin 2 → ℕ) a ≤ (⟨2, ![2304, W]⟩ : Shape).size a)
  (w1 w0 : (⟨2, ![128, W]⟩ : Shape).Idx → Elt F e)
  (hprev : m.view.read (Elt F) (m.view.writes (Elt F) f L) = part i st g (2 * k.val))

include h1 h0 hprev in
theorem part_step (hw1 : w1 = st (pos k 1) (rows g (ch i (pos k 1)))) (hw0 : w0 = st (pos k 0) (rows g (ch i (pos k 0)))) :
    m.view.read (Elt F) (m.view.writes (Elt F) f
        ([⟨Rect.unit (s := ⟨2, ![2304, W]⟩) o1 ![128, W] inb1, w1⟩, ⟨Rect.unit (s := ⟨2, ![2304, W]⟩) o0 ![128, W] inb0, w0⟩] ++ L))
      = part i st g (2 * (k.val + 1)) := by
  funext y
  have hp1 : (pos k 1).val = 2 * k.val + 1 := rfl
  have hp0 : (pos k 0).val = 2 * k.val := rfl
  rw [List.cons_append, List.cons_append, List.nil_append]
  by_cases e1 : chunkOf (y 0) = ch i (pos k 1)
  · subst hw1
    refine (read_chunk m f _ y _ h1 inb1 _ e1).trans ?_
    refine Eq.symm ((if_pos (by rw [e1, sl_ch]; omega)).trans ?_)
    show st (sl i (chunkOf (y 0))) (rows g (chunkOf (y 0))) (ix2 (place (y 0)) (y 1)) = _
    rw [e1, sl_ch]
  · refine (read_not_chunk m f _ y _ h1 inb1 w1 e1).trans ?_
    by_cases e0 : chunkOf (y 0) = ch i (pos k 0)
    · subst hw0
      refine (read_chunk m f _ y _ h0 inb0 _ e0).trans ?_
      refine Eq.symm ((if_pos (by rw [e0, sl_ch]; omega)).trans ?_)
      show st (sl i (chunkOf (y 0))) (rows g (chunkOf (y 0))) (ix2 (place (y 0)) (y 1)) = _
      rw [e0, sl_ch]
    · refine (read_not_chunk m f _ y _ h0 inb0 w0 e0).trans ((congrFun hprev y).trans ?_)
      have n1 : ¬ (sl i (chunkOf (y 0))).val = 2 * k.val + 1 := fun hh => e1 (by
        rw [← ch_sl i (chunkOf (y 0))]
        exact congrArg (ch i) (Fin.ext hh))
      have n0 : ¬ (sl i (chunkOf (y 0))).val = 2 * k.val := fun hh => e0 (by
        rw [← ch_sl i (chunkOf (y 0))]
        exact congrArg (ch i) (Fin.ext hh))
      exact if_congr (by omega) rfl rfl

include h0 hprev in
/-- The first load of a trip reads the chunk as it was before the loop. -/
theorem load0 : m.view.readAt (Elt F) (Rect.unit (s := ⟨2, ![2304, W]⟩) o0 ![128, W] inb0).toLoadRect (m.view.writes (Elt F) f L)
    = rows g (ch i (pos k 0)) := by
  rw [readAt_rows m _ _ h0 inb0, hprev, rows_part i st g _ _ (by show 2 * k.val ≤ 2 * k.val + 0; omega)]

include h1 h0 hprev in
/-- The second load of a trip reads the chunk as it was before the loop. -/
theorem load1 : m.view.readAt (Elt F) (Rect.unit (s := ⟨2, ![2304, W]⟩) o1 ![128, W] inb1).toLoadRect
      (m.view.writes (Elt F) (m.view.writes (Elt F) f L) [⟨Rect.unit (s := ⟨2, ![2304, W]⟩) o0 ![128, W] inb0, w0⟩])
    = rows g (ch i (pos k 1)) := by
  rw [readAt_rows m _ _ h1 inb1]
  have key : rows (m.view.read (Elt F) (m.view.writes (Elt F) (m.view.writes (Elt F) f L)
      [⟨Rect.unit (s := ⟨2, ![2304, W]⟩) o0 ![128, W] inb0, w0⟩])) (ch i (pos k 1))
      = rows (m.view.read (Elt F) (m.view.writes (Elt F) f L)) (ch i (pos k 1)) := by
    funext j
    have hj : (j 0).val < 128 := (j 0).isLt
    unfold rows
    refine read_not_chunk m _ [] _ _ h0 inb0 w0 fun hh => ?_
    have hc : chunkOf ⟨128 * (ch i (pos k 1)).val + (j 0).val, by have := (ch i (pos k 1)).isLt; omega⟩ = ch i (pos k 1) := Fin.ext (by
      show (128 * (ch i (pos k 1)).val + (j 0).val) / 128 = _
      omega)
    have hp := ch_inj i (hc.symm.trans hh)
    have hp' : (pos k 1).val = (pos k 0).val := congrArg Fin.val hp
    have e1 : (pos k 1).val = 2 * k.val + 1 := rfl
    have e0 : (pos k 0).val = 2 * k.val := rfl
    omega
  rw [key, hprev, rows_part i st g _ _ (by show 2 * k.val ≤ 2 * k.val + 1; omega)]

end Abstract

/-- A piece of one slab, read inside. -/
theorem read_slab_piece {κ : Kind} {sp : Space} (m : Memref sig κ sp S18x128x256 .f32) (f : m.view.ty.Contents (Elt F))
    (L : List (View.Piece (Elt F) S18x128x256 .f32)) (y : S18x128x256.Idx) {o : Fin 3 → ℕ} {n : ℕ} (h : o = ![n, 0, 0])
    (inb : ∀ a : Fin 3, o a + (![1, 128, 256] : Fin 3 → ℕ) a ≤ S18x128x256.size a)
    (w : S1x128x256.Idx → Elt F .f32) (hy : (y 0).val = n) :
    m.view.read (Elt F) (m.view.writes (Elt F) f (⟨Rect.unit (s := S18x128x256) o ![1, 128, 256] inb, w⟩ :: L)) y
      = w (ix3 0 (y 1) (y 2)) := by
  refine View.read_writes_cons_unit_of_mem m.view f inb w L y (ix3 (0 : Fin 1) (y 1) (y 2)) h fun a => ?_
  match a with
  | ⟨0, _⟩ => show (y 0).val = n + 0; omega
  | ⟨1, _⟩ => show (y 1).val = 0 + (y 1).val; omega
  | ⟨2, _⟩ => show (y 2).val = 0 + (y 2).val; omega

/-- A piece of one slab, read outside. -/
theorem read_not_slab_piece {κ : Kind} {sp : Space} (m : Memref sig κ sp S18x128x256 .f32) (f : m.view.ty.Contents (Elt F))
    (L : List (View.Piece (Elt F) S18x128x256 .f32)) (y : S18x128x256.Idx) {o : Fin 3 → ℕ} {n : ℕ} (h : o = ![n, 0, 0])
    (inb : ∀ a : Fin 3, o a + (![1, 128, 256] : Fin 3 → ℕ) a ≤ S18x128x256.size a)
    (w : S1x128x256.Idx → Elt F .f32) (hy : ¬ (y 0).val = n) :
    m.view.read (Elt F) (m.view.writes (Elt F) f (⟨Rect.unit (s := S18x128x256) o ![1, 128, 256] inb, w⟩ :: L)) y
      = m.view.read (Elt F) (m.view.writes (Elt F) f L) y := by
  refine View.read_writes_cons_unit_of_not_mem m.view f inb w L y h (0 : Fin 3) ?_
  show (y 0).val < n ∨ n + 1 ≤ (y 0).val
  omega

/-- An index of a stack of one slab is its last two coordinates. -/
theorem ix3_zero_eta (j : S1x128x256.Idx) : ix3 (0 : Fin 1) (j 1) (j 2) = j := by
  funext a
  match a with
  | ⟨0, _⟩ => exact Fin.ext (by have h : (j 0).val < 1 := (j 0).isLt; show 0 = (j 0).val; omega)
  | ⟨1, _⟩ => rfl
  | ⟨2, _⟩ => rfl

end Cert.KernelIdeal.Hand
end
-- ==== Proof.Loops12.lean ====
module

public import proofs.«01_k».proof.Proof.TripsB
public import proofs.«01_k».proof.Proof.Store

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! What the first two loops leave: every chunk's part of the states' cotangent, then the states' cotangents. -/

theorem loop1_part (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (c0 : BitVec 32)
    (f : BufTy.Contents (Elt F) arg15.view.ty) (n : ℕ) (hn : n ≤ 9) (t : Fin 18) (ht : t.val < 2 * n) (j : S1x128x256.Idx) :
    arg15.view.read (Elt F) (arg15.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w29 i X) c0 (harg3.unread X.q) (harg6.unread X.c) (harg7.unread X.s) (harg9.unread X.dO) n)) (ix3 t (j 1) (j 2)) = qdo i X t j := by
  induction n with
  | zero => omega
  | succ n ih =>
    have hN : k0_t1_loop.trips = 9 := by decide
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w29 i X) c0 (harg3.unread X.q) (harg6.unread X.c) (harg7.unread X.s) (harg9.unread X.dO) ⟨n, by omega⟩]
    dsimp only [tripL_k0_t1]
    rw [trip1, List.cons_append, List.cons_append, List.nil_append]
    have o1 : k0_off4 ⟨n, by omega⟩ 1#32 = ![2 * n + 1, 0, 0] := k0_off4_eq ⟨n, by omega⟩ 1
    have o0 : k0_off4 ⟨n, by omega⟩ 0#32 = ![2 * n, 0, 0] := k0_off4_eq ⟨n, by omega⟩ 0
    by_cases e1 : t.val = 2 * n + 1
    · refine (read_slab_piece arg15 f _ (ix3 t (j 1) (j 2)) o1 _ _ e1).trans ?_
      have ht1 : chn ⟨n, by omega⟩ 1 = t := Fin.ext e1.symm
      rw [ht1]
      exact congrArg (qdo i X t) (ix3_zero_eta j)
    · refine (read_not_slab_piece arg15 f _ (ix3 t (j 1) (j 2)) o1 _ _ e1).trans ?_
      by_cases e0 : t.val = 2 * n
      · refine (read_slab_piece arg15 f _ (ix3 t (j 1) (j 2)) o0 _ _ e0).trans ?_
        have ht0 : chn ⟨n, by omega⟩ 0 = t := Fin.ext e0.symm
        rw [ht0]
        exact congrArg (qdo i X t) (ix3_zero_eta j)
      · exact (read_not_slab_piece arg15 f _ (ix3 t (j 1) (j 2)) o0 _ _ e0).trans (ih (by omega) (by omega))

theorem loop1 (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (c0 : BitVec 32)
    (f : BufTy.Contents (Elt F) arg15.view.ty) (t : Fin 18) :
    slab (arg15.view.read (Elt F) (arg15.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w29 i X) c0 (harg3.unread X.q) (harg6.unread X.c) (harg7.unread X.s) (harg9.unread X.dO) 9))) t = qdo i X t :=
  funext fun j => loop1_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X c0 f 9 (le_refl _) t (by have := t.isLt; omega) j

theorem loop2_part (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F)
    (X15 : BufTy.Contents (Elt F) arg15.view.ty) (h15 : ∀ t, slab (arg15.view.read (Elt F) X15) t = qdo i X t)
    (f : BufTy.Contents (Elt F) arg16.view.ty) (n : ℕ) (hn : n ≤ 18) :
    (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 k0_pay3 n).1 = carry i X n ∧ ∀ (t : Fin 18) (ht : 18 - n ≤ t.val) (j : S1x128x256.Idx),
    arg16.view.read (Elt F) (arg16.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 k0_pay3 n).2) (ix3 t (j 1) (j 2)) = dst i X t j := by
  induction n with
  | zero => exact ⟨rfl, fun t ht j => absurd t.isLt (by omega)⟩
  | succ n ih =>
    have hN : k0_t2_loop.trips = 18 := by decide
    obtain ⟨ih1, ih2⟩ := ih (by omega)
    rw [st_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 k0_pay3 ⟨n, by omega⟩]
    dsimp only [tripL_k0_t2, tripR_k0_t2]
    rw [ih1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 ⟨n, by omega⟩ (carry i X n)).1, (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 ⟨n, by omega⟩ (carry i X n)).2]
    have o6 : k0_off6 i ⟨n, by omega⟩ = ![(ch i ⟨(17 - n) % 18, Nat.mod_lt _ (by decide)⟩).val, 0, 0] := by
      rw [k0_off6_eq]
      refine congrArg (fun n : ℕ => (![n, 0, 0] : Fin 3 → ℕ)) ?_
      unfold ch
      dsimp only
      split <;> omega
    refine ⟨?_, fun t ht j => ?_⟩
    · rw [readAt_slab arg15 X15 _ o6, h15]
      rfl
    · rw [List.cons_append, List.nil_append]
      have o5 : k0_off5 ⟨n, by omega⟩ = ![17 - n, 0, 0] := k0_off5_eq ⟨n, by omega⟩
      by_cases e : t.val = 17 - n
      · refine (read_slab_piece arg16 f _ (ix3 t (j 1) (j 2)) o5 _ _ e).trans ?_
        have hc : carry i X n = carry i X (17 - t.val) := congrArg (carry i X) (by omega)
        rw [hc]
        exact congrArg (dst i X t) (ix3_zero_eta j)
      · exact (read_not_slab_piece arg16 f _ (ix3 t (j 1) (j 2)) o5 _ _ e).trans (ih2 t (by omega) j)

theorem loop2 (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F)
    (X15 : BufTy.Contents (Elt F) arg15.view.ty) (h15 : ∀ t, slab (arg15.view.read (Elt F) X15) t = qdo i X t)
    (f : BufTy.Contents (Elt F) arg16.view.ty) (t : Fin 18) :
    slab (arg16.view.read (Elt F) (arg16.view.writes (Elt F) f (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (w38 i X) X15 k0_pay3 18).2)) t = dst i X t :=
  funext fun j => (loop2_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X X15 h15 f 18 (le_refl _)).2 t (by omega) j

end Cert.KernelIdeal.Hand
end
-- ==== Proof.TripsQ.lean ====
module

public import proofs.«01_k».proof.Proof.TripsA

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

theorem trip3q_fwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : k0_cond1 i = 1#1) (h2 : ¬ k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).2.1 X10 X11 X12 X14 h1 h2
      = [⟨Rect.unit (s := S2304x128) (k0_off11 i k 1#32) S128x128.size (k0_off11_inb i k h1 1), k0_pay11 (dqC i X (pos k 1))⟩,
         ⟨Rect.unit (s := S2304x128) (k0_off11 i k 0#32) S128x128.size (k0_off11_inb i k h1 0), k0_pay11 (dqC i X (pos k 0))⟩] := by
  unfold dqC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have k0 := (readAt_rows arg4 (harg4.unread X.k) _ (off7_ch i k 0) (k0_off7_inb i k 0)).trans (congrArg (rows · _) (harg4.read_unread X.k))
  have k1 := (readAt_rows arg4 (harg4.unread X.k) _ (off7_ch i k 1) (k0_off7_inb i k 1)).trans (congrArg (rows · _) (harg4.read_unread X.k))
  have v0 := (readAt_rows arg5 (harg5.unread X.v) _ (off8_ch i k 0) (k0_off8_inb i k 0)).trans (congrArg (rows · _) (harg5.read_unread X.v))
  have v1 := (readAt_rows arg5 (harg5.unread X.v) _ (off8_ch i k 1) (k0_off8_inb i k 1)).trans (congrArg (rows · _) (harg5.read_unread X.v))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have t0 := (readAt_slab5 arg8 (harg8.unread X.st) (pos k 0) (k0_off9_eq k 0) (k0_off9_inb k 0)).trans (congrArg (slab5 · _) (harg8.read_unread X.st))
  have t1 := (readAt_slab5 arg8 (harg8.unread X.st) (pos k 1) (k0_off9_eq k 1) (k0_off9_inb k 1)).trans (congrArg (slab5 · _) (harg8.read_unread X.st))
  rw [← c0, ← c1, ← s0, ← s1, ← k0, ← k1, ← v0, ← v1, ← d0, ← d1, ← t0, ← t1]
  unfold trip_k0_t3
  rfl

theorem trip3q_bwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : ¬ k0_cond1 i = 1#1) (h2 : k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).1 X10 X11 X12 X14 h1 h2
      = [⟨Rect.unit (s := S2304x128) (k0_off13 i k 1#32) S128x128.size (k0_off13_inb i k h2 1), k0_pay21 (dqC i X (pos k 1))
          (View.readAt (Elt F) arg10.view (Rect.unit (s := S2304x128) (k0_off13 i k 1#32) S128x128.size (k0_off13_inb i k h2 1)).toLoadRect
            (arg10.view.writes (Elt F) X10 [⟨Rect.unit (s := S2304x128) (k0_off13 i k 0#32) S128x128.size (k0_off13_inb i k h2 0), k0_pay21 (dqC i X (pos k 0)) (View.readAt (Elt F) arg10.view (Rect.unit (s := S2304x128) (k0_off13 i k 0#32) S128x128.size (k0_off13_inb i k h2 0)).toLoadRect X10)⟩]))⟩,
         ⟨Rect.unit (s := S2304x128) (k0_off13 i k 0#32) S128x128.size (k0_off13_inb i k h2 0), k0_pay21 (dqC i X (pos k 0)) (View.readAt (Elt F) arg10.view (Rect.unit (s := S2304x128) (k0_off13 i k 0#32) S128x128.size (k0_off13_inb i k h2 0)).toLoadRect X10)⟩] := by
  unfold dqC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have k0 := (readAt_rows arg4 (harg4.unread X.k) _ (off7_ch i k 0) (k0_off7_inb i k 0)).trans (congrArg (rows · _) (harg4.read_unread X.k))
  have k1 := (readAt_rows arg4 (harg4.unread X.k) _ (off7_ch i k 1) (k0_off7_inb i k 1)).trans (congrArg (rows · _) (harg4.read_unread X.k))
  have v0 := (readAt_rows arg5 (harg5.unread X.v) _ (off8_ch i k 0) (k0_off8_inb i k 0)).trans (congrArg (rows · _) (harg5.read_unread X.v))
  have v1 := (readAt_rows arg5 (harg5.unread X.v) _ (off8_ch i k 1) (k0_off8_inb i k 1)).trans (congrArg (rows · _) (harg5.read_unread X.v))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have t0 := (readAt_slab5 arg8 (harg8.unread X.st) (pos k 0) (k0_off9_eq k 0) (k0_off9_inb k 0)).trans (congrArg (slab5 · _) (harg8.read_unread X.st))
  have t1 := (readAt_slab5 arg8 (harg8.unread X.st) (pos k 1) (k0_off9_eq k 1) (k0_off9_inb k 1)).trans (congrArg (slab5 · _) (harg8.read_unread X.st))
  rw [← c0, ← c1, ← s0, ← s1, ← k0, ← k1, ← v0, ← v1, ← d0, ← d1, ← t0, ← t1]
  unfold trip_k0_t3
  rfl

end Cert.KernelIdeal.Hand
end
-- ==== Proof.TripsK.lean ====
module

public import proofs.«01_k».proof.Proof.TripsA

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

theorem trip3k_fwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : k0_cond1 i = 1#1) (h2 : ¬ k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).2.2.2.2.1 X10 X11 X12 X14 h1 h2
      = [⟨Rect.unit (s := S2304x128) (k0_off11 i k 1#32) S128x128.size (k0_off11_inb i k h1 1), k0_pay11 (dkC i X (pos k 1))⟩,
         ⟨Rect.unit (s := S2304x128) (k0_off11 i k 0#32) S128x128.size (k0_off11_inb i k h1 0), k0_pay11 (dkC i X (pos k 0))⟩] := by
  unfold dkC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have q0 := (readAt_rows arg3 (harg3.unread X.q) _ (off7_ch i k 0) (k0_off7_inb i k 0)).trans (congrArg (rows · _) (harg3.read_unread X.q))
  have q1 := (readAt_rows arg3 (harg3.unread X.q) _ (off7_ch i k 1) (k0_off7_inb i k 1)).trans (congrArg (rows · _) (harg3.read_unread X.q))
  have v0 := (readAt_rows arg5 (harg5.unread X.v) _ (off8_ch i k 0) (k0_off8_inb i k 0)).trans (congrArg (rows · _) (harg5.read_unread X.v))
  have v1 := (readAt_rows arg5 (harg5.unread X.v) _ (off8_ch i k 1) (k0_off8_inb i k 1)).trans (congrArg (rows · _) (harg5.read_unread X.v))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have e0 := (readAt_slab arg16 X16 (pos k 0) (k0_off10_eq k 0) (k0_off10_inb k 0)).trans (h16 _)
  have e1 := (readAt_slab arg16 X16 (pos k 1) (k0_off10_eq k 1) (k0_off10_inb k 1)).trans (h16 _)
  rw [← c0, ← c1, ← s0, ← s1, ← q0, ← q1, ← v0, ← v1, ← d0, ← d1, ← e0, ← e1]
  unfold trip_k0_t3
  rfl

theorem trip3k_bwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : ¬ k0_cond1 i = 1#1) (h2 : k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).2.2.2.1 X10 X11 X12 X14 h1 h2
      = [⟨Rect.unit (s := S2304x128) (k0_off13 i k 1#32) S128x128.size (k0_off13_inb i k h2 1), k0_pay22 (dkC i X (pos k 1))
          (View.readAt (Elt F) arg11.view (Rect.unit (s := S2304x128) (k0_off13 i k 1#32) S128x128.size (k0_off13_inb i k h2 1)).toLoadRect
            (arg11.view.writes (Elt F) X11 [⟨Rect.unit (s := S2304x128) (k0_off13 i k 0#32) S128x128.size (k0_off13_inb i k h2 0), k0_pay22 (dkC i X (pos k 0)) (View.readAt (Elt F) arg11.view (Rect.unit (s := S2304x128) (k0_off13 i k 0#32) S128x128.size (k0_off13_inb i k h2 0)).toLoadRect X11)⟩]))⟩,
         ⟨Rect.unit (s := S2304x128) (k0_off13 i k 0#32) S128x128.size (k0_off13_inb i k h2 0), k0_pay22 (dkC i X (pos k 0)) (View.readAt (Elt F) arg11.view (Rect.unit (s := S2304x128) (k0_off13 i k 0#32) S128x128.size (k0_off13_inb i k h2 0)).toLoadRect X11)⟩] := by
  unfold dkC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have q0 := (readAt_rows arg3 (harg3.unread X.q) _ (off7_ch i k 0) (k0_off7_inb i k 0)).trans (congrArg (rows · _) (harg3.read_unread X.q))
  have q1 := (readAt_rows arg3 (harg3.unread X.q) _ (off7_ch i k 1) (k0_off7_inb i k 1)).trans (congrArg (rows · _) (harg3.read_unread X.q))
  have v0 := (readAt_rows arg5 (harg5.unread X.v) _ (off8_ch i k 0) (k0_off8_inb i k 0)).trans (congrArg (rows · _) (harg5.read_unread X.v))
  have v1 := (readAt_rows arg5 (harg5.unread X.v) _ (off8_ch i k 1) (k0_off8_inb i k 1)).trans (congrArg (rows · _) (harg5.read_unread X.v))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have e0 := (readAt_slab arg16 X16 (pos k 0) (k0_off10_eq k 0) (k0_off10_inb k 0)).trans (h16 _)
  have e1 := (readAt_slab arg16 X16 (pos k 1) (k0_off10_eq k 1) (k0_off10_inb k 1)).trans (h16 _)
  rw [← c0, ← c1, ← s0, ← s1, ← q0, ← q1, ← v0, ← v1, ← d0, ← d1, ← e0, ← e1]
  unfold trip_k0_t3
  rfl

end Cert.KernelIdeal.Hand
end
-- ==== Proof.TripsV.lean ====
module

public import proofs.«01_k».proof.Proof.TripsA

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

set_option maxHeartbeats 4000000 in
theorem trip3v_fwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : k0_cond1 i = 1#1) (h2 : ¬ k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).2.2.2.2.2.2.2.1 X10 X11 X12 X14 h1 h2
      = [⟨Rect.unit (s := S2304x256) (k0_off12 i k 1#32) S128x256.size (k0_off12_inb i k h1 1), rnd (dvC i X (pos k 1))⟩,
         ⟨Rect.unit (s := S2304x256) (k0_off12 i k 0#32) S128x256.size (k0_off12_inb i k h1 0), rnd (dvC i X (pos k 0))⟩] := by
  unfold dvC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have q0 := (readAt_rows arg3 (harg3.unread X.q) _ (off7_ch i k 0) (k0_off7_inb i k 0)).trans (congrArg (rows · _) (harg3.read_unread X.q))
  have q1 := (readAt_rows arg3 (harg3.unread X.q) _ (off7_ch i k 1) (k0_off7_inb i k 1)).trans (congrArg (rows · _) (harg3.read_unread X.q))
  have k0 := (readAt_rows arg4 (harg4.unread X.k) _ (off7_ch i k 0) (k0_off7_inb i k 0)).trans (congrArg (rows · _) (harg4.read_unread X.k))
  have k1 := (readAt_rows arg4 (harg4.unread X.k) _ (off7_ch i k 1) (k0_off7_inb i k 1)).trans (congrArg (rows · _) (harg4.read_unread X.k))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have e0 := (readAt_slab arg16 X16 (pos k 0) (k0_off10_eq k 0) (k0_off10_inb k 0)).trans (h16 _)
  have e1 := (readAt_slab arg16 X16 (pos k 1) (k0_off10_eq k 1) (k0_off10_inb k 1)).trans (h16 _)
  rw [← c0, ← c1, ← s0, ← s1, ← q0, ← q1, ← k0, ← k1, ← d0, ← d1, ← e0, ← e1]
  unfold trip_k0_t3
  rfl

set_option maxHeartbeats 4000000 in
theorem trip3v_bwd (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t) (k : Fin k0_t3_loop.trips)
    (X10 : BufTy.Contents (Elt F) arg10.view.ty) (X11 : BufTy.Contents (Elt F) arg11.view.ty) (X12 : BufTy.Contents (Elt F) arg12.view.ty) (X14 : BufTy.Contents (Elt F) arg14.view.ty) (h1 : ¬ k0_cond1 i = 1#1) (h2 : k0_cond2 i = 1#1) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 k).2.2.2.2.2.2.1 X10 X11 X12 X14 h1 h2
      = [⟨Rect.unit (s := S2304x256) (k0_off14 i k 1#32) S128x256.size (k0_off14_inb i k h2 1), k0_pay23 (dvC i X (pos k 1))
          (View.readAt (Elt F) arg12.view (Rect.unit (s := S2304x256) (k0_off14 i k 1#32) S128x256.size (k0_off14_inb i k h2 1)).toLoadRect
            (arg12.view.writes (Elt F) X12 [⟨Rect.unit (s := S2304x256) (k0_off14 i k 0#32) S128x256.size (k0_off14_inb i k h2 0), k0_pay23 (dvC i X (pos k 0)) (View.readAt (Elt F) arg12.view (Rect.unit (s := S2304x256) (k0_off14 i k 0#32) S128x256.size (k0_off14_inb i k h2 0)).toLoadRect X12)⟩]))⟩,
         ⟨Rect.unit (s := S2304x256) (k0_off14 i k 0#32) S128x256.size (k0_off14_inb i k h2 0), k0_pay23 (dvC i X (pos k 0)) (View.readAt (Elt F) arg12.view (Rect.unit (s := S2304x256) (k0_off14 i k 0#32) S128x256.size (k0_off14_inb i k h2 0)).toLoadRect X12)⟩] := by
  unfold dvC
  have c0 := (readAt_rows arg6 (harg6.unread X.c) _ (off7_ch i k 0) (k0_off7_inb i k 0)).trans (congrArg (rows · _) (harg6.read_unread X.c))
  have c1 := (readAt_rows arg6 (harg6.unread X.c) _ (off7_ch i k 1) (k0_off7_inb i k 1)).trans (congrArg (rows · _) (harg6.read_unread X.c))
  have s0 := (readAt_rows arg7 (harg7.unread X.s) _ (off7_ch i k 0) (k0_off7_inb i k 0)).trans (congrArg (rows · _) (harg7.read_unread X.s))
  have s1 := (readAt_rows arg7 (harg7.unread X.s) _ (off7_ch i k 1) (k0_off7_inb i k 1)).trans (congrArg (rows · _) (harg7.read_unread X.s))
  have q0 := (readAt_rows arg3 (harg3.unread X.q) _ (off7_ch i k 0) (k0_off7_inb i k 0)).trans (congrArg (rows · _) (harg3.read_unread X.q))
  have q1 := (readAt_rows arg3 (harg3.unread X.q) _ (off7_ch i k 1) (k0_off7_inb i k 1)).trans (congrArg (rows · _) (harg3.read_unread X.q))
  have k0 := (readAt_rows arg4 (harg4.unread X.k) _ (off7_ch i k 0) (k0_off7_inb i k 0)).trans (congrArg (rows · _) (harg4.read_unread X.k))
  have k1 := (readAt_rows arg4 (harg4.unread X.k) _ (off7_ch i k 1) (k0_off7_inb i k 1)).trans (congrArg (rows · _) (harg4.read_unread X.k))
  have d0 := (readAt_rows arg9 (harg9.unread X.dO) _ (off8_ch i k 0) (k0_off8_inb i k 0)).trans (congrArg (rows · _) (harg9.read_unread X.dO))
  have d1 := (readAt_rows arg9 (harg9.unread X.dO) _ (off8_ch i k 1) (k0_off8_inb i k 1)).trans (congrArg (rows · _) (harg9.read_unread X.dO))
  have e0 := (readAt_slab arg16 X16 (pos k 0) (k0_off10_eq k 0) (k0_off10_inb k 0)).trans (h16 _)
  have e1 := (readAt_slab arg16 X16 (pos k 1) (k0_off10_eq k 1) (k0_off10_inb k 1)).trans (h16 _)
  rw [← c0, ← c1, ← s0, ← s1, ← q0, ← q1, ← k0, ← k1, ← d0, ← d1, ← e0, ← e1]
  unfold trip_k0_t3
  rfl

end Cert.KernelIdeal.Hand
end
-- ==== Proof.Loop3.lean ====
module

public import proofs.«01_k».proof.Proof.TripsQ
public import proofs.«01_k».proof.Proof.TripsK
public import proofs.«01_k».proof.Proof.TripsV
public import proofs.«01_k».proof.Proof.Store

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! What the third loop leaves in the three gradients' blocks. -/

theorem full_of_part {α : Type} {W : ℕ} (i : grid0.Coords) (st : Fin 18 → ((⟨2, ![128, W]⟩ : Shape).Idx → α) → (⟨2, ![128, W]⟩ : Shape).Idx → α)
    (g : (⟨2, ![2304, W]⟩ : Shape).Idx → α) : part i st g 18 = full i st g :=
  funext fun y => if_pos (sl i (chunkOf (y 0))).isLt

theorem part_zero {α : Type} {W : ℕ} (i : grid0.Coords) (st : Fin 18 → ((⟨2, ![128, W]⟩ : Shape).Idx → α) → (⟨2, ![128, W]⟩ : Shape).Idx → α)
    (g : (⟨2, ![2304, W]⟩ : Shape).Idx → α) : part i st g (2 * 0) = g :=
  funext fun y => if_neg (Nat.not_lt_zero _)

theorem loop3q_part (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) (n : ℕ) (hn : n ≤ 9) :
    arg10.view.read (Elt F) (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).1) = part i (stq i X) (arg10.view.read (Elt F) G10) (2 * n) := by
  induction n with
  | zero => exact (part_zero _ _ _).symm
  | succ n ih =>
    have hN : k0_t3_loop.trips = 9 := by decide
    have ih' := ih (by omega)
    rw [show (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 (n + 1)).1 = (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 ⟨n, by omega⟩ (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).1) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.1) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.1) (arg14.view.writes (Elt F) G14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.2)).1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).1 from
      congrArg Prod.fst (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 ⟨n, by omega⟩)]
    dsimp only [tripL_k0_t3]
    by_cases hd : (i 1).val = 0
    · have h1 : k0_cond1 i = 1#1 := (cond1_iff i).mpr hd
      have h2 : ¬ k0_cond2 i = 1#1 := fun h => (cond2_iff i).mp h hd
      rw [dif_pos h1, dif_neg h2, trip3q_fwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg10 G10 _ (stq i X) _ ⟨n, by omega⟩ (off11_ch i ⟨n, by omega⟩ 1) (off11_ch i ⟨n, by omega⟩ 0) _ _ _ _ ih'
        (by unfold stq; rw [if_pos hd]) (by unfold stq; rw [if_pos hd])
    · have h1 : ¬ k0_cond1 i = 1#1 := fun h => hd ((cond1_iff i).mp h)
      have h2 : k0_cond2 i = 1#1 := (cond2_iff i).mpr hd
      rw [dif_neg h1, dif_pos h2, trip3q_bwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg10 G10 _ (stq i X) _ ⟨n, by omega⟩ (off13_ch i ⟨n, by omega⟩ 1) (off13_ch i ⟨n, by omega⟩ 0) _ _ _ _ ih'
        (by unfold stq; rw [if_neg hd]; exact congrArg (k0_pay21 _) (load1 i arg10 G10 _ (stq i X) _ ⟨n, by omega⟩ (off13_ch i ⟨n, by omega⟩ 1) (off13_ch i ⟨n, by omega⟩ 0) _ _ _ ih'))
        (by unfold stq; rw [if_neg hd]; exact congrArg (k0_pay21 _) (load0 i arg10 G10 _ (stq i X) _ ⟨n, by omega⟩ (off13_ch i ⟨n, by omega⟩ 0) _ ih'))

theorem loop3q (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) :
    arg10.view.read (Elt F) (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 9).1) = full i (stq i X) (arg10.view.read (Elt F) G10) :=
  (loop3q_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16 G10 G11 G12 G14 9 (le_refl _)).trans (full_of_part _ _ _)

theorem loop3k_part (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) (n : ℕ) (hn : n ≤ 9) :
    arg11.view.read (Elt F) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.1) = part i (stk i X) (arg11.view.read (Elt F) G11) (2 * n) := by
  induction n with
  | zero => exact (part_zero _ _ _).symm
  | succ n ih =>
    have hN : k0_t3_loop.trips = 9 := by decide
    have ih' := ih (by omega)
    rw [show (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 (n + 1)).2.1 = (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 ⟨n, by omega⟩ (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).1) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.1) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.1) (arg14.view.writes (Elt F) G14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.2)).2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.1 from
      congrArg (fun p => p.2.1) (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 ⟨n, by omega⟩)]
    dsimp only [tripL_k0_t3]
    by_cases hd : (i 1).val = 0
    · have h1 : k0_cond1 i = 1#1 := (cond1_iff i).mpr hd
      have h2 : ¬ k0_cond2 i = 1#1 := fun h => (cond2_iff i).mp h hd
      rw [dif_pos h1, dif_neg h2, trip3k_fwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg11 G11 _ (stk i X) _ ⟨n, by omega⟩ (off11_ch i ⟨n, by omega⟩ 1) (off11_ch i ⟨n, by omega⟩ 0) _ _ _ _ ih'
        (by unfold stk; rw [if_pos hd]) (by unfold stk; rw [if_pos hd])
    · have h1 : ¬ k0_cond1 i = 1#1 := fun h => hd ((cond1_iff i).mp h)
      have h2 : k0_cond2 i = 1#1 := (cond2_iff i).mpr hd
      rw [dif_neg h1, dif_pos h2, trip3k_bwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg11 G11 _ (stk i X) _ ⟨n, by omega⟩ (off13_ch i ⟨n, by omega⟩ 1) (off13_ch i ⟨n, by omega⟩ 0) _ _ _ _ ih'
        (by unfold stk; rw [if_neg hd]; exact congrArg (k0_pay22 _) (load1 i arg11 G11 _ (stk i X) _ ⟨n, by omega⟩ (off13_ch i ⟨n, by omega⟩ 1) (off13_ch i ⟨n, by omega⟩ 0) _ _ _ ih'))
        (by unfold stk; rw [if_neg hd]; exact congrArg (k0_pay22 _) (load0 i arg11 G11 _ (stk i X) _ ⟨n, by omega⟩ (off13_ch i ⟨n, by omega⟩ 0) _ ih'))

theorem loop3k (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) :
    arg11.view.read (Elt F) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 9).2.1) = full i (stk i X) (arg11.view.read (Elt F) G11) :=
  (loop3k_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16 G10 G11 G12 G14 9 (le_refl _)).trans (full_of_part _ _ _)

theorem loop3v_part (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) (n : ℕ) (hn : n ≤ 9) :
    arg12.view.read (Elt F) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.1) = part i (stv i X) (arg12.view.read (Elt F) G12) (2 * n) := by
  induction n with
  | zero => exact (part_zero _ _ _).symm
  | succ n ih =>
    have hN : k0_t3_loop.trips = 9 := by decide
    have ih' := ih (by omega)
    rw [show (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 (n + 1)).2.2.1 = (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 ⟨n, by omega⟩ (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).1) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.1) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.1) (arg14.view.writes (Elt F) G14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.2)).2.2.1 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 n).2.2.1 from
      congrArg (fun p => p.2.2.1) (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 ⟨n, by omega⟩)]
    dsimp only [tripL_k0_t3]
    by_cases hd : (i 1).val = 0
    · have h1 : k0_cond1 i = 1#1 := (cond1_iff i).mpr hd
      have h2 : ¬ k0_cond2 i = 1#1 := fun h => (cond2_iff i).mp h hd
      rw [dif_pos h1, dif_neg h2, trip3v_fwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg12 G12 _ (stv i X) _ ⟨n, by omega⟩ (off12_ch i ⟨n, by omega⟩ 1) (off12_ch i ⟨n, by omega⟩ 0) _ _ _ _ ih'
        (by unfold stv; rw [if_pos hd]) (by unfold stv; rw [if_pos hd])
    · have h1 : ¬ k0_cond1 i = 1#1 := fun h => hd ((cond1_iff i).mp h)
      have h2 : k0_cond2 i = 1#1 := (cond2_iff i).mpr hd
      rw [dif_neg h1, dif_pos h2, trip3v_bwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16]
      exact part_step i arg12 G12 _ (stv i X) _ ⟨n, by omega⟩ (off14_ch i ⟨n, by omega⟩ 1) (off14_ch i ⟨n, by omega⟩ 0) _ _ _ _ ih'
        (by unfold stv; rw [if_neg hd]; exact congrArg (k0_pay23 _) (load1 i arg12 G12 _ (stv i X) _ ⟨n, by omega⟩ (off14_ch i ⟨n, by omega⟩ 1) (off14_ch i ⟨n, by omega⟩ 0) _ _ _ ih'))
        (by unfold stv; rw [if_neg hd]; exact congrArg (k0_pay23 _) (load0 i arg12 G12 _ (stv i X) _ ⟨n, by omega⟩ (off14_ch i ⟨n, by omega⟩ 0) _ ih'))

theorem loop3v (𝒱 : Variants) (c : Dev nD) (bd : Option 𝒱.V) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole) (X : Blk F) (arg1 : BitVec 32) (v8 : FVec F S128x1 .f32)
    (X16 : BufTy.Contents (Elt F) arg16.view.ty) (h16 : ∀ t, slab (arg16.view.read (Elt F) X16) t = dst i X t)
    (G10 : BufTy.Contents (Elt F) arg10.view.ty) (G11 : BufTy.Contents (Elt F) arg11.view.ty) (G12 : BufTy.Contents (Elt F) arg12.view.ty) (G14 : BufTy.Contents (Elt F) arg14.view.ty) :
    arg12.view.read (Elt F) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 (w24 i X) (w29 i X) (w34 i X) (w38 i X) (harg3.unread X.q) (harg4.unread X.k) (harg5.unread X.v) (harg6.unread X.c) (harg7.unread X.s) (harg8.unread X.st) (harg9.unread X.dO) X16 G10 G11 G12 G14 9).2.2.1) = full i (stv i X) (arg12.view.read (Elt F) G12) :=
  (loop3v_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X arg1 v8 X16 h16 G10 G11 G12 G14 9 (le_refl _)).trans (full_of_part _ _ _)

end Cert.KernelIdeal.Hand
end
-- ==== Proof.Body.lean ====
module

public import proofs.«01_k».proof.Proof.Loops12
public import proofs.«01_k».proof.Proof.Loop3
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one entry the body reads of the log decays. -/
theorem lg_idx (i : grid0.Coords) (x : S1x1.Idx) (inb : ∀ a, k0_off1 i a + S1x1.size a ≤ S2x8.size a) :
    (Rect.unit (s := S2x8) (k0_off1 i) S1x1.size inb).toLoadRect.idx x = ix2 (i 1) (i 0) := by
  funext a
  refine Fin.ext ?_
  show k0_off1 i a + 1 * (x a).val = _
  rw [k0_off1_eq]
  match a with
  | ⟨0, _⟩ =>
    have h : (x 0).val < 1 := (x 0).isLt
    show (i 1).val + 1 * (x 0).val = (i 1).val
    omega
  | ⟨1, _⟩ =>
    have h : (x 1).val < 1 := (x 1).isLt
    show (i 0).val + 1 * (x 1).val = (i 0).val
    omega

-- (the run's proof term is large: checking it walks past the default budget)
set_option maxHeartbeats 1000000 in
/-- The body's triple: on whole staging memrefs, the inputs' at the blocks `X` and the three gradients' at `y`, the body
    runs to the continuation holding the inputs' as they were and each gradient's with every chunk stored over `y`; the
    fourth result's and the scratch end at some contents. -/
theorem body_run (c : Dev nD) (i : grid0.Coords) (arg2 : Memref sig .tc .smem S2x8 .f32) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S2304x256 .bf16) (harg5 : arg5.IsWhole) (arg6 : Memref sig .tc .vmem S2304x128 .f32) (harg6 : arg6.IsWhole) (arg7 : Memref sig .tc .vmem S2304x128 .f32) (harg7 : arg7.IsWhole) (arg8 : Memref sig .tc .vmem S1x1x18x128x256 .f32) (harg8 : arg8.IsWhole) (arg9 : Memref sig .tc .vmem S2304x256 .bf16) (harg9 : arg9.IsWhole) (arg10 : Memref sig .tc .vmem S2304x128 .bf16) (harg10 : arg10.IsWhole) (arg11 : Memref sig .tc .vmem S2304x128 .bf16) (harg11 : arg11.IsWhole) (arg12 : Memref sig .tc .vmem S2304x256 .bf16) (harg12 : arg12.IsWhole) (arg13 : Memref sig .tc .vmem S1x1x8x128 .f32) (harg13 : arg13.IsWhole) (arg14 : Memref sig .tc .vmem S8x128 .f32) (harg14 : arg14.IsWhole) (arg15 : Memref sig .tc .vmem S18x128x256 .f32) (harg15 : arg15.IsWhole) (arg16 : Memref sig .tc .vmem S18x128x256 .f32) (harg16 : arg16.IsWhole)
    (X : Blk F) (y10 : Vec F S2304x128 .bf16) (y11 : Vec F S2304x128 .bf16) (y12 : Vec F S2304x256 .bf16) :
      ∀ (E : Set ℕ) (K : PUnit → sProp 𝕄),
        iprop(owns (c : Thread nD τ) arg2 fullShare X.lg ∗ owns (c : Thread nD τ) arg3 fullShare X.q ∗ owns (c : Thread nD τ) arg4 fullShare X.k ∗ owns (c : Thread nD τ) arg5 fullShare X.v ∗ owns (c : Thread nD τ) arg6 fullShare X.c ∗ owns (c : Thread nD τ) arg7 fullShare X.s ∗ owns (c : Thread nD τ) arg8 fullShare X.st ∗ owns (c : Thread nD τ) arg9 fullShare X.dO ∗ owns (c : Thread nD τ) arg10 fullShare y10 ∗ owns (c : Thread nD τ) arg11 fullShare y11 ∗ owns (c : Thread nD τ) arg12 fullShare y12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare X.lg ∗ owns (c : Thread nD τ) arg3 fullShare X.q ∗ owns (c : Thread nD τ) arg4 fullShare X.k ∗ owns (c : Thread nD τ) arg5 fullShare X.v ∗ owns (c : Thread nD τ) arg6 fullShare X.c ∗ owns (c : Thread nD τ) arg7 fullShare X.s ∗ owns (c : Thread nD τ) arg8 fullShare X.st ∗ owns (c : Thread nD τ) arg9 fullShare X.dO ∗ owns (c : Thread nD τ) arg10 fullShare (full i (stq i X) y10) ∗ owns (c : Thread nD τ) arg11 fullShare (full i (stk i X) y11) ∗ owns (c : Thread nD τ) arg12 fullShare (full i (stv i X) y12) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_ret_bwd_0 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_ret_bwd_0_eq_skeleton]; unfold cc0_ret_bwd_0_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    subst hf8 hf9 hf10
    sl_exec
    sl_step
    have hr : body_run.sl.r c i arg2 harg2 X = lgv i X :=
      (congrFun (harg2.read_unread X.lg) _).trans (congrArg X.lg (lg_idx i _ _))
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [show body_run.sl.r_1 c i arg2 harg2 X = w24 i X from congrArg (k0_pay66 i) hr,
        show body_run.sl.r_2 c i arg2 harg2 X = w29 i X from congrArg (k0_pay67 i) hr,
        show body_run.sl.r_3 c i arg2 harg2 X = w34 i X from congrArg (k0_pay68 i) hr,
        show body_run.sl.r_4 c i arg2 harg2 X = w38 i X from congrArg k0_pay69 hr,
        show Scf.trips k0_t1_loop.lb k0_t1_loop.ub k0_t1_loop.st = 9 from by decide,
        show Scf.trips k0_t2_loop.lb k0_t2_loop.ub k0_t2_loop.st = 18 from by decide]
      exact loop3q _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ _ (fun t => loop2 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ (fun t => loop1 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ t) _ t) _ _ _ _
    isplitl [H9]
    · iexists _; isplitr; swap; · iexact H9
      ipureintro
      rw [show body_run.sl.r_1 c i arg2 harg2 X = w24 i X from congrArg (k0_pay66 i) hr,
        show body_run.sl.r_2 c i arg2 harg2 X = w29 i X from congrArg (k0_pay67 i) hr,
        show body_run.sl.r_3 c i arg2 harg2 X = w34 i X from congrArg (k0_pay68 i) hr,
        show body_run.sl.r_4 c i arg2 harg2 X = w38 i X from congrArg k0_pay69 hr,
        show Scf.trips k0_t1_loop.lb k0_t1_loop.ub k0_t1_loop.st = 9 from by decide,
        show Scf.trips k0_t2_loop.lb k0_t2_loop.ub k0_t2_loop.st = 18 from by decide]
      exact loop3k _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ _ (fun t => loop2 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ (fun t => loop1 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ t) _ t) _ _ _ _
    isplitl [H10]
    · iexists _; isplitr; swap; · iexact H10
      ipureintro
      rw [show body_run.sl.r_1 c i arg2 harg2 X = w24 i X from congrArg (k0_pay66 i) hr,
        show body_run.sl.r_2 c i arg2 harg2 X = w29 i X from congrArg (k0_pay67 i) hr,
        show body_run.sl.r_3 c i arg2 harg2 X = w34 i X from congrArg (k0_pay68 i) hr,
        show body_run.sl.r_4 c i arg2 harg2 X = w38 i X from congrArg k0_pay69 hr,
        show Scf.trips k0_t1_loop.lb k0_t1_loop.ub k0_t1_loop.st = 9 from by decide,
        show Scf.trips k0_t2_loop.lb k0_t2_loop.ub k0_t2_loop.st = 18 from by decide]
      exact loop3v _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ _ (fun t => loop2 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ (fun t => loop1 _ c _ i arg2 harg2 arg3 harg3 arg4 harg4 arg5 harg5 arg6 harg6 arg7 harg7 arg8 harg8 arg9 harg9 arg10 harg10 arg11 harg11 arg12 harg12 arg13 harg13 arg14 harg14 arg15 harg15 arg16 harg16 X _ _ t) _ t) _ _ _ _
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.Run.lean ====
module

public import proofs.«01_k».proof.Proof.Body
public import Idealize.ShloMosaic.Lib.Pipeline.ValueKit
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- The two directions' stores cover the grid, so no output is ever idle. -/
theorem live_8 : ∀ i : grid0.Coords, cfg0.idle 8 i = false := by decide +kernel
theorem live_9 : ∀ i : grid0.Coords, cfg0.idle 9 i = false := by decide +kernel
theorem live_10 : ∀ i : grid0.Coords, cfg0.idle 10 i = false := by decide +kernel
theorem liveAt0_8 : ∀ t : Fin cfg0.N, cfg0.idle 8 (grid0.coords t) = false := fun _ => live_8 _
theorem liveAt0_9 : ∀ t : Fin cfg0.N, cfg0.idle 9 (grid0.coords t) = false := fun _ => live_9 _
theorem liveAt0_10 : ∀ t : Fin cfg0.N, cfg0.idle 10 (grid0.coords t) = false := fun _ => live_10 _

/-! ## The kernel body on any staging memrefs -/

/-- Each window's current staging memref at point `t`, spelled as the pipeline passes it (`bodyAt0`), and its wholeness. -/
abbrev ms0_0 (t : Fin cfg0.N) : Memref sig .tc .smem S2x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2304x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x18x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2304x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2304x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2304x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2304x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S8x128 .f32 := Memref.whole cc0_scratch0
abbrev scM0_1 : Memref sig .tc .vmem S18x128x256 .f32 := Memref.whole cc0_scratch1
abbrev scM0_2 : Memref sig .tc .vmem S18x128x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What each grid point leaves -/

/-- The blocks of grid point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- The grid point before. -/
def prv (t : Fin cfg0.N) : Fin cfg0.N := ⟨t.val - 1, Nat.lt_of_le_of_lt (Nat.sub_le _ _) t.isLt⟩

theorem fwd_q (i : grid0.Coords) (X : Blk F) (h : (i 1).val = 0) (y y') : full i (stq i X) y = full i (stq i X) y' := by
  unfold full stq; simp only [if_pos h]
theorem fwd_k (i : grid0.Coords) (X : Blk F) (h : (i 1).val = 0) (y y') : full i (stk i X) y = full i (stk i X) y' := by
  unfold full stk; simp only [if_pos h]
theorem fwd_v (i : grid0.Coords) (X : Blk F) (h : (i 1).val = 0) (y y') : full i (stv i X) y = full i (stv i X) y' := by
  unfold full stv; simp only [if_pos h]

/-- The gradient of the queries a grid point leaves: the forward direction's, or the backward direction's added over
what the point before left. -/
def outq (c : Dev nD) (t : Fin cfg0.N) : Vec F S2304x128 .bf16 :=
  full (grid0.coords t) (stq (grid0.coords t) (blk m c t)) (if (grid0.coords t 1).val = 0 then constant S2304x128 .bf16 0x0000#16
    else full (grid0.coords (prv t)) (stq (grid0.coords (prv t)) (blk m c (prv t))) (constant S2304x128 .bf16 0x0000#16))
/-- The gradient of the keys a grid point leaves. -/
def outk (c : Dev nD) (t : Fin cfg0.N) : Vec F S2304x128 .bf16 :=
  full (grid0.coords t) (stk (grid0.coords t) (blk m c t)) (if (grid0.coords t 1).val = 0 then constant S2304x128 .bf16 0x0000#16
    else full (grid0.coords (prv t)) (stk (grid0.coords (prv t)) (blk m c (prv t))) (constant S2304x128 .bf16 0x0000#16))
/-- The gradient of the values a grid point leaves. -/
def outv (c : Dev nD) (t : Fin cfg0.N) : Vec F S2304x256 .bf16 :=
  full (grid0.coords t) (stv (grid0.coords t) (blk m c t)) (if (grid0.coords t 1).val = 0 then constant S2304x256 .bf16 0x0000#16
    else full (grid0.coords (prv t)) (stv (grid0.coords (prv t)) (blk m c (prv t))) (constant S2304x256 .bf16 0x0000#16))

/-! ## The pipeline's proof data -/

/-- Nothing is stated of window 11, which the program does not return. -/
def forgets0 : Fin 12 → Bool := fun w => w.val == 11

/-- The proof data of the pipeline on core `c`: after point `t` each input's buffer holds its block and each gradient's
what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outq m c t
    | ⟨9, _⟩ => outk m c t
    | ⟨10, _⟩ => outv m c t
    | ⟨11, h⟩ => Pipeline.Dat.unnamed (cfg := cfg0) ⟨11, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem after0_8 (c : Dev nD) (t : Fin cfg0.N) : (dats m 0 c).after 8 t = outq m c t := by dsimp only [dats]
theorem after0_9 (c : Dev nD) (t : Fin cfg0.N) : (dats m 0 c).after 9 t = outk m c t := by dsimp only [dats]
theorem after0_10 (c : Dev nD) (t : Fin cfg0.N) : (dats m 0 c).after 10 t = outv m c t := by dsimp only [dats]

/-- Which points are of the forward direction, and where the outputs are written back: after each backward point. -/
theorem parity : ∀ t : Fin cfg0.N, ((grid0.coords t 1).val = 0 ↔ t.val % 2 = 0) :=
  (by decide +kernel : ∀ t : Fin grid0.N, ((grid0.coords t 1).val = 0 ↔ t.val % 2 = 0))
theorem flush8 : ∀ t : Fin cfg0.N, (cfg0.win 8).flush t = decide (t.val % 2 = 1) :=
  (by decide +kernel : ∀ t : Fin grid0.N, (cfg0.win 8).flush t = decide (t.val % 2 = 1))

/-- What a point leaves in window 8, over what it finds there. -/
theorem out8_before (c : Dev nD) (t : Fin cfg0.N) (d) :
    full (grid0.coords t) (stq (grid0.coords t) (blk m c t)) ((dats m 0 c).before 8 t d) = outq m c t := by
  by_cases h : (grid0.coords t 1).val = 0
  · exact fwd_q _ _ h _ _
  · have ht : t.val % 2 = 1 := by have := parity t; omega
    have hp : (grid0.coords (prv t) 1).val = 0 := (parity (prv t)).mpr (by show (t.val - 1) % 2 = 0; omega)
    have hb : (dats m 0 c).before 8 t d = outq m c (prv t) :=
      (Dat.before_out_kept (dats m 0 c) 8 rfl t (by omega) ((flush8 (prv t)).trans (decide_eq_false (by show ¬ (t.val - 1) % 2 = 1; omega)))
        live_8 (fun _ _ => rfl) d).trans (after0_8 m c (prv t))
    rw [hb]
    unfold outq
    rw [if_neg h, if_pos hp]

theorem flush9 : ∀ t : Fin cfg0.N, (cfg0.win 9).flush t = decide (t.val % 2 = 1) :=
  (by decide +kernel : ∀ t : Fin grid0.N, (cfg0.win 9).flush t = decide (t.val % 2 = 1))

/-- What a point leaves in window 9, over what it finds there. -/
theorem out9_before (c : Dev nD) (t : Fin cfg0.N) (d) :
    full (grid0.coords t) (stk (grid0.coords t) (blk m c t)) ((dats m 0 c).before 9 t d) = outk m c t := by
  by_cases h : (grid0.coords t 1).val = 0
  · exact fwd_k _ _ h _ _
  · have ht : t.val % 2 = 1 := by have := parity t; omega
    have hp : (grid0.coords (prv t) 1).val = 0 := (parity (prv t)).mpr (by show (t.val - 1) % 2 = 0; omega)
    have hb : (dats m 0 c).before 9 t d = outk m c (prv t) :=
      (Dat.before_out_kept (dats m 0 c) 9 rfl t (by omega) ((flush9 (prv t)).trans (decide_eq_false (by show ¬ (t.val - 1) % 2 = 1; omega)))
        live_9 (fun _ _ => rfl) d).trans (after0_9 m c (prv t))
    rw [hb]
    unfold outk
    rw [if_neg h, if_pos hp]

theorem flush10 : ∀ t : Fin cfg0.N, (cfg0.win 10).flush t = decide (t.val % 2 = 1) :=
  (by decide +kernel : ∀ t : Fin grid0.N, (cfg0.win 10).flush t = decide (t.val % 2 = 1))

/-- What a point leaves in window 10, over what it finds there. -/
theorem out10_before (c : Dev nD) (t : Fin cfg0.N) (d) :
    full (grid0.coords t) (stv (grid0.coords t) (blk m c t)) ((dats m 0 c).before 10 t d) = outv m c t := by
  by_cases h : (grid0.coords t 1).val = 0
  · exact fwd_v _ _ h _ _
  · have ht : t.val % 2 = 1 := by have := parity t; omega
    have hp : (grid0.coords (prv t) 1).val = 0 := (parity (prv t)).mpr (by show (t.val - 1) % 2 = 0; omega)
    have hb : (dats m 0 c).before 10 t d = outv m c (prv t) :=
      (Dat.before_out_kept (dats m 0 c) 10 rfl t (by omega) ((flush10 (prv t)).trans (decide_eq_false (by show ¬ (t.val - 1) % 2 = 1; omega)))
        live_10 (fun _ _ => rfl) d).trans (after0_10 m c (prv t))
    rw [hb]
    unfold outv
    rw [if_neg h, if_pos hp]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((body_run c (grid0.coords t) _ _ _ _ _ _ _ _ _ _ _ _ _ _ _ _ _ _ _ _ _ _ _ _ _ _ _ _ _ _ (blk m c t) ((dats m 0 c).before 8 t d8) ((dats m 0 c).before 9 t d9) ((dats m 0 c).before 10 t d10)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  rw [out8_before, out9_before, out10_before]
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of
    window 11 (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.KernelIdeal.Hand

end
-- ==== Proof.Frame.lean ====
module

public import proofs.«01_k».proof.Proof.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]
variable (m : (ℓ : Loc nD τ sig) → Buf (Elt F) ℓ) (ρ : Dev nD → PrngReg)

/-! The frame of the kernel's program, and its run with the three results at the arrays its output windows leave. -/

/-- A run that ends with the pipeline's arrays as relational proof data over the entry contents describes them ends with the
arguments unchanged. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 3 rfl).trans ((hA c 3).trans (V_main_arg0 m c)),
      (Pipeline.RDat.FramePost.arr_in h c 0 rfl).trans ((hA c 0).trans (V_main_arg1 m c)),
      (Pipeline.RDat.FramePost.arr_in h c 7 rfl).trans ((hA c 7).trans (V_main_arg2 m c))⟩) h

/-- The kernel's run leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_of m ρ (fun c => (dats m 0 c).toRForget forgets0) (A_eq m) (run_main m ρ)

/-- The kernel's run terminates with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What relational proof data with window 11 forgotten says of an array it does not forget: the exact array. -/
theorem arr_of (r) (h : Pipeline.RDat.FramePost (cfgs 0) (fun c => (dats m 0 c).toRForget forgets0) (V m) r) (c : Dev nD)
    (w : Fin cfg0.W) (hw : forgets0 w = false) :
    r.2.mem ((cfg0.win w).arr.view.loc (c.tc : Thread nD τ)) = (dats m 0 c).arrAt w cfg0.N :=
  ((dats m 0 c).toRForget_arrAt_iff hw _ _).mp ((h c).1 w)

/-- The kernel's run: the three results end as the arrays its output windows 8, 9 and 10 leave, the arguments unchanged. -/
theorem run_arrays : θ_run defs (onTc (τ := τ) (main (F := F))) ⟨m, fun _ => 0, ρ⟩ (fun r => ∀ c : Dev nD,
      r.2.mem ((c.tc : Thread nD τ).loc main_v147_0) = (dats m 0 c).arrAt 8 cfg0.N
      ∧ r.2.mem ((c.tc : Thread nD τ).loc main_v147_1) = (dats m 0 c).arrAt 9 cfg0.N
      ∧ r.2.mem ((c.tc : Thread nD τ).loc main_v147_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨arr_of m r h.1 c 8 rfl, arr_of m r h.1 c 9 rfl, arr_of m r h.1 c 10 rfl, h.2 c⟩)
    (θ_run_and (run_main m ρ) (unchanged m ρ))

end Cert.KernelIdeal.Hand

end
-- ==== Proof.KernelFrame.lean ====
module

public import proofs.«01_k».proof.Defs
public import proofs.«01_k».proof.Proof.Frame
public import proofs.«01_k».proof.Proof.Gen.Kernel

@[expose] public section

set_option maxRecDepth 16384

noncomputable section

namespace Cert.Proof

open Idealize.ShloMosaic Idealize.ShloMosaic.TcCoe Idealize.ShloMosaic.Tactic Idealize.SL.Sem

/-- The printed kernel has the text of its ideal form, so over the floats' words a statement of the one's run is the same of the other's. -/
theorem same_text : (∀ (m : (ℓ : Loc Cert.KernelIdeal.nD Cert.KernelIdeal.τ Cert.KernelIdeal.sig) → Buf (Elt Bits) ℓ) (ρ : Dev Cert.KernelIdeal.nD → PrngReg),
    Cert.Pre_Kernel m → θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) = Cert.quiescent_Kernel (hKernel := Cert.Kernel.Gen.facts) := by
  sl_kernel_rfl

/-- The printed kernel ends, with its arguments unchanged and every semaphore counter at zero. -/
theorem printedFrame : Cert.quiescent_Kernel (hKernel := Cert.Kernel.Gen.facts) :=
  same_text.mp fun m ρ _ => Cert.KernelIdeal.Hand.frame (F := Bits) m ρ

end Cert.Proof

end
-- ==== Proof.Order.lean ====
module

public import Idealize.ShloMosaic.PureOps.Ideal

@[expose] public section

noncomputable section

namespace Cert.Sums

/-! The order in which a direction visits the rows, and the sums over the rows regrouped by chunks of 128: the part inside
a row's own chunk, and the part outside as one sum the chunk's decay factors out of. `d = 0` is the forward direction. -/

/-- The place of a row in direction `d`. -/
def posn (d : ℕ) (r : Fin 2304) : ℕ := if d = 0 then (r.val + 256) % 2304 else 2303 - r.val

/-- The place of a row within its chunk. -/
def pl (d : ℕ) (j : Fin 128) : ℕ := if d = 0 then j.val else 127 - j.val

/-- The chunk visited at position `t`. -/
def chk (d : ℕ) (t : Fin 18) : Fin 18 := ⟨if d = 0 then (t.val + 16) % 18 else 17 - t.val, by split <;> omega⟩

/-- The position at which a chunk is visited. -/
def slk (d : ℕ) (n : Fin 18) : Fin 18 := ⟨if d = 0 then (n.val + 2) % 18 else 17 - n.val, by split <;> omega⟩

/-- Row `j` of chunk `n`. -/
def rw (n : Fin 18) (j : Fin 128) : Fin 2304 := ⟨128 * n.val + j.val, by omega⟩

theorem posn_rw (d : ℕ) (t : Fin 18) (j : Fin 128) : posn d (rw (chk d t) j) = 128 * t.val + pl d j := by
  unfold posn rw chk pl
  dsimp only
  split <;> omega

theorem pl_lt (d : ℕ) (j : Fin 128) : pl d j < 128 := by unfold pl; split <;> omega

/-- Rows as pairs of a position and a row of the chunk visited there. -/
def split (d : ℕ) : Fin 18 × Fin 128 ≃ Fin 2304 where
  toFun x := rw (chk d x.1) x.2
  invFun r := (slk d ⟨r.val / 128, by omega⟩, ⟨r.val % 128, by omega⟩)
  left_inv x := by
    obtain ⟨t, j⟩ := x
    refine Prod.ext (Fin.ext ?_) (Fin.ext ?_)
    · unfold rw chk slk; dsimp only; split <;> omega
    · unfold rw chk; dsimp only; omega
  right_inv r := by
    refine Fin.ext ?_
    unfold rw chk slk
    dsimp only
    split <;> omega

/-- A sum over the rows, chunk by chunk in the order of the direction. -/
theorem sum_rows (d : ℕ) (f : Fin 2304 → ℝ) : ∑ r, f r = ∑ t, ∑ j, f (rw (chk d t) j) :=
  ((split d).sum_comp f).symm.trans (Fintype.sum_prod_type _)

/-- The decay from row `m` to row `n`. -/
def W (d : ℕ) (g : ℝ) (n m : Fin 2304) : ℝ := if posn d m ≤ posn d n then Real.exp (((posn d n : ℝ) - posn d m) * g) else 0

/-- The decay inside a chunk. -/
def D (d : ℕ) (g : ℝ) (i j : Fin 128) : ℝ := if pl d j ≤ pl d i then Real.exp (((pl d i : ℝ) - pl d j) * g) else 0

/-- The decay from a row to just before the chunk at position `t`. -/
def wBefore (d : ℕ) (g : ℝ) (t : Fin 18) (m : Fin 2304) : ℝ :=
  if posn d m + 1 ≤ 128 * t.val then Real.exp ((128 * (t.val : ℝ) - 1 - posn d m) * g) else 0

/-- The decay from just after the chunk at position `t` to a row. -/
def wAfter (d : ℕ) (g : ℝ) (t : Fin 18) (n : Fin 2304) : ℝ :=
  if 128 * (t.val + 1) ≤ posn d n then Real.exp (((posn d n : ℝ) - 128 * ((t.val : ℝ) + 1) + 1) * g) else 0

/-- A row's decayed sum over the rows not after it: its own chunk's part and the rest, through the state before the chunk. -/
theorem sum_before (d : ℕ) (g : ℝ) (t : Fin 18) (i : Fin 128) (f : Fin 2304 → ℝ) :
    ∑ m, W d g (rw (chk d t) i) m * f m
      = ∑ j, D d g i j * f (rw (chk d t) j) + (∑ m, wBefore d g t m * f m) * Real.exp (((pl d i : ℝ) + 1) * g) := by
  have hi := pl_lt d i
  rw [sum_rows d, sum_rows d (fun m => wBefore d g t m * f m),
    ← Finset.sum_ite_eq' Finset.univ t (fun t' => ∑ j, D d g i j * f (rw (chk d t') j)) |>.trans (if_pos (Finset.mem_univ t)),
    Finset.sum_mul, ← Finset.sum_add_distrib]
  refine Finset.sum_congr rfl fun t' _ => ?_
  by_cases h : t' = t
  · subst h
    rw [if_pos rfl, Finset.sum_eq_zero (f := fun j => wBefore d g t' (rw (chk d t') j) * f (rw (chk d t') j)), zero_mul, add_zero]
    · refine Finset.sum_congr rfl fun j _ => ?_
      unfold W D
      rw [posn_rw, posn_rw]
      have : (128 * t'.val + pl d j ≤ 128 * t'.val + pl d i) ↔ pl d j ≤ pl d i := by omega
      simp only [this]
      push_cast
      congr 3
      ring_nf
    · intro j _
      unfold wBefore
      rw [posn_rw, if_neg (by omega), zero_mul]
  · rw [if_neg h, zero_add, Finset.sum_mul]
    refine Finset.sum_congr rfl fun j _ => ?_
    have hj := pl_lt d j
    unfold W wBefore
    rw [posn_rw, posn_rw]
    have h' : t'.val ≠ t.val := fun e => h (Fin.ext e)
    by_cases hl : t'.val < t.val
    · rw [if_pos (by omega), if_pos (by omega), mul_right_comm, ← Real.exp_add]
      congr 2
      push_cast
      ring
    · rw [if_neg (by omega), if_neg (by omega)]
      ring

/-- A row's decayed sum over the rows not before it: its own chunk's part and the rest, through the state after the chunk. -/
theorem sum_after (d : ℕ) (g : ℝ) (t : Fin 18) (j : Fin 128) (f : Fin 2304 → ℝ) :
    ∑ n, W d g n (rw (chk d t) j) * f n
      = ∑ i, D d g i j * f (rw (chk d t) i) + (∑ n, wAfter d g t n * f n) * Real.exp ((127 - (pl d j : ℝ)) * g) := by
  have hi := pl_lt d j
  rw [sum_rows d, sum_rows d (fun m => wAfter d g t m * f m),
    ← Finset.sum_ite_eq' Finset.univ t (fun t' => ∑ i, D d g i j * f (rw (chk d t') i)) |>.trans (if_pos (Finset.mem_univ t)),
    Finset.sum_mul, ← Finset.sum_add_distrib]
  refine Finset.sum_congr rfl fun t' _ => ?_
  by_cases h : t' = t
  · subst h
    rw [if_pos rfl, Finset.sum_eq_zero (f := fun j => wAfter d g t' (rw (chk d t') j) * f (rw (chk d t') j)), zero_mul, add_zero]
    · refine Finset.sum_congr rfl fun i _ => ?_
      unfold W D
      rw [posn_rw, posn_rw]
      have : (128 * t'.val + pl d j ≤ 128 * t'.val + pl d i) ↔ pl d j ≤ pl d i := by omega
      simp only [this]
      push_cast
      congr 3
      ring_nf
    · intro i _
      have := pl_lt d i
      unfold wAfter
      rw [posn_rw, if_neg (by omega), zero_mul]
  · rw [if_neg h, zero_add, Finset.sum_mul]
    refine Finset.sum_congr rfl fun i _ => ?_
    have hj := pl_lt d i
    unfold W wAfter
    rw [posn_rw, posn_rw]
    have h' : t'.val ≠ t.val := fun e => h (Fin.ext e)
    by_cases hl : t.val < t'.val
    · rw [if_pos (by omega), if_pos (by omega), mul_right_comm, ← Real.exp_add]
      congr 2
      push_cast
      ring
    · rw [if_neg (by omega), if_neg (by omega)]
      ring

/-- The state carried back over the last `s` positions. -/
def C (d : ℕ) (g : ℝ) (f : Fin 2304 → ℝ) : ℕ → ℝ
  | 0 => 0
  | s + 1 => C d g f s * Real.exp (128 * g)
      + ∑ j, Real.exp (((pl d j : ℝ) + 1) * g) * f (rw (chk d ⟨(17 - s) % 18, Nat.mod_lt _ (by decide)⟩) j)

theorem C_eq (d : ℕ) (g : ℝ) (f : Fin 2304 → ℝ) (s : ℕ) (hs : s ≤ 18) :
    C d g f s = ∑ t : Fin 18, if 18 ≤ t.val + s then
      Real.exp (128 * ((t.val : ℝ) + s - 18) * g) * ∑ j, Real.exp (((pl d j : ℝ) + 1) * g) * f (rw (chk d t) j) else 0 := by
  induction s with
  | zero =>
    refine (Finset.sum_eq_zero fun t _ => if_neg (by omega)).symm
  | succ s ih =>
    have e : (⟨(17 - s) % 18, Nat.mod_lt _ (by decide)⟩ : Fin 18) = ⟨17 - s, by omega⟩ := Fin.ext (by dsimp only; omega)
    rw [C, ih (by omega), e,
      ← Finset.sum_ite_eq' Finset.univ (⟨17 - s, by omega⟩ : Fin 18)
        (fun t => ∑ j, Real.exp (((pl d j : ℝ) + 1) * g) * f (rw (chk d t) j)) |>.trans (if_pos (Finset.mem_univ _)),
      Finset.sum_mul, ← Finset.sum_add_distrib]
    refine Finset.sum_congr rfl fun t _ => ?_
    by_cases h : t = (⟨17 - s, by omega⟩ : Fin 18)
    · have hv : t.val = 17 - s := congrArg Fin.val h
      rw [if_pos h, if_neg (by omega), if_pos (by omega), zero_mul, zero_add]
      have : (t.val : ℝ) + ((s + 1 : ℕ) : ℝ) - 18 = 0 := by
        have : (t.val : ℝ) + ((s + 1 : ℕ) : ℝ) = ((t.val + (s + 1) : ℕ) : ℝ) := by push_cast; ring
        rw [this, show t.val + (s + 1) = 18 by omega]
        norm_num
      rw [this, mul_zero, zero_mul, Real.exp_zero, one_mul]
    · have hv : t.val ≠ 17 - s := fun e => h (Fin.ext e)
      rw [if_neg h, add_zero]
      by_cases hl : 18 ≤ t.val + s
      · rw [if_pos hl, if_pos (by omega), mul_right_comm, ← Real.exp_add]
        congr 2
        push_cast
        ring
      · rw [if_neg hl, if_neg (by omega), zero_mul]

/-- The state carried back to position `t` is the decayed sum over the rows after its chunk. -/
theorem C_after (d : ℕ) (g : ℝ) (f : Fin 2304 → ℝ) (t : Fin 18) : C d g f (17 - t.val) = ∑ n, wAfter d g t n * f n := by
  rw [C_eq d g f _ (by omega), sum_rows d]
  refine Finset.sum_congr rfl fun t' _ => ?_
  by_cases h : 18 ≤ t'.val + (17 - t.val)
  · rw [if_pos h, Finset.mul_sum]
    refine Finset.sum_congr rfl fun j _ => ?_
    have hj := pl_lt d j
    unfold wAfter
    rw [posn_rw, if_pos (by omega), ← mul_assoc, ← Real.exp_add]
    have : ((17 - t.val : ℕ) : ℝ) = 17 - t.val := by rw [Nat.cast_sub (by omega)]; norm_num
    rw [this]
    congr 2
    push_cast
    ring
  · rw [if_neg h]
    refine (Finset.sum_eq_zero fun j _ => ?_).symm
    have hj := pl_lt d j
    unfold wAfter
    rw [posn_rw, if_neg (by omega), zero_mul]

end Cert.Sums

end
-- ==== Proof.Consts.lean ====
module

public import Idealize.ShloMosaic.Lib.IdealHost
public import Idealize.ShloMosaic.Lib.Pointwise

@[expose] public section

noncomputable section

namespace Cert.Reals

open Idealize.ShloMosaic

/-! The extended-real readings of constants, of integers made floats and of sums, as reals. -/

/-- A sum of reals is the sum of the extended reals. -/
theorem coe_sum {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The real the kernel scales the keys by. -/
def scl : ℝ := 11863283 / 134217728

theorem bits_scl : Ideal.ofBits .f32 0x3DB504F3#32 = ((scl : ℝ) : EReal) := by
  simp [Ideal.ofBits, Ideal.ieee, -EReal.coe_mul, scl]; norm_num
theorem bits_127 : Ideal.ofBits .f32 0x42FE0000#32 = ((127 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_2048 : Ideal.ofBits .f32 0x45000000#32 = ((2048 : ℝ) : EReal) := by
  simp [Ideal.ofBits, Ideal.ieee, -EReal.coe_mul]; norm_num
theorem bits_2303 : Ideal.ofBits .f32 0x450FF000#32 = ((2303 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num

/-- A small natural as a 32-bit word is itself as an integer. -/
theorem toInt_ofNat (n : ℕ) (h : n < 2 ^ 31) : (BitVec.ofNat 32 n).toInt = (n : ℤ) := by
  rw [BitVec.toInt_eq_toNat_of_lt (by rw [BitVec.toNat_ofNat]; omega), BitVec.toNat_ofNat]
  omega

/-- A small natural made a float is that real. -/
theorem sitofp_nat (n : ℕ) (h : n < 2 ^ 31) : (FloatOps.sitofp (F := Ideal) .f32 (BitVec.ofNat 32 n) : EReal) = ((n : ℝ) : EReal) := by
  show ((((BitVec.ofNat 32 n).toInt : ℤ) : ℝ) : EReal) = _
  rw [toInt_ofNat n h]
  norm_num

/-- The difference of two small naturals made a float is the difference of the reals. -/
theorem sitofp_sub (a b : ℕ) (ha : a < 2 ^ 30) (hb : b < 2 ^ 30) :
    (FloatOps.sitofp (F := Ideal) .f32 (IntOp.subi (BitVec.ofNat 32 a) (BitVec.ofNat 32 b)) : EReal) = (((a : ℝ) - (b : ℝ) : ℝ) : EReal) := by
  show ((((BitVec.ofNat 32 a - BitVec.ofNat 32 b).toInt : ℤ) : ℝ) : EReal) = _
  rw [BitVec.toInt_sub, toInt_ofNat a (by omega), toInt_ofNat b (by omega), Int.bmod_eq_of_le (by omega) (by omega)]
  norm_num

/-- A word that spells the natural `k`: zero, or a positive normal float of that value. -/
def Spells (b : BitVec 32) (k : ℕ) : Prop :=
  b.extractLsb' 31 1 = 0#1 ∧
    ((k = 0 ∧ (b.extractLsb' 23 8).toNat = 0 ∧ (b.extractLsb' 0 23).toNat = 0)
      ∨ (1 ≤ (b.extractLsb' 23 8).toNat ∧ (b.extractLsb' 23 8).toNat ≤ 150
        ∧ 2 ^ 23 + (b.extractLsb' 0 23).toNat = k * 2 ^ (150 - (b.extractLsb' 23 8).toNat)))

instance (b : BitVec 32) (k : ℕ) : Decidable (Spells b k) := by unfold Spells; infer_instance

/-- Such a word reads as that real. -/
theorem ofBits_spells (b : BitVec 32) (k : ℕ) (h : Spells b k) : Ideal.ofBits .f32 b = ((k : ℝ) : EReal) := by
  obtain ⟨hs, h⟩ := h
  unfold Ideal.ofBits Ideal.ieee
  have hs' : (b.extractLsb' (8 + 23) 1 == 1#1) = false := by
    show (b.extractLsb' 31 1 == 1#1) = false
    rw [hs]; rfl
  rcases h with ⟨rfl, he, hf⟩ | ⟨h1, h2, hm⟩
  · dsimp only
    rw [hs', he, hf]
    norm_num
  · dsimp only
    rw [hs', if_neg (by omega), if_neg (by omega), hm]
    refine congrArg _ ?_
    have : ((b.extractLsb' 23 8).toNat : ℤ) - (2 ^ (8 - 1) - 1) - (23 : ℕ) = -((150 - (b.extractLsb' 23 8).toNat : ℕ) : ℤ) := by
      rw [Nat.cast_sub h2]; norm_num; ring
    rw [this, zpow_neg, zpow_natCast]
    push_cast
    simp only [Bool.false_eq_true, if_false, one_mul]
    rw [mul_assoc, mul_inv_cancel₀ (by positivity), mul_one]

end Cert.Reals

end
-- ==== Proof.KReal.lean ====
module

public import proofs.«01_k».proof.Proof.Blocks
public import proofs.«01_k».proof.Proof.Order
public import proofs.«01_k».proof.Proof.Consts

@[expose] public section

set_option maxRecDepth 16384

noncomputable section

namespace Cert.KernelIdeal.Hand

open Idealize.ShloMosaic Idealize.ShloMosaic.TcCoe Idealize.ShloMosaic.Tactic
open Cert.KernelIdeal.Gen Cert.Sums Cert.Reals

/-! What a grid point computes when its blocks hold reals, as real formulas. -/

/-- The blocks of one grid point as reals. -/
structure RBlk where
  g : ℝ
  q : Fin 2304 → Fin 128 → ℝ
  k : Fin 2304 → Fin 128 → ℝ
  v : Fin 2304 → Fin 256 → ℝ
  c : Fin 2304 → Fin 128 → ℝ
  s : Fin 2304 → Fin 128 → ℝ
  st : Fin 18 → Fin 128 → Fin 256 → ℝ
  dO : Fin 2304 → Fin 256 → ℝ

/-- The blocks hold those reals. -/
structure Holds (i : grid0.Coords) (X : Blk Ideal) (R : RBlk) : Prop where
  g : lgv i X = ((R.g : ℝ) : EReal)
  q : ∀ r a, X.q (ix2 r a) = ((R.q r a : ℝ) : EReal)
  k : ∀ r a, X.k (ix2 r a) = ((R.k r a : ℝ) : EReal)
  v : ∀ r e, X.v (ix2 r e) = ((R.v r e : ℝ) : EReal)
  c : ∀ r a, X.c (ix2 r a) = ((R.c r a : ℝ) : EReal)
  s : ∀ r a, X.s (ix2 r a) = ((R.s r a : ℝ) : EReal)
  st : ∀ t a e, X.st (ix5 0 0 t a e) = ((R.st t a e : ℝ) : EReal)
  dO : ∀ r e, X.dO (ix2 r e) = ((R.dO r e : ℝ) : EReal)

/-- The column a rotation by half the width reads. -/
def rot (a : Fin 128) : Fin 128 := ⟨(a.val + 128 - 64) % 128, Nat.mod_lt _ (by decide)⟩

/-- The rotary embedding of a row, by the two tables. -/
def rope (c s : Fin 2304 → Fin 128 → ℝ) (x : Fin 2304 → Fin 128 → ℝ) (r : Fin 2304) (a : Fin 128) : ℝ :=
  x r a * c r a + x r (rot a) * s r a

/-- Its transpose, of one row. -/
def ropeT (c s : Fin 2304 → Fin 128 → ℝ) (r : Fin 2304) (x : Fin 128 → ℝ) (a : Fin 128) : ℝ :=
  x a * c r a + x (rot a) * s r (rot a)

namespace RBlk
variable (R : RBlk) (d : ℕ)

/-- The rotated queries. -/
def Q (r : Fin 2304) (a : Fin 128) : ℝ := rope R.c R.s R.q r a
/-- The rotated and scaled keys. -/
def K (r : Fin 2304) (a : Fin 128) : ℝ := rope R.c R.s R.k r a * scl
/-- The cotangent of the scores. -/
def G (n m : Fin 2304) : ℝ := ∑ e, R.dO n e * R.v m e
/-- The state's cotangent after the last `s` positions. -/
def Cs (s : ℕ) (a : Fin 128) (e : Fin 256) : ℝ := C d R.g (fun n => R.Q n a * R.dO n e) s

/-- The rotated queries' gradient of the chunk at position `t`. -/
def dq (t : Fin 18) (i a : Fin 128) : ℝ :=
  ∑ j, R.G (rw (chk d t) i) (rw (chk d t) j) * D d R.g i j * R.K (rw (chk d t) j) a
    + (∑ e, R.dO (rw (chk d t) i) e * R.st t a e) * Real.exp (((pl d i : ℝ) + 1) * R.g)
/-- The rotated and scaled keys' gradient of the chunk at position `t`. -/
def dk (t : Fin 18) (j a : Fin 128) : ℝ :=
  ∑ i, R.G (rw (chk d t) i) (rw (chk d t) j) * D d R.g i j * R.Q (rw (chk d t) i) a
    + (∑ e, R.v (rw (chk d t) j) e * R.Cs d (17 - t.val) a e) * Real.exp ((127 - (pl d j : ℝ)) * R.g)
/-- The values' gradient of the chunk at position `t`. -/
def dv (t : Fin 18) (j : Fin 128) (e : Fin 256) : ℝ :=
  ∑ i, (∑ a, R.Q (rw (chk d t) i) a * R.K (rw (chk d t) j) a) * D d R.g i j * R.dO (rw (chk d t) i) e
    + ∑ a, R.K (rw (chk d t) j) a * Real.exp ((127 - (pl d j : ℝ)) * R.g) * R.Cs d (17 - t.val) a e

end RBlk

variable {i : grid0.Coords} {X : Blk Ideal} {R : RBlk}

theorem coord1 (i : grid0.Coords) : (i 1).val < 2 := (i 1).isLt

theorem dir_cond (i : grid0.Coords) : (Scalar.cmpi CmpIPredicate.eq (BitVec.ofNat 32 (i 1).val) 0#32) = if (i 1).val = 0 then 1#1 else 0#1 := by
  have h := coord1 i
  have : (i 1).val = 0 ∨ (i 1).val = 1 := by omega
  rcases this with h | h <;> rw [h] <;> rfl

theorem select_one {α : Type} (x y : α) : Scalar.select 1#1 x y = x := rfl
theorem select_zero {α : Type} (x y : α) : Scalar.select 0#1 x y = y := rfl

/-- A row's place in its chunk, as the kernel counts it. -/
theorem place_real (i : grid0.Coords) (a : Fin 128) : (k0_pay65 (F := Ideal) i (ix2 a 0) : EReal) = ((pl (i 1).val a : ℝ) : EReal) := by
  have ha := a.isLt
  pointwise [k0_pay65]
  rw [dir_cond]
  unfold pl
  by_cases h : (i 1).val = 0
  · rw [if_pos h, if_pos h, select_one]
    exact sitofp_nat _ (by omega)
  · rw [if_neg h, if_neg h, select_zero]
    refine (sitofp_sub 127 a.val (by omega) (by omega)).trans ?_
    rw [Nat.cast_sub (by omega)]

/-- How far apart two rows of a chunk are, as the kernel counts it. -/
theorem diff_real (i : grid0.Coords) (a b : Fin 128) :
    (FloatOps.sitofp (F := Ideal) FTy.f32
      (Scalar.select (Scalar.cmpi CmpIPredicate.eq (BitVec.ofNat 32 (i 1).val) 0#32)
        (IntOp.subi (BitVec.ofNat 32 a.val) (BitVec.ofNat 32 b.val))
        (IntOp.subi (BitVec.ofNat 32 b.val) (BitVec.ofNat 32 a.val))) : EReal)
      = (((pl (i 1).val a : ℝ) - (pl (i 1).val b : ℝ) : ℝ) : EReal) := by
  have ha := a.isLt
  have hb := b.isLt
  rw [dir_cond]
  unfold pl
  by_cases h : (i 1).val = 0
  · rw [if_pos h, if_pos h, if_pos h, select_one]
    exact sitofp_sub _ _ (by omega) (by omega)
  · rw [if_neg h, if_neg h, if_neg h, select_zero]
    refine (sitofp_sub b.val a.val (by omega) (by omega)).trans ?_
    rw [Nat.cast_sub (by omega), Nat.cast_sub (by omega)]
    refine congrArg _ ?_
    ring

/-- The masked decay of a difference of two naturals, read in the extended reals. -/
theorem masked_real (x y : ℕ) (g : ℝ) :
    (if (0 : EReal) ≤ ((((x : ℝ) - (y : ℝ) : ℝ)) : EReal) then Ideal.exp (max ((((x : ℝ) - (y : ℝ) : ℝ)) : EReal) 0 * (g : EReal)) else 0)
      = ((if y ≤ x then Real.exp (((x : ℝ) - y) * g) else 0 : ℝ) : EReal) := by
  by_cases h : y ≤ x
  · have h' : (0 : ℝ) ≤ (x : ℝ) - y := sub_nonneg.mpr (by exact_mod_cast h)
    rw [if_pos h, if_pos (by exact_mod_cast h'), max_eq_left (by exact_mod_cast h'), ← EReal.coe_mul]
    rfl
  · have h' : ¬ (0 : ℝ) ≤ (x : ℝ) - y := fun e => h (by exact_mod_cast sub_nonneg.mp e)
    rw [if_neg h, if_neg (by exact_mod_cast h')]
    rfl

theorem w24_real (H : Holds i X R) (a b : Fin 128) : (w24 i X (ix2 a b) : EReal) = ((D (i 1).val R.g a b : ℝ) : EReal) := by
  unfold w24
  rw [H.g]
  pointwise [k0_pay66]
  rw [diff_real]
  exact masked_real _ _ _

theorem w29_real (H : Holds i X R) (a : Fin 128) : (w29 i X (ix2 a 0) : EReal) = ((Real.exp (((pl (i 1).val a : ℝ) + 1) * R.g) : ℝ) : EReal) := by
  unfold w29
  rw [H.g]
  pointwise [k0_pay67]
  rw [place_real]
  norm_cast

theorem w34_real (H : Holds i X R) (a : Fin 128) : (w34 i X (ix2 a 0) : EReal) = ((Real.exp ((127 - (pl (i 1).val a : ℝ)) * R.g) : ℝ) : EReal) := by
  unfold w34
  rw [H.g]
  pointwise [k0_pay68]
  rw [place_real, bits_127]
  norm_cast

theorem w38_real (H : Holds i X R) : (w38 i X (ix2 0 0) : EReal) = ((Real.exp (128 * R.g) : ℝ) : EReal) := by
  unfold w38
  rw [H.g]
  pointwise [k0_pay69]
  rw [bits_128]
  norm_cast

/-- A chunk's part of the states' cotangent. -/
theorem qdo_real (H : Holds i X R) (n : Fin 18) (a : Fin 128) (e : Fin 256) :
    (qdo i X n (ix3 0 a e) : EReal) = ((∑ j, Real.exp (((pl (i 1).val j : ℝ) + 1) * R.g) * (R.Q (rw n j) a * R.dO (rw n j) e) : ℝ) : EReal) := by
  unfold qdo
  pointwise [k0_pay1, k0_pay20]
  rw [← coe_sum]
  refine Finset.sum_congr rfl fun j _ => ?_
  rw [w29_real H]
  refine (congr (congrArg _ (congrArg (· * _) (congr (congrArg _ (congr (congrArg _ (H.q (rw n j) a)) (H.c (rw n j) a))) (congr (congrArg _ (H.q (rw n j) (rot a))) (H.s (rw n j) a))))) (H.dO (rw n j) e)).trans ?_
  rw [← EReal.coe_mul, ← EReal.coe_mul, ← EReal.coe_add, ← EReal.coe_mul, ← EReal.coe_mul]
  refine congrArg _ ?_
  unfold RBlk.Q rope
  ring

/-- The states' cotangent carried back. -/
theorem carry_real (H : Holds i X R) (s : ℕ) (a : Fin 128) (e : Fin 256) :
    (carry i X s (ix2 a e) : EReal) = ((R.Cs (i 1).val s a e : ℝ) : EReal) := by
  unfold RBlk.Cs
  induction s with
  | zero =>
    unfold carry
    pointwise [k0_pay3]
    rfl
  | succ s ih =>
    unfold carry
    pointwise [k0_pay5]
    rw [ih, w38_real H, qdo_real H, ← EReal.coe_mul, ← EReal.coe_add]
    rfl

/-- The states' cotangent at a position. -/
theorem dst_real (H : Holds i X R) (t : Fin 18) (a : Fin 128) (e : Fin 256) :
    (dst i X t (ix3 0 a e) : EReal) = ((R.Cs (i 1).val (17 - t.val) a e : ℝ) : EReal) := by
  unfold dst
  pointwise [k0_pay4]
  exact carry_real H _ a e

theorem row_q (H : Holds i X R) (t : Fin 18) (j : Fin 128) (a : Fin 128) :
    (rows X.q (ch i t) (ix2 j a) : EReal) = ((R.q (rw (chk (i 1).val t) j) a : ℝ) : EReal) := H.q (rw (chk (i 1).val t) j) a
theorem row_k (H : Holds i X R) (t : Fin 18) (j : Fin 128) (a : Fin 128) :
    (rows X.k (ch i t) (ix2 j a) : EReal) = ((R.k (rw (chk (i 1).val t) j) a : ℝ) : EReal) := H.k (rw (chk (i 1).val t) j) a
theorem row_v (H : Holds i X R) (t : Fin 18) (j : Fin 128) (a : Fin 256) :
    (rows X.v (ch i t) (ix2 j a) : EReal) = ((R.v (rw (chk (i 1).val t) j) a : ℝ) : EReal) := H.v (rw (chk (i 1).val t) j) a
theorem row_c (H : Holds i X R) (t : Fin 18) (j : Fin 128) (a : Fin 128) :
    (rows X.c (ch i t) (ix2 j a) : EReal) = ((R.c (rw (chk (i 1).val t) j) a : ℝ) : EReal) := H.c (rw (chk (i 1).val t) j) a
theorem row_s (H : Holds i X R) (t : Fin 18) (j : Fin 128) (a : Fin 128) :
    (rows X.s (ch i t) (ix2 j a) : EReal) = ((R.s (rw (chk (i 1).val t) j) a : ℝ) : EReal) := H.s (rw (chk (i 1).val t) j) a
theorem row_dO (H : Holds i X R) (t : Fin 18) (j : Fin 128) (a : Fin 256) :
    (rows X.dO (ch i t) (ix2 j a) : EReal) = ((R.dO (rw (chk (i 1).val t) j) a : ℝ) : EReal) := H.dO (rw (chk (i 1).val t) j) a
theorem slab_st (H : Holds i X R) (t : Fin 18) (a : Fin 128) (e : Fin 256) :
    (slab5 X.st t (ix5 0 0 0 a e) : EReal) = ((R.st t a e : ℝ) : EReal) := H.st t a e

theorem dqC_real (H : Holds i X R) (t : Fin 18) (j a : Fin 128) :
    (dqC i X t (ix2 j a) : EReal) = ((ropeT R.c R.s (rw (chk (i 1).val t) j) (R.dq (i 1).val t j) a : ℝ) : EReal) := by
  unfold dqC
  pointwise [dqF, k0_pay63, k0_pay27, k0_pay29, k0_pay45, k0_pay35, k0_pay55, k0_pay33, k0_pay41, k0_pay53]
  simp only [row_q H, row_k H, row_v H, row_c H, row_s H, row_dO H, slab_st H, dst_real H, w24_real H, w29_real H, w34_real H, bits_scl,
    ← EReal.coe_mul, ← EReal.coe_add, coe_sum]
  simp only [RBlk.dq, RBlk.G, RBlk.K, ropeT, rope]
  rfl

theorem dkC_real (H : Holds i X R) (t : Fin 18) (j a : Fin 128) :
    (dkC i X t (ix2 j a) : EReal) = ((ropeT R.c R.s (rw (chk (i 1).val t) j) (fun a => R.dk (i 1).val t j a * scl) a : ℝ) : EReal) := by
  unfold dkC
  pointwise [dkF, k0_pay7, k0_pay27, k0_pay29, k0_pay49, k0_pay57, k0_pay39, k0_pay31, k0_pay53, k0_pay43, k0_pay37]
  simp only [row_q H, row_k H, row_v H, row_c H, row_s H, row_dO H, slab_st H, dst_real H, w24_real H, w29_real H, w34_real H, bits_scl,
    ← EReal.coe_mul, ← EReal.coe_add, coe_sum]
  simp only [RBlk.dk, RBlk.G, RBlk.Q, ropeT, rope]
  rfl

theorem dvC_real (H : Holds i X R) (t : Fin 18) (j : Fin 128) (e : Fin 256) :
    (dvC i X t (ix2 j e) : EReal) = ((R.dv (i 1).val t j e : ℝ) : EReal) := by
  unfold dvC
  pointwise [dvF, k0_pay9, k0_pay47, k0_pay33, k0_pay27, k0_pay29, k0_pay59, k0_pay51, k0_pay31, k0_pay39, k0_pay41, k0_pay43, k0_pay37]
  simp only [row_q H, row_k H, row_v H, row_c H, row_s H, row_dO H, slab_st H, dst_real H, w24_real H, w29_real H, w34_real H, bits_scl,
    ← EReal.coe_mul, ← EReal.coe_add, coe_sum]
  simp only [RBlk.dv, RBlk.Q, RBlk.K, rope]
  rfl

end Cert.KernelIdeal.Hand

end
-- ==== Proof.Closed.lean ====
module

public import proofs.«01_k».proof.Proof.KReal

@[expose] public section

set_option maxRecDepth 16384

noncomputable section

namespace Cert.KernelIdeal.Hand

open Idealize.ShloMosaic Idealize.ShloMosaic.TcCoe Idealize.ShloMosaic.Tactic
open Cert.KernelIdeal.Gen Cert.Sums Cert.Reals

/-! The sums over chunks and carried states are the sums over all rows. -/

namespace RBlk
variable (R : RBlk) (d : ℕ)

/-- The saved states are the decayed sums over the rows before each chunk. -/
def Saved : Prop := ∀ t a e, R.st t a e = ∑ m, wBefore d R.g t m * (R.K m a * R.v m e)

/-- The rotated queries' gradient of a row, as one sum over all rows. -/
def fq (n : Fin 2304) (a : Fin 128) : ℝ := ∑ m, W d R.g n m * (R.G n m * R.K m a)
/-- The rotated and scaled keys' gradient of a row, as one sum over all rows. -/
def fk (m : Fin 2304) (a : Fin 128) : ℝ := ∑ n, W d R.g n m * (R.G n m * R.Q n a)
/-- The values' gradient of a row, as one sum over all rows. -/
def fv (m : Fin 2304) (e : Fin 256) : ℝ := ∑ n, W d R.g n m * ((∑ a, R.Q n a * R.K m a) * R.dO n e)

variable {R d}

theorem dq_eq (h : R.Saved d) (t : Fin 18) (i a : Fin 128) : R.dq d t i a = R.fq d (rw (chk d t) i) a := by
  unfold fq
  rw [sum_before d R.g t i (fun m => R.G (rw (chk d t) i) m * R.K m a)]
  unfold dq
  refine congr (congrArg _ (Finset.sum_congr rfl fun j _ => by ring)) (congrArg (· * _) ?_)
  simp only [h t a, G, Finset.mul_sum, Finset.sum_mul]
  rw [Finset.sum_comm]
  exact Finset.sum_congr rfl fun m _ => Finset.sum_congr rfl fun e _ => by ring

theorem dk_eq (t : Fin 18) (j a : Fin 128) : R.dk d t j a = R.fk d (rw (chk d t) j) a := by
  unfold fk
  rw [sum_after d R.g t j (fun n => R.G n (rw (chk d t) j) * R.Q n a)]
  unfold dk
  refine congr (congrArg _ (Finset.sum_congr rfl fun j _ => by ring)) (congrArg (· * _) ?_)
  simp only [Cs, C_after, G, Finset.mul_sum, Finset.sum_mul]
  rw [Finset.sum_comm]
  exact Finset.sum_congr rfl fun m _ => Finset.sum_congr rfl fun e _ => by ring

theorem dv_eq (t : Fin 18) (j : Fin 128) (e : Fin 256) : R.dv d t j e = R.fv d (rw (chk d t) j) e := by
  unfold fv
  rw [sum_after d R.g t j (fun n => (∑ a, R.Q n a * R.K (rw (chk d t) j) a) * R.dO n e)]
  unfold dv
  refine congr (congrArg _ (Finset.sum_congr rfl fun j _ => by ring)) ?_
  simp only [Cs, C_after, Finset.mul_sum, Finset.sum_mul]
  rw [Finset.sum_comm]
  exact Finset.sum_congr rfl fun m _ => Finset.sum_congr rfl fun e _ => by ring

end RBlk

theorem rw_row (d : ℕ) (r : Fin 2304) : rw (chk d (slk d (chunkOf r))) (place r) = r := by
  refine Fin.ext ?_
  unfold rw chk slk chunkOf place
  dsimp only
  split <;> omega

variable {i : grid0.Coords} {X : Blk Ideal} {R : RBlk}

/-- The gradient of a grid point's queries at a row. -/
theorem dq_row (H : Holds i X R) (h : R.Saved (i 1).val) (r : Fin 2304) (a : Fin 128) :
    (dqC i X (sl i (chunkOf r)) (ix2 (place r) a) : EReal) = ((ropeT R.c R.s r (R.fq (i 1).val r) a : ℝ) : EReal) := by
  refine (dqC_real H _ _ _).trans (congrArg _ ?_)
  have e : R.dq (i 1).val (sl i (chunkOf r)) (place r) = R.fq (i 1).val r := funext fun a =>
    (RBlk.dq_eq h _ _ _).trans (congrArg (fun x => R.fq (i 1).val x a) (rw_row _ r))
  rw [e]
  exact congrArg (fun x => ropeT R.c R.s x (R.fq (i 1).val r) a) (rw_row _ r)

/-- The gradient of a grid point's keys at a row. -/
theorem dk_row (H : Holds i X R) (r : Fin 2304) (a : Fin 128) :
    (dkC i X (sl i (chunkOf r)) (ix2 (place r) a) : EReal) = ((ropeT R.c R.s r (fun a => R.fk (i 1).val r a * scl) a : ℝ) : EReal) := by
  refine (dkC_real H _ _ _).trans (congrArg _ ?_)
  have e : R.dk (i 1).val (sl i (chunkOf r)) (place r) = R.fk (i 1).val r := funext fun a =>
    (RBlk.dk_eq _ _ _).trans (congrArg (fun x => R.fk (i 1).val x a) (rw_row _ r))
  rw [e]
  exact congrArg (fun x => ropeT R.c R.s x (fun a => R.fk (i 1).val r a * scl) a) (rw_row _ r)

/-- The gradient of a grid point's values at a row. -/
theorem dv_row (H : Holds i X R) (r : Fin 2304) (e : Fin 256) :
    (dvC i X (sl i (chunkOf r)) (ix2 (place r) e) : EReal) = ((R.fv (i 1).val r e : ℝ) : EReal) :=
  (dvC_real H _ _ _).trans (congrArg _ ((RBlk.dv_eq _ _ _).trans (congrArg (fun x => R.fv (i 1).val x e) (rw_row _ r))))

variable {i' : grid0.Coords} {X' : Blk Ideal} {R' : RBlk}

/-- What a head's two grid points leave of the queries' gradient. -/
theorem both_q (H : Holds i X R) (H' : Holds i' X' R') (h : R.Saved (i 1).val) (h' : R'.Saved (i' 1).val)
    (h0 : (i 1).val = 0) (h1 : (i' 1).val = 1)
    (z : Vec Ideal S2304x128 .bf16) (r : Fin 2304) (a : Fin 128) :
    (full i' (stq i' X') (full i (stq i X) z) (ix2 r a) : EReal)
      = ((ropeT R.c R.s r (R.fq 0 r) a + ropeT R'.c R'.s r (R'.fq 1 r) a : ℝ) : EReal) := by
  have e0 := dq_row H h r a
  have e1 := dq_row H' h' r a
  rw [h0] at e0
  rw [h1] at e1
  rw [EReal.coe_add, ← e0, ← e1]
  have hn : ¬ (i' 1).val = 0 := by omega
  have hf : full i (stq i X) z (ix2 (rw (chunkOf r) (place r)) a) = dqC i X (sl i (chunkOf r)) (ix2 (place r) a) := by
    have er : rw (chunkOf r) (place r) = r := Fin.ext (by unfold rw chunkOf place; dsimp only; omega)
    rw [er]
    unfold full stq
    rw [if_pos h0]
    rfl
  generalize full i (stq i X) z = p at hf ⊢
  unfold full stq
  rw [if_neg hn]
  refine Eq.trans ?_ (congrArg (· + (dqC i' X' (sl i' (chunkOf r)) (ix2 (place r) a) : EReal)) hf)
  pointwise [k0_pay21]
  rfl

/-- What a head's two grid points leave of the keys' gradient. -/
theorem both_k (H : Holds i X R) (H' : Holds i' X' R') (h0 : (i 1).val = 0) (h1 : (i' 1).val = 1)
    (z : Vec Ideal S2304x128 .bf16) (r : Fin 2304) (a : Fin 128) :
    (full i' (stk i' X') (full i (stk i X) z) (ix2 r a) : EReal)
      = ((ropeT R.c R.s r (fun a => R.fk 0 r a * scl) a + ropeT R'.c R'.s r (fun a => R'.fk 1 r a * scl) a : ℝ) : EReal) := by
  have e0 := dk_row H r a
  have e1 := dk_row H' r a
  rw [h0] at e0
  rw [h1] at e1
  rw [EReal.coe_add, ← e0, ← e1]
  have hn : ¬ (i' 1).val = 0 := by omega
  have hf : full i (stk i X) z (ix2 (rw (chunkOf r) (place r)) a) = dkC i X (sl i (chunkOf r)) (ix2 (place r) a) := by
    have er : rw (chunkOf r) (place r) = r := Fin.ext (by unfold rw chunkOf place; dsimp only; omega)
    rw [er]
    unfold full stk
    rw [if_pos h0]
    rfl
  generalize full i (stk i X) z = p at hf ⊢
  unfold full stk
  rw [if_neg hn]
  refine Eq.trans ?_ (congrArg (· + (dkC i' X' (sl i' (chunkOf r)) (ix2 (place r) a) : EReal)) hf)
  pointwise [k0_pay22]
  rfl

/-- What a head's two grid points leave of the values' gradient. -/
theorem both_v (H : Holds i X R) (H' : Holds i' X' R') (h0 : (i 1).val = 0) (h1 : (i' 1).val = 1)
    (z : Vec Ideal S2304x256 .bf16) (r : Fin 2304) (a : Fin 256) :
    (full i' (stv i' X') (full i (stv i X) z) (ix2 r a) : EReal)
      = ((R.fv 0 r a + R'.fv 1 r a : ℝ) : EReal) := by
  have e0 := dv_row H r a
  have e1 := dv_row H' r a
  rw [h0] at e0
  rw [h1] at e1
  rw [EReal.coe_add, ← e0, ← e1]
  have hn : ¬ (i' 1).val = 0 := by omega
  have hf : full i (stv i X) z (ix2 (rw (chunkOf r) (place r)) a) = dvC i X (sl i (chunkOf r)) (ix2 (place r) a) := by
    have er : rw (chunkOf r) (place r) = r := Fin.ext (by unfold rw chunkOf place; dsimp only; omega)
    rw [er]
    unfold full stv
    rw [if_pos h0]
    rfl
  generalize full i (stv i X) z = p at hf ⊢
  unfold full stv
  rw [if_neg hn]
  refine Eq.trans ?_ (congrArg (· + (dvC i' X' (sl i' (chunkOf r)) (ix2 (place r) a) : EReal)) hf)
  pointwise [k0_pay23]
  rfl

end Cert.KernelIdeal.Hand
end
-- ==== Proof.Target.lean ====
module

public import proofs.«01_k».proof.Proof.Closed

@[expose] public section

set_option maxRecDepth 16384

noncomputable section

namespace Cert.Target

open Idealize.ShloMosaic Idealize.ShloMosaic.TcCoe Cert.Sums Cert.Reals Cert.KernelIdeal.Hand

/-! The three gradients as real formulas of the arguments, and the tables both programs compute. -/

/-- The arguments as reals. -/
structure Data where
  u : Fin 2304 → Fin 14336 → ℝ
  lg : Fin 2 → Fin 8 → ℝ
  dO : Fin 2304 → Fin 2048 → ℝ

/-- The rotary frequencies. -/
def freq (a : ℕ) : ℝ := Real.rpow 10000 (-(a : ℝ) * (1 / 32))

/-- The rotary angles: the row's position down the grid for the first half, across it for the second. -/
def ang (r a : ℕ) : ℝ := if a < 32 then ((r / 64 : ℕ) : ℝ) * freq a else ((r % 64 : ℕ) : ℝ) * freq (a - 32)

/-- The table a row is multiplied by. -/
def ct (r : Fin 2304) (a : Fin 128) : ℝ :=
  if r.val < 2048 then (if a.val < 64 then Real.cos (ang r.val a.val) else Real.cos (ang r.val (a.val - 64))) else 1

/-- The table its half-turned copy is multiplied by. -/
def sn (r : Fin 2304) (a : Fin 128) : ℝ :=
  if r.val < 2048 then (if a.val < 64 then -Real.sin (ang r.val a.val) else Real.sin (ang r.val (a.val - 64))) else 0

theorem ct_lo {r : Fin 2304} {a : Fin 128} (hr : r.val < 2048) (ha : a.val < 64) : ct r a = Real.cos (ang r.val a.val) := by
  unfold ct; rw [if_pos hr, if_pos ha]
theorem ct_hi {r : Fin 2304} {a : Fin 128} (hr : r.val < 2048) (ha : ¬ a.val < 64) : ct r a = Real.cos (ang r.val (a.val - 64)) := by
  unfold ct; rw [if_pos hr, if_neg ha]
theorem ct_ctx {r : Fin 2304} (a : Fin 128) (hr : ¬ r.val < 2048) : ct r a = 1 := by
  unfold ct; rw [if_neg hr]
theorem sn_lo {r : Fin 2304} {a : Fin 128} (hr : r.val < 2048) (ha : a.val < 64) : sn r a = -Real.sin (ang r.val a.val) := by
  unfold sn; rw [if_pos hr, if_pos ha]
theorem sn_hi {r : Fin 2304} {a : Fin 128} (hr : r.val < 2048) (ha : ¬ a.val < 64) : sn r a = Real.sin (ang r.val (a.val - 64)) := by
  unfold sn; rw [if_pos hr, if_neg ha]
theorem sn_ctx {r : Fin 2304} (a : Fin 128) (hr : ¬ r.val < 2048) : sn r a = 0 := by
  unfold sn; rw [if_neg hr]

namespace Data
variable (A : Data)

/-- The raw queries of a head. -/
def q (h : Fin 8) (r : Fin 2304) (a : Fin 128) : ℝ := A.u r ⟨4096 + 128 * h.val + a.val, by omega⟩
/-- The raw keys of a head. -/
def k (h : Fin 8) (r : Fin 2304) (a : Fin 128) : ℝ := A.u r ⟨5120 + 128 * h.val + a.val, by omega⟩
/-- The values of a head. -/
def v (h : Fin 8) (r : Fin 2304) (e : Fin 256) : ℝ := A.u r ⟨6144 + 256 * h.val + e.val, by omega⟩
/-- The cotangent of a head's output. -/
def o (h : Fin 8) (r : Fin 2304) (e : Fin 256) : ℝ := A.dO r ⟨256 * h.val + e.val, by omega⟩

/-- The states before each chunk, of one head and direction. -/
def st (d : Fin 2) (h : Fin 8) (t : Fin 18) (a : Fin 128) (e : Fin 256) : ℝ :=
  ∑ m, wBefore d.val (A.lg d h) t m * (rope ct sn (A.k h) m a * scl * A.v h m e)

/-- What one head and direction reads. -/
def blk (d : Fin 2) (h : Fin 8) : RBlk := ⟨A.lg d h, A.q h, A.k h, A.v h, ct, sn, A.st d h, A.o h⟩

theorem saved (d : Fin 2) (h : Fin 8) : (A.blk d h).Saved d.val := fun _ _ _ => rfl

/-- The queries' gradient. -/
def gq (h : Fin 8) (r : Fin 2304) (a : Fin 128) : ℝ :=
  ropeT ct sn r ((A.blk 0 h).fq 0 r) a + ropeT ct sn r ((A.blk 1 h).fq 1 r) a
/-- The keys' gradient. -/
def gk (h : Fin 8) (r : Fin 2304) (a : Fin 128) : ℝ :=
  ropeT ct sn r (fun a => (A.blk 0 h).fk 0 r a * scl) a + ropeT ct sn r (fun a => (A.blk 1 h).fk 1 r a * scl) a
/-- The values' gradient. -/
def gv (h : Fin 8) (r : Fin 2304) (e : Fin 256) : ℝ := (A.blk 0 h).fv 0 r e + (A.blk 1 h).fv 1 r e

end Data

/-! ### The tables at the extended reals -/

theorem freq_real (a : ℕ) (ha : a < 2 ^ 31) :
    Ideal.pow (Ideal.ofBits FTy.f32 1176256512#32)
      (Ideal.div (-(FloatOps.sitofp (F := Ideal) FTy.f32 (BitVec.ofNat 32 a) : EReal)) (Ideal.ofBits FTy.f32 1107296256#32)) = ((freq a : ℝ) : EReal) := by
  rw [bits_10000, bits_32, sitofp_nat a ha, ← EReal.coe_neg, Ideal.div_coe (by norm_num), ← EReal.coe_mul, Ideal.pow_coe_coe]
  rfl

/-- The angle at a row and column. -/
theorem ang_real (r a : ℕ) (ha : a < 2 ^ 31) (x0 x1 : EReal) (h0 : x0 = (((r / 64 : ℕ) : ℝ) : EReal)) (h1 : x1 = (((r % 64 : ℕ) : ℝ) : EReal)) :
    (if h : a < 32 then
      x0 * Ideal.pow (Ideal.ofBits FTy.f32 1176256512#32)
        (Ideal.div (-(FloatOps.sitofp (F := Ideal) FTy.f32 (BitVec.ofNat 32 a) : EReal)) (Ideal.ofBits FTy.f32 1107296256#32))
    else
      x1 * Ideal.pow (Ideal.ofBits FTy.f32 1176256512#32)
        (Ideal.div (-(FloatOps.sitofp (F := Ideal) FTy.f32 (BitVec.ofNat 32 (a - 32)) : EReal)) (Ideal.ofBits FTy.f32 1107296256#32)))
      = ((ang r a : ℝ) : EReal) := by
  unfold ang
  by_cases h : a < 32
  · rw [dif_pos h, if_pos h, freq_real a ha, h0, EReal.coe_mul]
  · rw [dif_neg h, if_neg h, freq_real (a - 32) (by omega), h1, EReal.coe_mul]

/-- A row's place in the forward order. -/
theorem posF_real (r : Fin 2304) :
    (if (FloatOps.sitofp (F := Ideal) FTy.f32 (BitVec.ofNat 32 r.val) : EReal) < Ideal.ofBits FTy.f32 1157627904#32 then
      Ideal.ofBits FTy.f32 1132462080#32 + (FloatOps.sitofp (F := Ideal) FTy.f32 (BitVec.ofNat 32 r.val) : EReal)
    else (FloatOps.sitofp (F := Ideal) FTy.f32 (BitVec.ofNat 32 r.val) : EReal) - Ideal.ofBits FTy.f32 1157627904#32)
      = ((posn 0 r : ℝ) : EReal) := by
  have hr := r.isLt
  rw [sitofp_nat _ (by omega), bits_2048, bits_256, ← EReal.coe_add, ← EReal.coe_sub]
  unfold posn
  rw [if_pos rfl]
  by_cases h : r.val < 2048
  · rw [if_pos (by exact_mod_cast h), Nat.mod_eq_of_lt (by omega)]
    push_cast
    rw [add_comm]
  · rw [if_neg (by exact_mod_cast h)]
    have e : (r.val + 256) % 2304 = r.val - 2048 := by omega
    rw [e, Nat.cast_sub (by omega)]
    norm_num

/-- A row's place in the backward order. -/
theorem posB_real (r : Fin 2304) :
    (Ideal.ofBits FTy.f32 1158672384#32 - (FloatOps.sitofp (F := Ideal) FTy.f32 (BitVec.ofNat 32 r.val) : EReal) : EReal)
      = ((posn 1 r : ℝ) : EReal) := by
  have hr := r.isLt
  rw [sitofp_nat _ (by omega), bits_2303, ← EReal.coe_sub]
  unfold posn
  rw [if_neg (by omega), Nat.cast_sub (by omega)]
  norm_num

/-- A masked decay. -/
theorem mask_real (z g : ℝ) (P : Prop) [Decidable P] (hP : P ↔ 0 ≤ z) :
    (if (0 : EReal) ≤ ((z : ℝ) : EReal) then Ideal.exp (max ((z : ℝ) : EReal) 0 * (g : EReal)) else 0)
      = ((if P then Real.exp (z * g) else 0 : ℝ) : EReal) := by
  by_cases h : 0 ≤ z
  · rw [if_pos (hP.mpr h), if_pos (by exact_mod_cast h), max_eq_left (by exact_mod_cast h), ← EReal.coe_mul]
    rfl
  · rw [if_neg (fun e => h (hP.mp e)), if_neg (by exact_mod_cast h)]
    rfl

/-- A masked decay from a row to a row. -/
theorem W_real (d : ℕ) (g : ℝ) (n m : Fin 2304) :
    (if (0 : EReal) ≤ (((posn d n : ℝ) - (posn d m : ℝ) : ℝ) : EReal) then
      Ideal.exp (max (((posn d n : ℝ) - (posn d m : ℝ) : ℝ) : EReal) 0 * (g : EReal)) else 0) = ((W d g n m : ℝ) : EReal) :=
  mask_real _ g _ (by rw [sub_nonneg]; exact_mod_cast Iff.rfl)

/-- A masked decay from a row to just before a chunk. -/
theorem wBefore_real (d : ℕ) (g : ℝ) (t : Fin 18) (m : Fin 2304) :
    (if (0 : EReal) ≤ ((128 * (t.val : ℝ) - 1 - (posn d m : ℝ) : ℝ) : EReal) then
      Ideal.exp (max ((128 * (t.val : ℝ) - 1 - (posn d m : ℝ) : ℝ) : EReal) 0 * (g : EReal)) else 0) = ((wBefore d g t m : ℝ) : EReal) :=
  mask_real _ g _ (by
    constructor
    · intro h
      have h' : ((posn d m + 1 : ℕ) : ℝ) ≤ ((128 * t.val : ℕ) : ℝ) := by exact_mod_cast h
      push_cast at h'
      linarith
    · intro h
      have h' : ((posn d m + 1 : ℕ) : ℝ) ≤ ((128 * t.val : ℕ) : ℝ) := by push_cast; linarith
      exact_mod_cast h')

/-! ### The embedding written by halves -/

theorem rot_lo {a : Fin 128} (ha : a.val < 64) : (rot a).val = a.val + 64 := by
  have := a.isLt
  unfold rot
  dsimp only
  omega
theorem rot_hi {a : Fin 128} (ha : ¬ a.val < 64) : (rot a).val = a.val - 64 := by
  have := a.isLt
  unfold rot
  dsimp only
  omega

theorem rope_lo (x : Fin 2304 → Fin 128 → ℝ) {r : Fin 2304} {a : Fin 128} (hr : r.val < 2048) (ha : a.val < 64) :
    rope ct sn x r a = x r a * Real.cos (ang r.val a.val) - x r (rot a) * Real.sin (ang r.val a.val) := by
  unfold rope
  rw [ct_lo hr ha, sn_lo hr ha, mul_neg, ← sub_eq_add_neg]
theorem rope_hi (x : Fin 2304 → Fin 128 → ℝ) {r : Fin 2304} {a : Fin 128} (hr : r.val < 2048) (ha : ¬ a.val < 64) :
    rope ct sn x r a = x r a * Real.cos (ang r.val (a.val - 64)) + x r (rot a) * Real.sin (ang r.val (a.val - 64)) := by
  unfold rope
  rw [ct_hi hr ha, sn_hi hr ha]
theorem rope_ctx (x : Fin 2304 → Fin 128 → ℝ) {r : Fin 2304} (a : Fin 128) (hr : ¬ r.val < 2048) :
    rope ct sn x r a = x r a := by
  unfold rope
  rw [ct_ctx a hr, sn_ctx a hr, mul_one, mul_zero, add_zero]

/-- The rotary embedding written by halves, read in the extended reals. -/
theorem rope_halves (x : Fin 2304 → Fin 128 → ℝ) (r : Fin 2304) (a : Fin 128)
    {X1 X2 T1 : r.val < 2048 → a.val < 64 → EReal} {X3 X4 T2 : r.val < 2048 → ¬ a.val < 64 → EReal} {X5 : ¬ r.val < 2048 → EReal}
    (h1 : ∀ hr ha, X1 hr ha = ((x r a : ℝ) : EReal)) (h2 : ∀ hr ha, X2 hr ha = ((x r (rot a) : ℝ) : EReal))
    (t1 : ∀ hr ha, T1 hr ha = ((ang r.val a.val : ℝ) : EReal))
    (h3 : ∀ hr ha, X3 hr ha = ((x r a : ℝ) : EReal)) (h4 : ∀ hr ha, X4 hr ha = ((x r (rot a) : ℝ) : EReal))
    (t2 : ∀ hr ha, T2 hr ha = ((ang r.val (a.val - 64) : ℝ) : EReal))
    (h5 : ∀ hr, X5 hr = ((x r a : ℝ) : EReal)) :
    (if hr : r.val < 2048 then
      if ha : a.val < 64 then X1 hr ha * Ideal.cos (T1 hr ha) - X2 hr ha * Ideal.sin (T1 hr ha)
      else X3 hr ha * Ideal.cos (T2 hr ha) + X4 hr ha * Ideal.sin (T2 hr ha)
    else X5 hr) = ((rope ct sn x r a : ℝ) : EReal) := by
  by_cases hr : r.val < 2048
  · by_cases ha : a.val < 64
    · rw [dif_pos hr, dif_pos ha, h1, h2, t1, rope_lo x hr ha, EReal.coe_sub, EReal.coe_mul, EReal.coe_mul]
      rfl
    · rw [dif_pos hr, dif_neg ha, h3, h4, t2, rope_hi x hr ha, EReal.coe_add, EReal.coe_mul, EReal.coe_mul]
      rfl
  · rw [dif_neg hr, h5, rope_ctx x a hr]

theorem ropeT_lo (x : Fin 128 → ℝ) {r : Fin 2304} {a : Fin 128} (hr : r.val < 2048) (ha : a.val < 64) :
    ropeT ct sn r x a = x (rot a) * Real.sin (ang r.val a.val) + x a * Real.cos (ang r.val a.val) := by
  unfold ropeT
  have e := rot_lo ha
  rw [ct_lo hr ha, sn_hi hr (by omega), e, Nat.add_sub_cancel, add_comm]
theorem ropeT_hi (x : Fin 128 → ℝ) {r : Fin 2304} {a : Fin 128} (hr : r.val < 2048) (ha : ¬ a.val < 64) :
    ropeT ct sn r x a = x a * Real.cos (ang r.val (a.val - 64)) + -x (rot a) * Real.sin (ang r.val (a.val - 64)) := by
  unfold ropeT
  have e := rot_hi ha
  have := a.isLt
  rw [ct_hi hr ha, sn_lo hr (by omega), e, neg_mul, mul_neg]
theorem ropeT_ctx (x : Fin 128 → ℝ) {r : Fin 2304} (a : Fin 128) (hr : ¬ r.val < 2048) : ropeT ct sn r x a = x a := by
  unfold ropeT
  rw [ct_ctx a hr, sn_ctx _ hr, mul_one, mul_zero, add_zero]

/-- The transposed embedding written by halves and padded, read in the extended reals. -/
theorem ropeT_halves (x : Fin 128 → ℝ) (r : Fin 2304) (a : Fin 128) {P0 P1 P2 P3 : Prop}
    [Decidable P0] [Decidable P1] [Decidable P2] [Decidable P3]
    (p0 : P0 ↔ ¬ r.val < 2048) (p1 : P1 ↔ r.val < 2048) (p2 : r.val < 2048 → (P2 ↔ ¬ a.val < 64)) (p3 : r.val < 2048 → (P3 ↔ a.val < 64))
    {X0 : P0 → EReal} {X1 X2 C1 S1 : P1 → P2 → EReal} {X3 X4 C2 S2 : P1 → P3 → EReal}
    (h0 : ∀ h, X0 h = ((x a : ℝ) : EReal))
    (h1 : ∀ h h', X1 h h' = ((x a : ℝ) : EReal)) (h2 : ∀ h h', X2 h h' = ((x (rot a) : ℝ) : EReal))
    (c1 : ∀ h h', C1 h h' = ((Real.cos (ang r.val (a.val - 64)) : ℝ) : EReal))
    (s1 : ∀ h h', S1 h h' = ((Real.sin (ang r.val (a.val - 64)) : ℝ) : EReal))
    (h3 : ∀ h h', X3 h h' = ((x (rot a) : ℝ) : EReal)) (h4 : ∀ h h', X4 h h' = ((x a : ℝ) : EReal))
    (c2 : ∀ h h', C2 h h' = ((Real.cos (ang r.val a.val) : ℝ) : EReal))
    (s2 : ∀ h h', S2 h h' = ((Real.sin (ang r.val a.val) : ℝ) : EReal)) :
    ((if h : P0 then X0 h else 0)
      + if h : P1 then
          (if h' : P2 then X1 h h' * C1 h h' + -X2 h h' * S1 h h' else 0)
            + if h' : P3 then X3 h h' * S2 h h' + X4 h h' * C2 h h' else 0
        else 0) = ((ropeT ct sn r x a : ℝ) : EReal) := by
  by_cases hr : r.val < 2048
  · rw [dif_neg (fun h => p0.mp h hr), dif_pos (p1.mpr hr), zero_add]
    by_cases ha : a.val < 64
    · rw [dif_neg (fun h => (p2 hr).mp h ha), dif_pos ((p3 hr).mpr ha), zero_add, h3, h4, c2, s2, ropeT_lo x hr ha,
        EReal.coe_add, EReal.coe_mul, EReal.coe_mul]
    · rw [dif_pos ((p2 hr).mpr ha), dif_neg (fun h => ha ((p3 hr).mp h)), add_zero, h1, h2, c1, s1, ropeT_hi x hr ha,
        EReal.coe_add, EReal.coe_mul, EReal.coe_mul, EReal.coe_neg]
  · rw [dif_pos (p0.mpr hr), dif_neg (fun h => hr (p1.mp h)), add_zero, h0, ropeT_ctx x a hr]

end Cert.Target
end
-- ==== Proof.Host.lean ====
module

public import proofs.«01_k».proof.Proof.Gen.KernelIdeal.Frame
public import Idealize.ShloMosaic.Lib.StableHlo.Run

@[expose] public section

set_option maxRecDepth 16384

noncomputable section

namespace Cert.KernelIdeal.Hand

open Idealize.ShloMosaic Idealize.ShloMosaic.TcCoe Idealize.ShloMosaic.StableHlo Idealize.SL.Sem
open Cert.KernelIdeal.Gen

variable {F : FTy → Type} [FloatOps F]

/-! What the operations before the kernel's launch compute: the two rotary tables and the states saved before each chunk. -/

/-- Two arrays put one after the other. -/
def cat_S2048x64_1 : (⟨S2048x32, .f32⟩ : BufTy).Contents (Elt F) → (⟨S2048x32, .f32⟩ : BufTy).Contents (Elt F) → (⟨S2048x64, .f32⟩ : BufTy).Contents (Elt F) :=
  (fun a b => concatenate S2048x64 1 [⟨S2048x32, a⟩, ⟨S2048x32, b⟩] concatenates_S2048x32_S2048x32_S2048x64_d1)

/-- Two arrays put one after the other. -/
def cat_S2048x128_1 : (⟨S2048x64, .f32⟩ : BufTy).Contents (Elt F) → (⟨S2048x64, .f32⟩ : BufTy).Contents (Elt F) → (⟨S2048x128, .f32⟩ : BufTy).Contents (Elt F) :=
  (fun a b => concatenate S2048x128 1 [⟨S2048x64, a⟩, ⟨S2048x64, b⟩] concatenates_S2048x64_S2048x64_S2048x128_d1)

/-- Two arrays put one after the other. -/
def cat_S2304x128_0 : (⟨S2048x128, .f32⟩ : BufTy).Contents (Elt F) → (⟨S256x128, .f32⟩ : BufTy).Contents (Elt F) → (⟨S2304x128, .f32⟩ : BufTy).Contents (Elt F) :=
  (fun a b => concatenate S2304x128 0 [⟨S2048x128, a⟩, ⟨S256x128, b⟩] concatenates_S2048x128_S256x128_S2304x128_d0)

/-- Two arrays put one after the other. -/
def cat_S8x2048x128_2 : (⟨S8x2048x64, .f32⟩ : BufTy).Contents (Elt F) → (⟨S8x2048x64, .f32⟩ : BufTy).Contents (Elt F) → (⟨S8x2048x128, .f32⟩ : BufTy).Contents (Elt F) :=
  (fun a b => concatenate S8x2048x128 2 [⟨S8x2048x64, a⟩, ⟨S8x2048x64, b⟩] concatenates_S8x2048x64_S8x2048x64_S8x2048x128_d2)

/-- Two arrays put one after the other. -/
def cat_S8x2304x128_1 : (⟨S8x2048x128, .f32⟩ : BufTy).Contents (Elt F) → (⟨S8x256x128, .f32⟩ : BufTy).Contents (Elt F) → (⟨S8x2304x128, .f32⟩ : BufTy).Contents (Elt F) :=
  (fun a b => concatenate S8x2304x128 1 [⟨S8x2048x128, a⟩, ⟨S8x256x128, b⟩] concatenates_S8x2048x128_S8x256x128_S8x2304x128_d1)

/-- Two arrays put one after the other. -/
def cat_S8x2x18x128x256_1 : (⟨S8x1x18x128x256, .f32⟩ : BufTy).Contents (Elt F) → (⟨S8x1x18x128x256, .f32⟩ : BufTy).Contents (Elt F) → (⟨S8x2x18x128x256, .f32⟩ : BufTy).Contents (Elt F) :=
  (fun a b => concatenate S8x2x18x128x256 1 [⟨S8x1x18x128x256, a⟩, ⟨S8x1x18x128x256, b⟩] concatenates_S8x1x18x128x256_S8x1x18x128x256_S8x2x18x128x256_d1)

/-- The angles of the rotary tables. -/
def hAngle : (⟨S2048x64, .f32⟩ : BufTy).Contents (Elt F) :=
  cat_S2048x64_1 (mulf (broadcastInDim S2048x32 ![0, 1] bcast_S2048x1_S2048x32_0_1 (broadcastInDim S2048x1 ![0] bcast_S2048_S2048x1_0 (fun i => FloatOps.ofBits .f32 (lit0 (S2048.rowMajor i))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp (F := F) .f32 (iotaInDim S32 32 0))) (broadcastInDim S32 ![] bcast_S_S32 (constant S_ .f32 0x42000000#32))))))) (mulf (broadcastInDim S2048x32 ![0, 1] bcast_S2048x1_S2048x32_0_1 (broadcastInDim S2048x1 ![0] bcast_S2048_S2048x1_0 (fun i => FloatOps.ofBits .f32 (lit1 (S2048.rowMajor i))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp (F := F) .f32 (iotaInDim S32 32 0))) (broadcastInDim S32 ![] bcast_S_S32 (constant S_ .f32 0x42000000#32)))))))

/-- The table the rotation multiplies by: the cosines, twice, and ones for the context rows. -/
def hCos : (⟨S2304x128, .f32⟩ : BufTy).Contents (Elt F) :=
  cat_S2304x128_0 (cat_S2048x128_1 (Host.cos (hAngle (F := F))) (Host.cos (hAngle (F := F)))) (broadcastInDim S256x128 ![] bcast_S_S256x128 (constant S_ .f32 0x3F800000#32))

/-- The table the rotated copy is multiplied by: the negated sines and the sines, and zeros for the context rows. -/
def hSin : (⟨S2304x128, .f32⟩ : BufTy).Contents (Elt F) :=
  cat_S2304x128_0 (cat_S2048x128_1 (Host.negf (Host.sin (hAngle (F := F)))) (Host.sin (hAngle (F := F)))) (broadcastInDim S256x128 ![] bcast_S_S256x128 (constant S_ .f32 0x00000000#32))

/-- The keys by head. -/
def hKraw (A0 : (⟨S2304x14336, .bf16⟩ : BufTy).Contents (Elt F)) : (⟨S8x2304x128, .f32⟩ : BufTy).Contents (Elt F) :=
  (transpose S8x2304x128 [1, 0, 2] (shapeCast _ ((extf .f32 ((extractStridedSlice S2304x1024 ![0, 5120] A0 slices_S2304x14336_S2304x1024_0_5120)) bitsLt_bf16_f32)) shapeCasts_S2304x1024_S2304x8x128) transposes_S2304x8x128_S8x2304x128_1_0_2)

/-- The angles of the latent rows. -/
def hAng : (⟨S2048x64, .f32⟩ : BufTy).Contents (Elt F) :=
  cat_S2048x64_1 (mulf (broadcastInDim S2048x32 ![0, 1] bcast_S2048x1_S2048x32_0_1 (broadcastInDim S2048x1 ![0] bcast_S2048_S2048x1_0 (shapeCast _ (sitofp (F := F) .f32 (iotaInDim S32x64 32 0)) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp (F := F) .f32 (iotaInDim S32 32 0))) (broadcastInDim S32 ![] bcast_S_S32 (constant S_ .f32 0x42000000#32))))))) (mulf (broadcastInDim S2048x32 ![0, 1] bcast_S2048x1_S2048x32_0_1 (broadcastInDim S2048x1 ![0] bcast_S2048_S2048x1_0 (shapeCast _ (sitofp (F := F) .f32 (iotaInDim S32x64 32 1)) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp (F := F) .f32 (iotaInDim S32 32 0))) (broadcastInDim S32 ![] bcast_S_S32 (constant S_ .f32 0x42000000#32)))))))

/-- The rotated keys by head. -/
def hKrot (A0 : (⟨S2304x14336, .bf16⟩ : BufTy).Contents (Elt F)) : (⟨S8x2304x128, .f32⟩ : BufTy).Contents (Elt F) :=
  cat_S8x2304x128_1 (cat_S8x2048x128_2 (subf (mulf ((extractStridedSlice S8x2048x64 ![0, 0, 0] ((extractStridedSlice S8x2048x128 ![0, 0, 0] (hKraw A0) slices_S8x2304x128_S8x2048x128_0_0_0)) slices_S8x2048x128_S8x2048x64_0_0_0)) (broadcastInDim S8x2048x64 ![0, 1, 2] bcast_S1x2048x64_S8x2048x64_0_1_2 (broadcastInDim S1x2048x64 ![1, 2] bcast_S2048x64_S1x2048x64_1_2 (Host.cos (hAng (F := F)))))) (mulf ((extractStridedSlice S8x2048x64 ![0, 0, 64] ((extractStridedSlice S8x2048x128 ![0, 0, 0] (hKraw A0) slices_S8x2304x128_S8x2048x128_0_0_0)) slices_S8x2048x128_S8x2048x64_0_0_64)) (broadcastInDim S8x2048x64 ![0, 1, 2] bcast_S1x2048x64_S8x2048x64_0_1_2 (broadcastInDim S1x2048x64 ![1, 2] bcast_S2048x64_S1x2048x64_1_2 (Host.sin (hAng (F := F))))))) (addf (mulf ((extractStridedSlice S8x2048x64 ![0, 0, 64] ((extractStridedSlice S8x2048x128 ![0, 0, 0] (hKraw A0) slices_S8x2304x128_S8x2048x128_0_0_0)) slices_S8x2048x128_S8x2048x64_0_0_64)) (broadcastInDim S8x2048x64 ![0, 1, 2] bcast_S1x2048x64_S8x2048x64_0_1_2 (broadcastInDim S1x2048x64 ![1, 2] bcast_S2048x64_S1x2048x64_1_2 (Host.cos (hAng (F := F)))))) (mulf ((extractStridedSlice S8x2048x64 ![0, 0, 0] ((extractStridedSlice S8x2048x128 ![0, 0, 0] (hKraw A0) slices_S8x2304x128_S8x2048x128_0_0_0)) slices_S8x2048x128_S8x2048x64_0_0_0)) (broadcastInDim S8x2048x64 ![0, 1, 2] bcast_S1x2048x64_S8x2048x64_0_1_2 (broadcastInDim S1x2048x64 ![1, 2] bcast_S2048x64_S1x2048x64_1_2 (Host.sin (hAng (F := F)))))))) ((extractStridedSlice S8x256x128 ![0, 2048, 0] (hKraw A0) slices_S8x2304x128_S8x256x128_0_2048_0))

/-- The rotated and scaled keys by head. -/
def hK (A0 : (⟨S2304x14336, .bf16⟩ : BufTy).Contents (Elt F)) : (⟨S8x2304x128, .f32⟩ : BufTy).Contents (Elt F) :=
  mulf (hKrot A0) (broadcastInDim S8x2304x128 ![] bcast_S_S8x2304x128 (constant S_ .f32 0x3DB504F3#32))

/-- The values by head. -/
def hV (A0 : (⟨S2304x14336, .bf16⟩ : BufTy).Contents (Elt F)) : (⟨S8x2304x256, .f32⟩ : BufTy).Contents (Elt F) :=
  (transpose S8x2304x256 [1, 0, 2] (shapeCast _ ((extf .f32 ((extractStridedSlice S2304x2048 ![0, 6144] A0 slices_S2304x14336_S2304x2048_0_6144)) bitsLt_bf16_f32)) shapeCasts_S2304x2048_S2304x8x256) transposes_S2304x8x256_S8x2304x256_1_0_2)

/-- The place of each row in the forward order. -/
def hPosF : (⟨S2304, .f32⟩ : BufTy).Contents (Elt F) :=
  select (cmpf .olt (sitofp (F := F) .f32 (iotaInDim S2304 32 0)) (broadcastInDim S2304 ![] bcast_S_S2304 (constant S_ .f32 0x45000000#32))) (addf (broadcastInDim S2304 ![] bcast_S_S2304 (constant S_ .f32 0x43800000#32)) (sitofp (F := F) .f32 (iotaInDim S2304 32 0))) (subf (sitofp (F := F) .f32 (iotaInDim S2304 32 0)) (broadcastInDim S2304 ![] bcast_S_S2304 (constant S_ .f32 0x45000000#32)))

/-- The place of each row in the backward order. -/
def hPosB : (⟨S2304, .f32⟩ : BufTy).Contents (Elt F) :=
  subf (broadcastInDim S2304 ![] bcast_S_S2304 (constant S_ .f32 0x450FF000#32)) (sitofp (F := F) .f32 (iotaInDim S2304 32 0))

/-- How far before each chunk each row lies, forward. -/
def hBackF : (⟨S18x2304, .f32⟩ : BufTy).Contents (Elt F) :=
  subf (broadcastInDim S18x2304 ![0, 1] bcast_S18x1_S18x2304_0_1 (subf (broadcastInDim S18x1 ![0] bcast_S18_S18x1_0 (mulf (broadcastInDim S18 ![] bcast_S_S18 (constant S_ .f32 0x43000000#32)) (sitofp (F := F) .f32 (iotaInDim S18 32 0)))) (broadcastInDim S18x1 ![] bcast_S_S18x1 (constant S_ .f32 0x3F800000#32)))) (broadcastInDim S18x2304 ![0, 1] bcast_S1x2304_S18x2304_0_1 (broadcastInDim S1x2304 ![1] bcast_S2304_S1x2304_1 (hPosF (F := F))))

/-- The decay from each row to each chunk, forward. -/
def hDecF (A1 : (⟨S2x8, .f32⟩ : BufTy).Contents (Elt F)) : (⟨S8x18x2304, .f32⟩ : BufTy).Contents (Elt F) :=
  select (broadcastInDim S8x18x2304 ![1, 2] bcast_S18x2304_S8x18x2304_1_2 (cmpf .oge (hBackF (F := F)) (broadcastInDim S18x2304 ![] bcast_S_S18x2304 (constant S_ .f32 0x00000000#32)))) (Host.exp (mulf (broadcastInDim S8x18x2304 ![0, 1, 2] bcast_S1x18x2304_S8x18x2304_0_1_2 (broadcastInDim S1x18x2304 ![1, 2] bcast_S18x2304_S1x18x2304_1_2 (maximumf (hBackF (F := F)) (broadcastInDim S18x2304 ![] bcast_S_S18x2304 (constant S_ .f32 0x00000000#32))))) (broadcastInDim S8x18x2304 ![0, 1, 2] bcast_S8x1x1_S8x18x2304_0_1_2 (broadcastInDim S8x1x1 ![0] bcast_S8_S8x1x1_0 (shapeCast _ ((extractStridedSlice S1x8 ![0, 0] A1 slices_S2x8_S1x8_0_0)) shapeCasts_S1x8_S8))))) (broadcastInDim S8x18x2304 ![] bcast_S_S8x18x2304 (id (constant S_ .f32 0x00000000#32)))

/-- How far before each chunk each row lies, backward. -/
def hBackB : (⟨S18x2304, .f32⟩ : BufTy).Contents (Elt F) :=
  subf (broadcastInDim S18x2304 ![0, 1] bcast_S18x1_S18x2304_0_1 (subf (broadcastInDim S18x1 ![0] bcast_S18_S18x1_0 (mulf (broadcastInDim S18 ![] bcast_S_S18 (constant S_ .f32 0x43000000#32)) (sitofp (F := F) .f32 (iotaInDim S18 32 0)))) (broadcastInDim S18x1 ![] bcast_S_S18x1 (constant S_ .f32 0x3F800000#32)))) (broadcastInDim S18x2304 ![0, 1] bcast_S1x2304_S18x2304_0_1 (broadcastInDim S1x2304 ![1] bcast_S2304_S1x2304_1 (hPosB (F := F))))

/-- The decay from each row to each chunk, backward. -/
def hDecB (A1 : (⟨S2x8, .f32⟩ : BufTy).Contents (Elt F)) : (⟨S8x18x2304, .f32⟩ : BufTy).Contents (Elt F) :=
  select (broadcastInDim S8x18x2304 ![1, 2] bcast_S18x2304_S8x18x2304_1_2 (cmpf .oge (hBackB (F := F)) (broadcastInDim S18x2304 ![] bcast_S_S18x2304 (constant S_ .f32 0x00000000#32)))) (Host.exp (mulf (broadcastInDim S8x18x2304 ![0, 1, 2] bcast_S1x18x2304_S8x18x2304_0_1_2 (broadcastInDim S1x18x2304 ![1, 2] bcast_S18x2304_S1x18x2304_1_2 (maximumf (hBackB (F := F)) (broadcastInDim S18x2304 ![] bcast_S_S18x2304 (constant S_ .f32 0x00000000#32))))) (broadcastInDim S8x18x2304 ![0, 1, 2] bcast_S8x1x1_S8x18x2304_0_1_2 (broadcastInDim S8x1x1 ![0] bcast_S8_S8x1x1_0 (shapeCast _ ((extractStridedSlice S1x8 ![1, 0] A1 slices_S2x8_S1x8_1_0)) shapeCasts_S1x8_S8))))) (broadcastInDim S8x18x2304 ![] bcast_S_S8x18x2304 (id (constant S_ .f32 0x00000000#32)))

/-- The states saved before each chunk of each head and direction. -/
def hStates (A0 : (⟨S2304x14336, .bf16⟩ : BufTy).Contents (Elt F)) (A1 : (⟨S2x8, .f32⟩ : BufTy).Contents (Elt F)) : (⟨S8x2x18x128x256, .f32⟩ : BufTy).Contents (Elt F) :=
  cat_S8x2x18x128x256_1 (broadcastInDim S8x1x18x128x256 ![0, 2, 3, 4] bcast_S8x18x128x256_S8x1x18x128x256_0_2_3_4 (((fun l r => Host.dotGeneral dot_S8x18x2304x128_S8x2304x256_S8x18x128x256_2_1_13_2_0_0 none l r)) (mulf (broadcastInDim S8x18x2304x128 ![0, 1, 2, 3] bcast_S8x18x2304x1_S8x18x2304x128_0_1_2_3 (broadcastInDim S8x18x2304x1 ![0, 1, 2] bcast_S8x18x2304_S8x18x2304x1_0_1_2 (hDecF A1))) (broadcastInDim S8x18x2304x128 ![0, 1, 2, 3] bcast_S8x1x2304x128_S8x18x2304x128_0_1_2_3 (broadcastInDim S8x1x2304x128 ![0, 2, 3] bcast_S8x2304x128_S8x1x2304x128_0_2_3 (hK A0)))) (hV A0))) (broadcastInDim S8x1x18x128x256 ![0, 2, 3, 4] bcast_S8x18x128x256_S8x1x18x128x256_0_2_3_4 (((fun l r => Host.dotGeneral dot_S8x18x2304x128_S8x2304x256_S8x18x128x256_2_1_13_2_0_0 none l r)) (mulf (broadcastInDim S8x18x2304x128 ![0, 1, 2, 3] bcast_S8x18x2304x1_S8x18x2304x128_0_1_2_3 (broadcastInDim S8x18x2304x1 ![0, 1, 2] bcast_S8x18x2304_S8x18x2304x1_0_1_2 (hDecB A1))) (broadcastInDim S8x18x2304x128 ![0, 1, 2, 3] bcast_S8x1x2304x128_S8x18x2304x128_0_1_2_3 (broadcastInDim S8x1x2304x128 ![0, 2, 3] bcast_S8x2304x128_S8x1x2304x128_0_2_3 (hK A0)))) (hV A0)))

/-- The operations before the launch, in order. -/
abbrev hops : List (HloOp τ sig (Elt F)) :=
  [ StableHlo.nullary main_cst (fun i => FloatOps.ofBits .f32 (lit0 (S2048.rowMajor i))),
    StableHlo.nullary main_cst_0 (fun i => FloatOps.ofBits .f32 (lit1 (S2048.rowMajor i))),
    StableHlo.nullary main_v0 (sitofp .f32 (iotaInDim S32 32 0)),
    StableHlo.unary main_v0 main_v1 (Host.negf : (⟨S32, .f32⟩ : BufTy).Contents (Elt F) → (⟨S32, .f32⟩ : BufTy).Contents (Elt F)),
    StableHlo.nullary main_cst_1 (constant S_ .f32 0x42000000#32),
    StableHlo.unary main_cst_1 main_v2 (broadcastInDim S32 ![] bcast_S_S32 : (⟨S_, .f32⟩ : BufTy).Contents (Elt F) → (⟨S32, .f32⟩ : BufTy).Contents (Elt F)),
    StableHlo.binary main_v1 main_v2 main_v3 (Host.divf : (⟨S32, .f32⟩ : BufTy).Contents (Elt F) → (⟨S32, .f32⟩ : BufTy).Contents (Elt F) → (⟨S32, .f32⟩ : BufTy).Contents (Elt F)),
    StableHlo.nullary main_cst_2 (constant S_ .f32 0x461C4000#32),
    StableHlo.unary main_cst_2 main_v4 (broadcastInDim S32 ![] bcast_S_S32 : (⟨S_, .f32⟩ : BufTy).Contents (Elt F) → (⟨S32, .f32⟩ : BufTy).Contents (Elt F)),
    StableHlo.binary main_v4 main_v3 main_v5 (Host.powf : (⟨S32, .f32⟩ : BufTy).Contents (Elt F) → (⟨S32, .f32⟩ : BufTy).Contents (Elt F) → (⟨S32, .f32⟩ : BufTy).Contents (Elt F)),
    StableHlo.unary main_cst main_v6 (broadcastInDim S2048x1 ![0] bcast_S2048_S2048x1_0 : (⟨S2048, .f32⟩ : BufTy).Contents (Elt F) → (⟨S2048x1, .f32⟩ : BufTy).Contents (Elt F)),
    StableHlo.unary main_v5 main_v7 (broadcastInDim S1x32 ![1] bcast_S32_S1x32_1 : (⟨S32, .f32⟩ : BufTy).Contents (Elt F) → (⟨S1x32, .f32⟩ : BufTy).Contents (Elt F)),
    StableHlo.unary main_v6 main_v8 (broadcastInDim S2048x32 ![0, 1] bcast_S2048x1_S2048x32_0_1 : (⟨S2048x1, .f32⟩ : BufTy).Contents (Elt F) → (⟨S2048x32, .f32⟩ : BufTy).Contents (Elt F)),
    StableHlo.unary main_v7 main_v9 (broadcastInDim S2048x32 ![0, 1] bcast_S1x32_S2048x32_0_1 : (⟨S1x32, .f32⟩ : BufTy).Contents (Elt F) → (⟨S2048x32, .f32⟩ : BufTy).Contents (Elt F)),
    StableHlo.binary main_v8 main_v9 main_v10 (mulf : (⟨S2048x32, .f32⟩ : BufTy).Contents (Elt F) → (⟨S2048x32, .f32⟩ : BufTy).Contents (Elt F) → (⟨S2048x32, .f32⟩ : BufTy).Contents (Elt F)),
    StableHlo.unary main_cst_0 main_v11 (broadcastInDim S2048x1 ![0] bcast_S2048_S2048x1_0 : (⟨S2048, .f32⟩ : BufTy).Contents (Elt F) → (⟨S2048x1, .f32⟩ : BufTy).Contents (Elt F)),
    StableHlo.unary main_v5 main_v12 (broadcastInDim S1x32 ![1] bcast_S32_S1x32_1 : (⟨S32, .f32⟩ : BufTy).Contents (Elt F) → (⟨S1x32, .f32⟩ : BufTy).Contents (Elt F)),
    StableHlo.unary main_v11 main_v13 (broadcastInDim S2048x32 ![0, 1] bcast_S2048x1_S2048x32_0_1 : (⟨S2048x1, .f32⟩ : BufTy).Contents (Elt F) → (⟨S2048x32, .f32⟩ : BufTy).Contents (Elt F)),
    StableHlo.unary main_v12 main_v14 (broadcastInDim S2048x32 ![0, 1] bcast_S1x32_S2048x32_0_1 : (⟨S1x32, .f32⟩ : BufTy).Contents (Elt F) → (⟨S2048x32, .f32⟩ : BufTy).Contents (Elt F)),
    StableHlo.binary main_v13 main_v14 main_v15 (mulf : (⟨S2048x32, .f32⟩ : BufTy).Contents (Elt F) → (⟨S2048x32, .f32⟩ : BufTy).Contents (Elt F) → (⟨S2048x32, .f32⟩ : BufTy).Contents (Elt F)),
    StableHlo.binary main_v10 main_v15 main_v16 (cat_S2048x64_1 (F := F)),
    StableHlo.unary main_v16 main_v17 (Host.cos : (⟨S2048x64, .f32⟩ : BufTy).Contents (Elt F) → (⟨S2048x64, .f32⟩ : BufTy).Contents (Elt F)),
    StableHlo.unary main_v16 main_v18 (Host.sin : (⟨S2048x64, .f32⟩ : BufTy).Contents (Elt F) → (⟨S2048x64, .f32⟩ : BufTy).Contents (Elt F)),
    StableHlo.binary main_v17 main_v17 main_v19 (cat_S2048x128_1 (F := F)),
    StableHlo.unary main_v18 main_v20 (Host.negf : (⟨S2048x64, .f32⟩ : BufTy).Contents (Elt F) → (⟨S2048x64, .f32⟩ : BufTy).Contents (Elt F)),
    StableHlo.binary main_v20 main_v18 main_v21 (cat_S2048x128_1 (F := F)),
    StableHlo.nullary main_cst_3 (constant S_ .f32 0x3F800000#32),
    StableHlo.unary main_cst_3 main_v22 (broadcastInDim S256x128 ![] bcast_S_S256x128 : (⟨S_, .f32⟩ : BufTy).Contents (Elt F) → (⟨S256x128, .f32⟩ : BufTy).Contents (Elt F)),
    StableHlo.binary main_v19 main_v22 main_v23 (cat_S2304x128_0 (F := F)),
    StableHlo.nullary main_cst_4 (constant S_ .f32 0x00000000#32),
    StableHlo.unary main_cst_4 main_v24 (broadcastInDim S256x128 ![] bcast_S_S256x128 : (⟨S_, .f32⟩ : BufTy).Contents (Elt F) → (⟨S256x128, .f32⟩ : BufTy).Contents (Elt F)),
    StableHlo.binary main_v21 main_v24 main_v25 (cat_S2304x128_0 (F := F)),
    StableHlo.unary main_arg0 main_v26 ((extractStridedSlice S2304x1024 ![0, 5120] · slices_S2304x14336_S2304x1024_0_5120) : (⟨S2304x14336, .bf16⟩ : BufTy).Contents (Elt F) → (⟨S2304x1024, .bf16⟩ : BufTy).Contents (Elt F)),
    StableHlo.unary main_v26 main_v27 ((extf .f32 · bitsLt_bf16_f32) : (⟨S2304x1024, .bf16⟩ : BufTy).Contents (Elt F) → (⟨S2304x1024, .f32⟩ : BufTy).Contents (Elt F)),
    StableHlo.reshape main_v27 main_v28 (rfl : (.f32 : EltTy) = .f32) shapeCasts_S2304x1024_S2304x8x128,
    StableHlo.unary main_v28 main_v29 ((transpose S8x2304x128 [1, 0, 2] · transposes_S2304x8x128_S8x2304x128_1_0_2) : (⟨S2304x8x128, .f32⟩ : BufTy).Contents (Elt F) → (⟨S8x2304x128, .f32⟩ : BufTy).Contents (Elt F)),
    StableHlo.nullary main_v30 (sitofp .f32 (iotaInDim S32x64 32 0)),
    StableHlo.reshape main_v30 main_v31 (rfl : (.f32 : EltTy) = .f32) shapeCasts_S32x64_S2048,
    StableHlo.nullary main_v32 (sitofp .f32 (iotaInDim S32x64 32 1)),
    StableHlo.reshape main_v32 main_v33 (rfl : (.f32 : EltTy) = .f32) shapeCasts_S32x64_S2048,
    StableHlo.nullary main_v34 (sitofp .f32 (iotaInDim S32 32 0)),
    StableHlo.unary main_v34 main_v35 (Host.negf : (⟨S32, .f32⟩ : BufTy).Contents (Elt F) → (⟨S32, .f32⟩ : BufTy).Contents (Elt F)),
    StableHlo.nullary main_cst_5 (constant S_ .f32 0x42000000#32),
    StableHlo.unary main_cst_5 main_v36 (broadcastInDim S32 ![] bcast_S_S32 : (⟨S_, .f32⟩ : BufTy).Contents (Elt F) → (⟨S32, .f32⟩ : BufTy).Contents (Elt F)),
    StableHlo.binary main_v35 main_v36 main_v37 (Host.divf : (⟨S32, .f32⟩ : BufTy).Contents (Elt F) → (⟨S32, .f32⟩ : BufTy).Contents (Elt F) → (⟨S32, .f32⟩ : BufTy).Contents (Elt F)),
    StableHlo.nullary main_cst_6 (constant S_ .f32 0x461C4000#32),
    StableHlo.unary main_cst_6 main_v38 (broadcastInDim S32 ![] bcast_S_S32 : (⟨S_, .f32⟩ : BufTy).Contents (Elt F) → (⟨S32, .f32⟩ : BufTy).Contents (Elt F)),
    StableHlo.binary main_v38 main_v37 main_v39 (Host.powf : (⟨S32, .f32⟩ : BufTy).Contents (Elt F) → (⟨S32, .f32⟩ : BufTy).Contents (Elt F) → (⟨S32, .f32⟩ : BufTy).Contents (Elt F)),
    StableHlo.unary main_v31 main_v40 (broadcastInDim S2048x1 ![0] bcast_S2048_S2048x1_0 : (⟨S2048, .f32⟩ : BufTy).Contents (Elt F) → (⟨S2048x1, .f32⟩ : BufTy).Contents (Elt F)),
    StableHlo.unary main_v39 main_v41 (broadcastInDim S1x32 ![1] bcast_S32_S1x32_1 : (⟨S32, .f32⟩ : BufTy).Contents (Elt F) → (⟨S1x32, .f32⟩ : BufTy).Contents (Elt F)),
    StableHlo.unary main_v40 main_v42 (broadcastInDim S2048x32 ![0, 1] bcast_S2048x1_S2048x32_0_1 : (⟨S2048x1, .f32⟩ : BufTy).Contents (Elt F) → (⟨S2048x32, .f32⟩ : BufTy).Contents (Elt F)),
    StableHlo.unary main_v41 main_v43 (broadcastInDim S2048x32 ![0, 1] bcast_S1x32_S2048x32_0_1 : (⟨S1x32, .f32⟩ : BufTy).Contents (Elt F) → (⟨S2048x32, .f32⟩ : BufTy).Contents (Elt F)),
    StableHlo.binary main_v42 main_v43 main_v44 (mulf : (⟨S2048x32, .f32⟩ : BufTy).Contents (Elt F) → (⟨S2048x32, .f32⟩ : BufTy).Contents (Elt F) → (⟨S2048x32, .f32⟩ : BufTy).Contents (Elt F)),
    StableHlo.unary main_v33 main_v45 (broadcastInDim S2048x1 ![0] bcast_S2048_S2048x1_0 : (⟨S2048, .f32⟩ : BufTy).Contents (Elt F) → (⟨S2048x1, .f32⟩ : BufTy).Contents (Elt F)),
    StableHlo.unary main_v39 main_v46 (broadcastInDim S1x32 ![1] bcast_S32_S1x32_1 : (⟨S32, .f32⟩ : BufTy).Contents (Elt F) → (⟨S1x32, .f32⟩ : BufTy).Contents (Elt F)),
    StableHlo.unary main_v45 main_v47 (broadcastInDim S2048x32 ![0, 1] bcast_S2048x1_S2048x32_0_1 : (⟨S2048x1, .f32⟩ : BufTy).Contents (Elt F) → (⟨S2048x32, .f32⟩ : BufTy).Contents (Elt F)),
    StableHlo.unary main_v46 main_v48 (broadcastInDim S2048x32 ![0, 1] bcast_S1x32_S2048x32_0_1 : (⟨S1x32, .f32⟩ : BufTy).Contents (Elt F) → (⟨S2048x32, .f32⟩ : BufTy).Contents (Elt F)),
    StableHlo.binary main_v47 main_v48 main_v49 (mulf : (⟨S2048x32, .f32⟩ : BufTy).Contents (Elt F) → (⟨S2048x32, .f32⟩ : BufTy).Contents (Elt F) → (⟨S2048x32, .f32⟩ : BufTy).Contents (Elt F)),
    StableHlo.binary main_v44 main_v49 main_v50 (cat_S2048x64_1 (F := F)),
    StableHlo.unary main_v50 main_v51 (Host.cos : (⟨S2048x64, .f32⟩ : BufTy).Contents (Elt F) → (⟨S2048x64, .f32⟩ : BufTy).Contents (Elt F)),
    StableHlo.unary main_v50 main_v52 (Host.sin : (⟨S2048x64, .f32⟩ : BufTy).Contents (Elt F) → (⟨S2048x64, .f32⟩ : BufTy).Contents (Elt F)),
    StableHlo.unary main_v29 main_v53 ((extractStridedSlice S8x2048x128 ![0, 0, 0] · slices_S8x2304x128_S8x2048x128_0_0_0) : (⟨S8x2304x128, .f32⟩ : BufTy).Contents (Elt F) → (⟨S8x2048x128, .f32⟩ : BufTy).Contents (Elt F)),
    StableHlo.unary main_v53 main_v54 ((extractStridedSlice S8x2048x64 ![0, 0, 0] · slices_S8x2048x128_S8x2048x64_0_0_0) : (⟨S8x2048x128, .f32⟩ : BufTy).Contents (Elt F) → (⟨S8x2048x64, .f32⟩ : BufTy).Contents (Elt F)),
    StableHlo.unary main_v53 main_v55 ((extractStridedSlice S8x2048x64 ![0, 0, 64] · slices_S8x2048x128_S8x2048x64_0_0_64) : (⟨S8x2048x128, .f32⟩ : BufTy).Contents (Elt F) → (⟨S8x2048x64, .f32⟩ : BufTy).Contents (Elt F)),
    StableHlo.unary main_v51 main_v56 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v56 main_v57 (broadcastInDim S8x2048x64 ![0, 1, 2] bcast_S1x2048x64_S8x2048x64_0_1_2 : (⟨S1x2048x64, .f32⟩ : BufTy).Contents (Elt F) → (⟨S8x2048x64, .f32⟩ : BufTy).Contents (Elt F)),
    StableHlo.binary main_v54 main_v57 main_v58 (mulf : (⟨S8x2048x64, .f32⟩ : BufTy).Contents (Elt F) → (⟨S8x2048x64, .f32⟩ : BufTy).Contents (Elt F) → (⟨S8x2048x64, .f32⟩ : BufTy).Contents (Elt F)),
    StableHlo.unary main_v52 main_v59 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v59 main_v60 (broadcastInDim S8x2048x64 ![0, 1, 2] bcast_S1x2048x64_S8x2048x64_0_1_2 : (⟨S1x2048x64, .f32⟩ : BufTy).Contents (Elt F) → (⟨S8x2048x64, .f32⟩ : BufTy).Contents (Elt F)),
    StableHlo.binary main_v55 main_v60 main_v61 (mulf : (⟨S8x2048x64, .f32⟩ : BufTy).Contents (Elt F) → (⟨S8x2048x64, .f32⟩ : BufTy).Contents (Elt F) → (⟨S8x2048x64, .f32⟩ : BufTy).Contents (Elt F)),
    StableHlo.binary main_v58 main_v61 main_v62 (subf : (⟨S8x2048x64, .f32⟩ : BufTy).Contents (Elt F) → (⟨S8x2048x64, .f32⟩ : BufTy).Contents (Elt F) → (⟨S8x2048x64, .f32⟩ : BufTy).Contents (Elt F)),
    StableHlo.unary main_v51 main_v63 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v63 main_v64 (broadcastInDim S8x2048x64 ![0, 1, 2] bcast_S1x2048x64_S8x2048x64_0_1_2 : (⟨S1x2048x64, .f32⟩ : BufTy).Contents (Elt F) → (⟨S8x2048x64, .f32⟩ : BufTy).Contents (Elt F)),
    StableHlo.binary main_v55 main_v64 main_v65 (mulf : (⟨S8x2048x64, .f32⟩ : BufTy).Contents (Elt F) → (⟨S8x2048x64, .f32⟩ : BufTy).Contents (Elt F) → (⟨S8x2048x64, .f32⟩ : BufTy).Contents (Elt F)),
    StableHlo.unary main_v52 main_v66 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v66 main_v67 (broadcastInDim S8x2048x64 ![0, 1, 2] bcast_S1x2048x64_S8x2048x64_0_1_2 : (⟨S1x2048x64, .f32⟩ : BufTy).Contents (Elt F) → (⟨S8x2048x64, .f32⟩ : BufTy).Contents (Elt F)),
    StableHlo.binary main_v54 main_v67 main_v68 (mulf : (⟨S8x2048x64, .f32⟩ : BufTy).Contents (Elt F) → (⟨S8x2048x64, .f32⟩ : BufTy).Contents (Elt F) → (⟨S8x2048x64, .f32⟩ : BufTy).Contents (Elt F)),
    StableHlo.binary main_v65 main_v68 main_v69 (addf : (⟨S8x2048x64, .f32⟩ : BufTy).Contents (Elt F) → (⟨S8x2048x64, .f32⟩ : BufTy).Contents (Elt F) → (⟨S8x2048x64, .f32⟩ : BufTy).Contents (Elt F)),
    StableHlo.binary main_v62 main_v69 main_v70 (cat_S8x2048x128_2 (F := F)),
    StableHlo.unary main_v29 main_v71 ((extractStridedSlice S8x256x128 ![0, 2048, 0] · slices_S8x2304x128_S8x256x128_0_2048_0) : (⟨S8x2304x128, .f32⟩ : BufTy).Contents (Elt F) → (⟨S8x256x128, .f32⟩ : BufTy).Contents (Elt F)),
    StableHlo.binary main_v70 main_v71 main_v72 (cat_S8x2304x128_1 (F := F)),
    StableHlo.nullary main_cst_7 (constant S_ .f32 0x3DB504F3#32),
    StableHlo.unary main_cst_7 main_v73 (broadcastInDim S8x2304x128 ![] bcast_S_S8x2304x128 : (⟨S_, .f32⟩ : BufTy).Contents (Elt F) → (⟨S8x2304x128, .f32⟩ : BufTy).Contents (Elt F)),
    StableHlo.binary main_v72 main_v73 main_v74 (mulf : (⟨S8x2304x128, .f32⟩ : BufTy).Contents (Elt F) → (⟨S8x2304x128, .f32⟩ : BufTy).Contents (Elt F) → (⟨S8x2304x128, .f32⟩ : BufTy).Contents (Elt F)),
    StableHlo.unary main_arg0 main_v75 ((extractStridedSlice S2304x2048 ![0, 6144] · slices_S2304x14336_S2304x2048_0_6144) : (⟨S2304x14336, .bf16⟩ : BufTy).Contents (Elt F) → (⟨S2304x2048, .bf16⟩ : BufTy).Contents (Elt F)),
    StableHlo.unary main_v75 main_v76 ((extf .f32 · bitsLt_bf16_f32) : (⟨S2304x2048, .bf16⟩ : BufTy).Contents (Elt F) → (⟨S2304x2048, .f32⟩ : BufTy).Contents (Elt F)),
    StableHlo.reshape main_v76 main_v77 (rfl : (.f32 : EltTy) = .f32) shapeCasts_S2304x2048_S2304x8x256,
    StableHlo.unary main_v77 main_v78 ((transpose S8x2304x256 [1, 0, 2] · transposes_S2304x8x256_S8x2304x256_1_0_2) : (⟨S2304x8x256, .f32⟩ : BufTy).Contents (Elt F) → (⟨S8x2304x256, .f32⟩ : BufTy).Contents (Elt F)),
    StableHlo.nullary main_v79 (sitofp .f32 (iotaInDim S18 32 0)),
    StableHlo.nullary main_cst_8 (constant S_ .f32 0x43000000#32),
    StableHlo.unary main_cst_8 main_v80 (broadcastInDim S18 ![] bcast_S_S18 : (⟨S_, .f32⟩ : BufTy).Contents (Elt F) → (⟨S18, .f32⟩ : BufTy).Contents (Elt F)),
    StableHlo.binary main_v80 main_v79 main_v81 (mulf : (⟨S18, .f32⟩ : BufTy).Contents (Elt F) → (⟨S18, .f32⟩ : BufTy).Contents (Elt F) → (⟨S18, .f32⟩ : BufTy).Contents (Elt F)),
    StableHlo.nullary main_v82 (sitofp .f32 (iotaInDim S2304 32 0)),
    StableHlo.nullary main_cst_9 (constant S_ .f32 0x45000000#32),
    StableHlo.unary main_cst_9 main_v83 (broadcastInDim S2304 ![] bcast_S_S2304 : (⟨S_, .f32⟩ : BufTy).Contents (Elt F) → (⟨S2304, .f32⟩ : BufTy).Contents (Elt F)),
    StableHlo.binary main_v82 main_v83 main_v84 (cmpf .olt : (⟨S2304, .f32⟩ : BufTy).Contents (Elt F) → (⟨S2304, .f32⟩ : BufTy).Contents (Elt F) → (⟨S2304, .i1⟩ : BufTy).Contents (Elt F)),
    StableHlo.nullary main_cst_10 (constant S_ .f32 0x43800000#32),
    StableHlo.unary main_cst_10 main_v85 (broadcastInDim S2304 ![] bcast_S_S2304 : (⟨S_, .f32⟩ : BufTy).Contents (Elt F) → (⟨S2304, .f32⟩ : BufTy).Contents (Elt F)),
    StableHlo.binary main_v85 main_v82 main_v86 (addf : (⟨S2304, .f32⟩ : BufTy).Contents (Elt F) → (⟨S2304, .f32⟩ : BufTy).Contents (Elt F) → (⟨S2304, .f32⟩ : BufTy).Contents (Elt F)),
    StableHlo.nullary main_cst_11 (constant S_ .f32 0x45000000#32),
    StableHlo.unary main_cst_11 main_v87 (broadcastInDim S2304 ![] bcast_S_S2304 : (⟨S_, .f32⟩ : BufTy).Contents (Elt F) → (⟨S2304, .f32⟩ : BufTy).Contents (Elt F)),
    StableHlo.binary main_v82 main_v87 main_v88 (subf : (⟨S2304, .f32⟩ : BufTy).Contents (Elt F) → (⟨S2304, .f32⟩ : BufTy).Contents (Elt F) → (⟨S2304, .f32⟩ : BufTy).Contents (Elt F)),
    StableHlo.TRef.ternary (.of main_v84 : StableHlo.TRef sig ⟨S2304, .i1⟩) (.of main_v86 : StableHlo.TRef sig ⟨S2304, .f32⟩) (.of main_v88 : StableHlo.TRef sig ⟨S2304, .f32⟩) (.of main_v89 : StableHlo.TRef sig ⟨S2304, .f32⟩) select,
    StableHlo.nullary main_cst_12 (constant S_ .f32 0x450FF000#32),
    StableHlo.unary main_cst_12 main_v90 (broadcastInDim S2304 ![] bcast_S_S2304 : (⟨S_, .f32⟩ : BufTy).Contents (Elt F) → (⟨S2304, .f32⟩ : BufTy).Contents (Elt F)),
    StableHlo.binary main_v90 main_v82 main_v91 (subf : (⟨S2304, .f32⟩ : BufTy).Contents (Elt F) → (⟨S2304, .f32⟩ : BufTy).Contents (Elt F) → (⟨S2304, .f32⟩ : BufTy).Contents (Elt F)),
    StableHlo.unary main_arg1 main_v92 ((extractStridedSlice S1x8 ![0, 0] · slices_S2x8_S1x8_0_0) : (⟨S2x8, .f32⟩ : BufTy).Contents (Elt F) → (⟨S1x8, .f32⟩ : BufTy).Contents (Elt F)),
    StableHlo.reshape main_v92 main_v93 (rfl : (.f32 : EltTy) = .f32) shapeCasts_S1x8_S8,
    StableHlo.unary main_v81 main_v94 (broadcastInDim S18x1 ![0] bcast_S18_S18x1_0 : (⟨S18, .f32⟩ : BufTy).Contents (Elt F) → (⟨S18x1, .f32⟩ : BufTy).Contents (Elt F)),
    StableHlo.nullary main_cst_13 (constant S_ .f32 0x3F800000#32),
    StableHlo.unary main_cst_13 main_v95 (broadcastInDim S18x1 ![] bcast_S_S18x1 : (⟨S_, .f32⟩ : BufTy).Contents (Elt F) → (⟨S18x1, .f32⟩ : BufTy).Contents (Elt F)),
    StableHlo.binary main_v94 main_v95 main_v96 (subf : (⟨S18x1, .f32⟩ : BufTy).Contents (Elt F) → (⟨S18x1, .f32⟩ : BufTy).Contents (Elt F) → (⟨S18x1, .f32⟩ : BufTy).Contents (Elt F)),
    StableHlo.unary main_v89 main_v97 (broadcastInDim S1x2304 ![1] bcast_S2304_S1x2304_1 : (⟨S2304, .f32⟩ : BufTy).Contents (Elt F) → (⟨S1x2304, .f32⟩ : BufTy).Contents (Elt F)),
    StableHlo.unary main_v96 main_v98 (broadcastInDim S18x2304 ![0, 1] bcast_S18x1_S18x2304_0_1 : (⟨S18x1, .f32⟩ : BufTy).Contents (Elt F) → (⟨S18x2304, .f32⟩ : BufTy).Contents (Elt F)),
    StableHlo.unary main_v97 main_v99 (broadcastInDim S18x2304 ![0, 1] bcast_S1x2304_S18x2304_0_1 : (⟨S1x2304, .f32⟩ : BufTy).Contents (Elt F) → (⟨S18x2304, .f32⟩ : BufTy).Contents (Elt F)),
    StableHlo.binary main_v98 main_v99 main_v100 (subf : (⟨S18x2304, .f32⟩ : BufTy).Contents (Elt F) → (⟨S18x2304, .f32⟩ : BufTy).Contents (Elt F) → (⟨S18x2304, .f32⟩ : BufTy).Contents (Elt F)),
    StableHlo.nullary main_cst_14 (constant S_ .f32 0x00000000#32),
    StableHlo.unary main_cst_14 main_v101 (broadcastInDim S18x2304 ![] bcast_S_S18x2304 : (⟨S_, .f32⟩ : BufTy).Contents (Elt F) → (⟨S18x2304, .f32⟩ : BufTy).Contents (Elt F)),
    StableHlo.binary main_v100 main_v101 main_v102 (cmpf .oge : (⟨S18x2304, .f32⟩ : BufTy).Contents (Elt F) → (⟨S18x2304, .f32⟩ : BufTy).Contents (Elt F) → (⟨S18x2304, .i1⟩ : BufTy).Contents (Elt F)),
    StableHlo.nullary main_cst_15 (constant S_ .f32 0x00000000#32),
    StableHlo.unary main_cst_15 main_v103 (broadcastInDim S18x2304 ![] bcast_S_S18x2304 : (⟨S_, .f32⟩ : BufTy).Contents (Elt F) → (⟨S18x2304, .f32⟩ : BufTy).Contents (Elt F)),
    StableHlo.binary main_v100 main_v103 main_v104 (maximumf : (⟨S18x2304, .f32⟩ : BufTy).Contents (Elt F) → (⟨S18x2304, .f32⟩ : BufTy).Contents (Elt F) → (⟨S18x2304, .f32⟩ : BufTy).Contents (Elt F)),
    StableHlo.unary main_v93 main_v105 (broadcastInDim S8x1x1 ![0] bcast_S8_S8x1x1_0 : (⟨S8, .f32⟩ : BufTy).Contents (Elt F) → (⟨S8x1x1, .f32⟩ : BufTy).Contents (Elt F)),
    StableHlo.unary main_v104 main_v106 (broadcastInDim S1x18x2304 ![1, 2] bcast_S18x2304_S1x18x2304_1_2 : (⟨S18x2304, .f32⟩ : BufTy).Contents (Elt F) → (⟨S1x18x2304, .f32⟩ : BufTy).Contents (Elt F)),
    StableHlo.unary main_v106 main_v107 (broadcastInDim S8x18x2304 ![0, 1, 2] bcast_S1x18x2304_S8x18x2304_0_1_2 : (⟨S1x18x2304, .f32⟩ : BufTy).Contents (Elt F) → (⟨S8x18x2304, .f32⟩ : BufTy).Contents (Elt F)),
    StableHlo.unary main_v105 main_v108 (broadcastInDim S8x18x2304 ![0, 1, 2] bcast_S8x1x1_S8x18x2304_0_1_2 : (⟨S8x1x1, .f32⟩ : BufTy).Contents (Elt F) → (⟨S8x18x2304, .f32⟩ : BufTy).Contents (Elt F)),
    StableHlo.binary main_v107 main_v108 main_v109 (mulf : (⟨S8x18x2304, .f32⟩ : BufTy).Contents (Elt F) → (⟨S8x18x2304, .f32⟩ : BufTy).Contents (Elt F) → (⟨S8x18x2304, .f32⟩ : BufTy).Contents (Elt F)),
    StableHlo.unary main_v109 main_v110 (Host.exp : (⟨S8x18x2304, .f32⟩ : BufTy).Contents (Elt F) → (⟨S8x18x2304, .f32⟩ : BufTy).Contents (Elt F)),
    StableHlo.nullary main_cst_16 (constant S_ .f32 0x00000000#32),
    StableHlo.TRef.unary (.of main_cst_16 : StableHlo.TRef sig ⟨S_, .f32⟩) (.of main_call1_v0 : StableHlo.TRef sig ⟨S_, .f32⟩) id,
    StableHlo.TRef.unary (.of main_v102 : StableHlo.TRef sig ⟨S18x2304, .i1⟩) (.of main_call1_v1 : StableHlo.TRef sig ⟨S8x18x2304, .i1⟩) (broadcastInDim S8x18x2304 ![1, 2] bcast_S18x2304_S8x18x2304_1_2),
    StableHlo.TRef.unary (.of main_call1_v0 : StableHlo.TRef sig ⟨S_, .f32⟩) (.of main_call1_v2 : StableHlo.TRef sig ⟨S8x18x2304, .f32⟩) (broadcastInDim S8x18x2304 ![] bcast_S_S8x18x2304),
    StableHlo.TRef.ternary (.of main_call1_v1 : StableHlo.TRef sig ⟨S8x18x2304, .i1⟩) (.of main_v110 : StableHlo.TRef sig ⟨S8x18x2304, .f32⟩) (.of main_call1_v2 : StableHlo.TRef sig ⟨S8x18x2304, .f32⟩) (.of main_v111 : StableHlo.TRef sig ⟨S8x18x2304, .f32⟩) select,
    StableHlo.unary main_v111 main_v112 (broadcastInDim S8x18x2304x1 ![0, 1, 2] bcast_S8x18x2304_S8x18x2304x1_0_1_2 : (⟨S8x18x2304, .f32⟩ : BufTy).Contents (Elt F) → (⟨S8x18x2304x1, .f32⟩ : BufTy).Contents (Elt F)),
    StableHlo.unary main_v74 main_v113 (broadcastInDim S8x1x2304x128 ![0, 2, 3] bcast_S8x2304x128_S8x1x2304x128_0_2_3 : (⟨S8x2304x128, .f32⟩ : BufTy).Contents (Elt F) → (⟨S8x1x2304x128, .f32⟩ : BufTy).Contents (Elt F)),
    StableHlo.unary main_v112 main_v114 (broadcastInDim S8x18x2304x128 ![0, 1, 2, 3] bcast_S8x18x2304x1_S8x18x2304x128_0_1_2_3 : (⟨S8x18x2304x1, .f32⟩ : BufTy).Contents (Elt F) → (⟨S8x18x2304x128, .f32⟩ : BufTy).Contents (Elt F)),
    StableHlo.unary main_v113 main_v115 (broadcastInDim S8x18x2304x128 ![0, 1, 2, 3] bcast_S8x1x2304x128_S8x18x2304x128_0_1_2_3 : (⟨S8x1x2304x128, .f32⟩ : BufTy).Contents (Elt F) → (⟨S8x18x2304x128, .f32⟩ : BufTy).Contents (Elt F)),
    StableHlo.binary main_v114 main_v115 main_v116 (mulf : (⟨S8x18x2304x128, .f32⟩ : BufTy).Contents (Elt F) → (⟨S8x18x2304x128, .f32⟩ : BufTy).Contents (Elt F) → (⟨S8x18x2304x128, .f32⟩ : BufTy).Contents (Elt F)),
    StableHlo.binary main_v116 main_v78 main_v117 ((fun l r => Host.dotGeneral dot_S8x18x2304x128_S8x2304x256_S8x18x128x256_2_1_13_2_0_0 none l r) : (⟨S8x18x2304x128, .f32⟩ : BufTy).Contents (Elt F) → (⟨S8x2304x256, .f32⟩ : BufTy).Contents (Elt F) → (⟨S8x18x128x256, .f32⟩ : BufTy).Contents (Elt F)),
    StableHlo.unary main_arg1 main_v118 ((extractStridedSlice S1x8 ![1, 0] · slices_S2x8_S1x8_1_0) : (⟨S2x8, .f32⟩ : BufTy).Contents (Elt F) → (⟨S1x8, .f32⟩ : BufTy).Contents (Elt F)),
    StableHlo.reshape main_v118 main_v119 (rfl : (.f32 : EltTy) = .f32) shapeCasts_S1x8_S8,
    StableHlo.unary main_v81 main_v120 (broadcastInDim S18x1 ![0] bcast_S18_S18x1_0 : (⟨S18, .f32⟩ : BufTy).Contents (Elt F) → (⟨S18x1, .f32⟩ : BufTy).Contents (Elt F)),
    StableHlo.nullary main_cst_17 (constant S_ .f32 0x3F800000#32),
    StableHlo.unary main_cst_17 main_v121 (broadcastInDim S18x1 ![] bcast_S_S18x1 : (⟨S_, .f32⟩ : BufTy).Contents (Elt F) → (⟨S18x1, .f32⟩ : BufTy).Contents (Elt F)),
    StableHlo.binary main_v120 main_v121 main_v122 (subf : (⟨S18x1, .f32⟩ : BufTy).Contents (Elt F) → (⟨S18x1, .f32⟩ : BufTy).Contents (Elt F) → (⟨S18x1, .f32⟩ : BufTy).Contents (Elt F)),
    StableHlo.unary main_v91 main_v123 (broadcastInDim S1x2304 ![1] bcast_S2304_S1x2304_1 : (⟨S2304, .f32⟩ : BufTy).Contents (Elt F) → (⟨S1x2304, .f32⟩ : BufTy).Contents (Elt F)),
    StableHlo.unary main_v122 main_v124 (broadcastInDim S18x2304 ![0, 1] bcast_S18x1_S18x2304_0_1 : (⟨S18x1, .f32⟩ : BufTy).Contents (Elt F) → (⟨S18x2304, .f32⟩ : BufTy).Contents (Elt F)),
    StableHlo.unary main_v123 main_v125 (broadcastInDim S18x2304 ![0, 1] bcast_S1x2304_S18x2304_0_1 : (⟨S1x2304, .f32⟩ : BufTy).Contents (Elt F) → (⟨S18x2304, .f32⟩ : BufTy).Contents (Elt F)),
    StableHlo.binary main_v124 main_v125 main_v126 (subf : (⟨S18x2304, .f32⟩ : BufTy).Contents (Elt F) → (⟨S18x2304, .f32⟩ : BufTy).Contents (Elt F) → (⟨S18x2304, .f32⟩ : BufTy).Contents (Elt F)),
    StableHlo.nullary main_cst_18 (constant S_ .f32 0x00000000#32),
    StableHlo.unary main_cst_18 main_v127 (broadcastInDim S18x2304 ![] bcast_S_S18x2304 : (⟨S_, .f32⟩ : BufTy).Contents (Elt F) → (⟨S18x2304, .f32⟩ : BufTy).Contents (Elt F)),
    StableHlo.binary main_v126 main_v127 main_v128 (cmpf .oge : (⟨S18x2304, .f32⟩ : BufTy).Contents (Elt F) → (⟨S18x2304, .f32⟩ : BufTy).Contents (Elt F) → (⟨S18x2304, .i1⟩ : BufTy).Contents (Elt F)),
    StableHlo.nullary main_cst_19 (constant S_ .f32 0x00000000#32),
    StableHlo.unary main_cst_19 main_v129 (broadcastInDim S18x2304 ![] bcast_S_S18x2304 : (⟨S_, .f32⟩ : BufTy).Contents (Elt F) → (⟨S18x2304, .f32⟩ : BufTy).Contents (Elt F)),
    StableHlo.binary main_v126 main_v129 main_v130 (maximumf : (⟨S18x2304, .f32⟩ : BufTy).Contents (Elt F) → (⟨S18x2304, .f32⟩ : BufTy).Contents (Elt F) → (⟨S18x2304, .f32⟩ : BufTy).Contents (Elt F)),
    StableHlo.unary main_v119 main_v131 (broadcastInDim S8x1x1 ![0] bcast_S8_S8x1x1_0 : (⟨S8, .f32⟩ : BufTy).Contents (Elt F) → (⟨S8x1x1, .f32⟩ : BufTy).Contents (Elt F)),
    StableHlo.unary main_v130 main_v132 (broadcastInDim S1x18x2304 ![1, 2] bcast_S18x2304_S1x18x2304_1_2 : (⟨S18x2304, .f32⟩ : BufTy).Contents (Elt F) → (⟨S1x18x2304, .f32⟩ : BufTy).Contents (Elt F)),
    StableHlo.unary main_v132 main_v133 (broadcastInDim S8x18x2304 ![0, 1, 2] bcast_S1x18x2304_S8x18x2304_0_1_2 : (⟨S1x18x2304, .f32⟩ : BufTy).Contents (Elt F) → (⟨S8x18x2304, .f32⟩ : BufTy).Contents (Elt F)),
    StableHlo.unary main_v131 main_v134 (broadcastInDim S8x18x2304 ![0, 1, 2] bcast_S8x1x1_S8x18x2304_0_1_2 : (⟨S8x1x1, .f32⟩ : BufTy).Contents (Elt F) → (⟨S8x18x2304, .f32⟩ : BufTy).Contents (Elt F)),
    StableHlo.binary main_v133 main_v134 main_v135 (mulf : (⟨S8x18x2304, .f32⟩ : BufTy).Contents (Elt F) → (⟨S8x18x2304, .f32⟩ : BufTy).Contents (Elt F) → (⟨S8x18x2304, .f32⟩ : BufTy).Contents (Elt F)),
    StableHlo.unary main_v135 main_v136 (Host.exp : (⟨S8x18x2304, .f32⟩ : BufTy).Contents (Elt F) → (⟨S8x18x2304, .f32⟩ : BufTy).Contents (Elt F)),
    StableHlo.nullary main_cst_20 (constant S_ .f32 0x00000000#32),
    StableHlo.TRef.unary (.of main_cst_20 : StableHlo.TRef sig ⟨S_, .f32⟩) (.of main_call2_v0 : StableHlo.TRef sig ⟨S_, .f32⟩) id,
    StableHlo.TRef.unary (.of main_v128 : StableHlo.TRef sig ⟨S18x2304, .i1⟩) (.of main_call2_v1 : StableHlo.TRef sig ⟨S8x18x2304, .i1⟩) (broadcastInDim S8x18x2304 ![1, 2] bcast_S18x2304_S8x18x2304_1_2),
    StableHlo.TRef.unary (.of main_call2_v0 : StableHlo.TRef sig ⟨S_, .f32⟩) (.of main_call2_v2 : StableHlo.TRef sig ⟨S8x18x2304, .f32⟩) (broadcastInDim S8x18x2304 ![] bcast_S_S8x18x2304),
    StableHlo.TRef.ternary (.of main_call2_v1 : StableHlo.TRef sig ⟨S8x18x2304, .i1⟩) (.of main_v136 : StableHlo.TRef sig ⟨S8x18x2304, .f32⟩) (.of main_call2_v2 : StableHlo.TRef sig ⟨S8x18x2304, .f32⟩) (.of main_v137 : StableHlo.TRef sig ⟨S8x18x2304, .f32⟩) select,
    StableHlo.unary main_v137 main_v138 (broadcastInDim S8x18x2304x1 ![0, 1, 2] bcast_S8x18x2304_S8x18x2304x1_0_1_2 : (⟨S8x18x2304, .f32⟩ : BufTy).Contents (Elt F) → (⟨S8x18x2304x1, .f32⟩ : BufTy).Contents (Elt F)),
    StableHlo.unary main_v74 main_v139 (broadcastInDim S8x1x2304x128 ![0, 2, 3] bcast_S8x2304x128_S8x1x2304x128_0_2_3 : (⟨S8x2304x128, .f32⟩ : BufTy).Contents (Elt F) → (⟨S8x1x2304x128, .f32⟩ : BufTy).Contents (Elt F)),
    StableHlo.unary main_v138 main_v140 (broadcastInDim S8x18x2304x128 ![0, 1, 2, 3] bcast_S8x18x2304x1_S8x18x2304x128_0_1_2_3 : (⟨S8x18x2304x1, .f32⟩ : BufTy).Contents (Elt F) → (⟨S8x18x2304x128, .f32⟩ : BufTy).Contents (Elt F)),
    StableHlo.unary main_v139 main_v141 (broadcastInDim S8x18x2304x128 ![0, 1, 2, 3] bcast_S8x1x2304x128_S8x18x2304x128_0_1_2_3 : (⟨S8x1x2304x128, .f32⟩ : BufTy).Contents (Elt F) → (⟨S8x18x2304x128, .f32⟩ : BufTy).Contents (Elt F)),
    StableHlo.binary main_v140 main_v141 main_v142 (mulf : (⟨S8x18x2304x128, .f32⟩ : BufTy).Contents (Elt F) → (⟨S8x18x2304x128, .f32⟩ : BufTy).Contents (Elt F) → (⟨S8x18x2304x128, .f32⟩ : BufTy).Contents (Elt F)),
    StableHlo.binary main_v142 main_v78 main_v143 ((fun l r => Host.dotGeneral dot_S8x18x2304x128_S8x2304x256_S8x18x128x256_2_1_13_2_0_0 none l r) : (⟨S8x18x2304x128, .f32⟩ : BufTy).Contents (Elt F) → (⟨S8x2304x256, .f32⟩ : BufTy).Contents (Elt F) → (⟨S8x18x128x256, .f32⟩ : BufTy).Contents (Elt F)),
    StableHlo.unary main_v117 main_v144 (broadcastInDim S8x1x18x128x256 ![0, 2, 3, 4] bcast_S8x18x128x256_S8x1x18x128x256_0_2_3_4 : (⟨S8x18x128x256, .f32⟩ : BufTy).Contents (Elt F) → (⟨S8x1x18x128x256, .f32⟩ : BufTy).Contents (Elt F)),
    StableHlo.unary main_v143 main_v145 (broadcastInDim S8x1x18x128x256 ![0, 2, 3, 4] bcast_S8x18x128x256_S8x1x18x128x256_0_2_3_4 : (⟨S8x18x128x256, .f32⟩ : BufTy).Contents (Elt F) → (⟨S8x1x18x128x256, .f32⟩ : BufTy).Contents (Elt F)),
    StableHlo.binary main_v144 main_v145 main_v146 (cat_S8x2x18x128x256_1 (F := F)) ]

theorem hops_eq : List.flatten [hostOps0, hostOps0_1, hostOps0_2, hostOps0_3, hostOps0_4, hostOps0_5, hostOps0_6] = (hops : List (HloOp τ sig (Elt F))) := rfl

variable (m : (ℓ : Loc nD τ sig) → Buf (Elt F) ℓ)

set_option maxHeartbeats 4000000 in
/-- The kernel is launched with the first rotary table. -/
theorem V_main_v23 (c : Dev nD) : V m c main_v23 = hCos := by
  unfold V
  rw [hops_eq]
  simp only [hops]
  after_results_simp
  simp only [hStates, hDecF, hDecB, hBackF, hBackB, hPosF, hPosB, hK, hKrot, hKraw, hV, hAng, hAngle, hCos, hSin] <;> rfl

set_option maxHeartbeats 4000000 in
/-- The kernel is launched with the second rotary table. -/
theorem V_main_v25 (c : Dev nD) : V m c main_v25 = hSin := by
  unfold V
  rw [hops_eq]
  simp only [hops]
  after_results_simp
  simp only [hStates, hDecF, hDecB, hBackF, hBackB, hPosF, hPosB, hK, hKrot, hKraw, hV, hAng, hAngle, hCos, hSin] <;> rfl

set_option maxHeartbeats 4000000 in
/-- The kernel is launched with the saved states. -/
theorem V_main_v146 (c : Dev nD) : V m c main_v146 = hStates (m ((c : Thread nD τ).loc main_arg0)) (m ((c : Thread nD τ).loc main_arg1)) := by
  unfold V
  rw [hops_eq]
  simp only [hops]
  after_results_simp
  simp only [hStates, hDecF, hDecB, hBackF, hBackB, hPosF, hPosB, hK, hKrot, hKraw, hV, hAng, hAngle, hCos, hSin] <;> rfl

end Cert.KernelIdeal.Hand

end
-- ==== Proof.HostReal.lean ====
module

public import proofs.«01_k».proof.Proof.Target
public import proofs.«01_k».proof.Proof.Host

@[expose] public section

set_option maxRecDepth 16384
set_option maxHeartbeats 4000000

noncomputable section

namespace Cert.KernelIdeal.Hand

open Idealize.ShloMosaic Idealize.ShloMosaic.TcCoe Idealize.ShloMosaic.Tactic
open Cert.KernelIdeal.Gen Cert.Sums Cert.Reals Cert.Target

/-! The tables and the saved states as reals. -/

theorem lit0_spells : ∀ n : Fin 2048, Spells (lit0 n) (n.val / 64) := by decide +kernel
theorem lit1_spells : ∀ n : Fin 2048, Spells (lit1 n) (n.val % 64) := by decide +kernel

theorem lit0_real (r : ℕ) (h : r < 2048) :
    Ideal.ofBits FTy.f32 (lit0 (S2048.rowMajor (ix1 ⟨r, h⟩))) = (((r / 64 : ℕ) : ℝ) : EReal) := by
  refine (ofBits_spells _ _ (lit0_spells _)).trans ?_
  have e : (S2048.rowMajor (ix1 ⟨r, h⟩)).val = r := Shape.rowMajor_val_one _
  rw [e]
theorem lit1_real (r : ℕ) (h : r < 2048) :
    Ideal.ofBits FTy.f32 (lit1 (S2048.rowMajor (ix1 ⟨r, h⟩))) = (((r % 64 : ℕ) : ℝ) : EReal) := by
  refine (ofBits_spells _ _ (lit1_spells _)).trans ?_
  have e : (S2048.rowMajor (ix1 ⟨r, h⟩)).val = r := Shape.rowMajor_val_one _
  rw [e]

/-- The first table. -/
theorem hCos_real (r : Fin 2304) (a : Fin 128) : (hCos (F := Ideal) (ix2 r a) : EReal) = ((ct r a : ℝ) : EReal) := by
  pointwise [hCos, cat_S2304x128_0, cat_S2048x128_1, cat_S2048x64_1, hAngle]
  by_cases hr : r.val < 2048
  · refine (dif_pos hr).trans ?_
    by_cases ha : a.val < 64
    · rw [ct_lo hr ha]
      exact (dif_pos ha).trans (congrArg Ideal.cos (ang_real r.val a.val (by omega) _ _ (lit0_real _ hr) (lit1_real _ hr)))
    · rw [ct_hi hr ha]
      exact (dif_neg ha).trans (congrArg Ideal.cos (ang_real r.val (a.val - 64) (by omega) _ _ (lit0_real _ hr) (lit1_real _ hr)))
  · rw [ct_ctx a hr]
    exact (dif_neg hr).trans rfl

/-- The second table. -/
theorem hSin_real (r : Fin 2304) (a : Fin 128) : (hSin (F := Ideal) (ix2 r a) : EReal) = ((sn r a : ℝ) : EReal) := by
  pointwise [hSin, cat_S2304x128_0, cat_S2048x128_1, cat_S2048x64_1, hAngle]
  by_cases hr : r.val < 2048
  · refine (dif_pos hr).trans ?_
    by_cases ha : a.val < 64
    · rw [sn_lo hr ha]
      exact (dif_pos ha).trans (congrArg (fun x => -Ideal.sin x) (ang_real r.val a.val (by omega) _ _ (lit0_real _ hr) (lit1_real _ hr)))
    · rw [sn_hi hr ha]
      exact (dif_neg ha).trans (congrArg Ideal.sin (ang_real r.val (a.val - 64) (by omega) _ _ (lit0_real _ hr) (lit1_real _ hr)))
  · rw [sn_ctx a hr]
    exact (dif_neg hr).trans rfl

variable {A : Data} {A0 : (⟨S2304x14336, .bf16⟩ : BufTy).Contents (Elt Ideal)} {A1 : (⟨S2x8, .f32⟩ : BufTy).Contents (Elt Ideal)}

/-- The rotated and scaled keys. -/
theorem hK_real (hu : ∀ r n, (A0 (ix2 r n) : EReal) = ((A.u r n : ℝ) : EReal)) (h : Fin 8) (r : Fin 2304) (a : Fin 128) :
    (hK (F := Ideal) A0 (ix3 h r a) : EReal) = ((rope ct sn (A.k h) r a * scl : ℝ) : EReal) := by
  have hk : ∀ (r' : Fin 2304) (a' : Fin 128) (n : ℕ) (hn : n < 14336), n = 5120 + 128 * h.val + a'.val →
      (A0 (ix2 r' ⟨n, hn⟩) : EReal) = ((A.k h r' a' : ℝ) : EReal) := fun r' a' n hn e =>
    (hu _ _).trans (congrArg _ (congrArg (A.u r') (Fin.ext e)))
  have hr' := r.isLt
  have ha' := a.isLt
  pointwise [hK, hKrot, hKraw, cat_S8x2304x128_1, cat_S8x2048x128_2, cat_S2048x64_1, hAng]
  rw [bits_scl, EReal.coe_mul]
  refine congrArg (· * ((scl : ℝ) : EReal)) ?_
  unfold rope
  by_cases hr : r.val < 2048
  · refine (dif_pos hr).trans ?_
    by_cases ha : a.val < 64
    · rw [ct_lo hr ha, sn_lo hr ha, mul_neg, ← sub_eq_add_neg, EReal.coe_sub, EReal.coe_mul, EReal.coe_mul]
      have e := ang_real r.val a.val (by omega) _ _ (sitofp_nat _ (by omega)) (sitofp_nat _ (by omega))
      exact (dif_pos ha).trans (congr (congrArg HSub.hSub (congr (congrArg HMul.hMul (hk r a _ _ (by omega))) (congrArg Ideal.cos e)))
        (congr (congrArg HMul.hMul (hk r (rot a) _ _ (by unfold rot; dsimp only; omega))) (congrArg Ideal.sin e)))
    · rw [ct_hi hr ha, sn_hi hr ha, EReal.coe_add, EReal.coe_mul, EReal.coe_mul]
      have e := ang_real r.val (a.val - 64) (by omega) _ _ (sitofp_nat _ (by omega)) (sitofp_nat _ (by omega))
      exact (dif_neg ha).trans (congr (congrArg HAdd.hAdd (congr (congrArg HMul.hMul (hk r a _ _ (by omega))) (congrArg Ideal.cos e)))
        (congr (congrArg HMul.hMul (hk r (rot a) _ _ (by unfold rot; dsimp only; omega))) (congrArg Ideal.sin e)))
  · rw [ct_ctx a hr, sn_ctx a hr, mul_one, mul_zero, add_zero]
    have er : (⟨2048 + (r.val - 2048), by omega⟩ : Fin 2304) = r := Fin.ext (by dsimp only; omega)
    exact (dif_neg hr).trans ((hk _ a _ _ (by omega)).trans (congrArg _ (congrArg (fun x => A.k h x a) er)))

/-- The values. -/
theorem hV_real (hu : ∀ r n, (A0 (ix2 r n) : EReal) = ((A.u r n : ℝ) : EReal)) (h : Fin 8) (r : Fin 2304) (e : Fin 256) :
    (hV (F := Ideal) A0 (ix3 h r e) : EReal) = ((A.v h r e : ℝ) : EReal) := by
  pointwise [hV]
  exact (hu _ _).trans (congrArg _ (congrArg (A.u r) (Fin.ext (by dsimp only; omega))))

/-- The forward decays. -/
theorem hDecF_real (hl : ∀ d h, (A1 (ix2 d h) : EReal) = ((A.lg d h : ℝ) : EReal)) (h : Fin 8) (t : Fin 18) (m : Fin 2304) :
    (hDecF (F := Ideal) A1 (ix3 h t m) : EReal) = ((wBefore 0 (A.lg 0 h) t m : ℝ) : EReal) := by
  have ht := t.isLt
  pointwise [hDecF, hBackF, hPosF]
  rw [posF_real, hl, sitofp_nat _ (by omega), bits_128]
  refine Eq.trans ?_ (wBefore_real 0 (A.lg 0 h) t m)
  rw [EReal.coe_sub, EReal.coe_sub, EReal.coe_mul]
  refine if_congr Iff.rfl rfl ?_
  exact Ideal.ofBits_zero_f32

/-- The backward decays. -/
theorem hDecB_real (hl : ∀ d h, (A1 (ix2 d h) : EReal) = ((A.lg d h : ℝ) : EReal)) (h : Fin 8) (t : Fin 18) (m : Fin 2304) :
    (hDecB (F := Ideal) A1 (ix3 h t m) : EReal) = ((wBefore 1 (A.lg 1 h) t m : ℝ) : EReal) := by
  have ht := t.isLt
  pointwise [hDecB, hBackB, hPosB]
  rw [posB_real, hl, sitofp_nat _ (by omega), bits_128]
  refine Eq.trans ?_ (wBefore_real 1 (A.lg 1 h) t m)
  rw [EReal.coe_sub, EReal.coe_sub, EReal.coe_mul]
  refine if_congr Iff.rfl rfl ?_
  exact Ideal.ofBits_zero_f32

/-- The saved states. -/
theorem hStates_real (hu : ∀ r n, (A0 (ix2 r n) : EReal) = ((A.u r n : ℝ) : EReal)) (hl : ∀ d h, (A1 (ix2 d h) : EReal) = ((A.lg d h : ℝ) : EReal))
    (h : Fin 8) (d : Fin 2) (t : Fin 18) (a : Fin 128) (e : Fin 256) :
    (hStates (F := Ideal) A0 A1 (ix5 h d t a e) : EReal) = ((A.st d h t a e : ℝ) : EReal) := by
  pointwise [hStates, cat_S8x2x18x128x256_1]
  unfold Data.st
  by_cases hd : d.val < 1
  · obtain rfl : d = 0 := Fin.ext (by show d.val = 0; omega)
    refine (dif_pos hd).trans ?_
    rw [← coe_sum]
    refine Finset.sum_congr rfl fun m _ => ?_
    rw [hDecF_real hl, hK_real hu, hV_real hu, ← EReal.coe_mul, ← EReal.coe_mul, mul_assoc]
    rfl
  · obtain rfl : d = 1 := Fin.ext (by show d.val = 1; omega)
    refine (dif_neg hd).trans ?_
    rw [← coe_sum]
    refine Finset.sum_congr rfl fun m _ => ?_
    rw [hDecB_real hl, hK_real hu, hV_real hu, ← EReal.coe_mul, ← EReal.coe_mul, mul_assoc]
    rfl

end Cert.KernelIdeal.Hand
end
-- ==== Proof.Arrays.lean ====
module

public import proofs.«01_k».proof.Proof.Frame
public import proofs.«01_k».proof.Proof.Host
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable {F : FTy → Type} [FloatOps F]
variable (m : (ℓ : Loc nD τ sig) → Buf (Elt F) ℓ)

/-! The blocks of a grid point as the arguments and the host's arrays at coordinates, and the result arrays as what each
head's backward point leaves. -/

/-- The block index of every window, at every grid point `(head, direction)`. -/
theorem idx : ∀ t : Fin cfg0.N,
    win0_0.index t = ![0, 0] ∧ win0_1.index t = ![0, 32 + t.val / 2] ∧ win0_2.index t = ![0, 40 + t.val / 2]
    ∧ win0_3.index t = ![0, 24 + t.val / 2] ∧ win0_4.index t = ![0, 0] ∧ win0_5.index t = ![0, 0]
    ∧ win0_6.index t = ![t.val / 2, t.val % 2, 0, 0, 0] ∧ win0_7.index t = ![0, t.val / 2]
    ∧ win0_8.index t = ![0, t.val / 2] ∧ win0_9.index t = ![0, t.val / 2] ∧ win0_10.index t = ![0, t.val / 2]
    ∧ (grid0.coords t 0).val = t.val / 2 ∧ (grid0.coords t 1).val = t.val % 2 :=
  (by decide +kernel : ∀ t : Fin grid0.N, _)

theorem lt16 (t : Fin cfg0.N) : t.val < 16 := lt_of_lt_of_eq t.isLt (by decide)

/-- The queries of a grid point. -/
theorem blk_q (c : Dev nD) (t : Fin cfg0.N) (r : Fin 2304) (a : Fin 128) :
    (blk m c t).q (ix2 r a) = m ((c.tc : Thread nD τ).loc main_arg0) (ix2 r ⟨4096 + 128 * (t.val / 2) + a.val, by have := lt16 t; omega⟩) := by
  have ht := lt16 t
  refine Eq.trans (b := V m c main_arg0 (ix2 r ⟨4096 + 128 * (t.val / 2) + a.val, by have := lt16 t; omega⟩)) ?_ (congrFun (V_main_arg0 m c) _)
  show iblk m c 1 t (ix2 r a) = _
  blk_ext [iblk, idx t]

/-- The keys of a grid point. -/
theorem blk_k (c : Dev nD) (t : Fin cfg0.N) (r : Fin 2304) (a : Fin 128) :
    (blk m c t).k (ix2 r a) = m ((c.tc : Thread nD τ).loc main_arg0) (ix2 r ⟨5120 + 128 * (t.val / 2) + a.val, by have := lt16 t; omega⟩) := by
  have ht := lt16 t
  refine Eq.trans (b := V m c main_arg0 (ix2 r ⟨5120 + 128 * (t.val / 2) + a.val, by have := lt16 t; omega⟩)) ?_ (congrFun (V_main_arg0 m c) _)
  show iblk m c 2 t (ix2 r a) = _
  blk_ext [iblk, idx t]

/-- The values of a grid point. -/
theorem blk_v (c : Dev nD) (t : Fin cfg0.N) (r : Fin 2304) (e : Fin 256) :
    (blk m c t).v (ix2 r e) = m ((c.tc : Thread nD τ).loc main_arg0) (ix2 r ⟨6144 + 256 * (t.val / 2) + e.val, by have := lt16 t; omega⟩) := by
  have ht := lt16 t
  refine Eq.trans (b := V m c main_arg0 (ix2 r ⟨6144 + 256 * (t.val / 2) + e.val, by have := lt16 t; omega⟩)) ?_ (congrFun (V_main_arg0 m c) _)
  show iblk m c 3 t (ix2 r e) = _
  blk_ext [iblk, idx t]

/-- The cotangent of a grid point. -/
theorem blk_dO (c : Dev nD) (t : Fin cfg0.N) (r : Fin 2304) (e : Fin 256) :
    (blk m c t).dO (ix2 r e) = m ((c.tc : Thread nD τ).loc main_arg2) (ix2 r ⟨256 * (t.val / 2) + e.val, by have := lt16 t; omega⟩) := by
  have ht := lt16 t
  refine Eq.trans (b := V m c main_arg2 (ix2 r ⟨256 * (t.val / 2) + e.val, by have := lt16 t; omega⟩)) ?_ (congrFun (V_main_arg2 m c) _)
  show iblk m c 7 t (ix2 r e) = _
  blk_ext [iblk, idx t]

/-- The log decays of a grid point. -/
theorem blk_lg (c : Dev nD) (t : Fin cfg0.N) (d : Fin 2) (h : Fin 8) :
    (blk m c t).lg (ix2 d h) = m ((c.tc : Thread nD τ).loc main_arg1) (ix2 d h) := by
  have ht := lt16 t
  refine Eq.trans (b := V m c main_arg1 (ix2 d h)) ?_ (congrFun (V_main_arg1 m c) _)
  show iblk m c 0 t (ix2 d h) = _
  blk_ext [iblk, idx t]

/-- The first rotary table of a grid point. -/
theorem blk_c (c : Dev nD) (t : Fin cfg0.N) (r : Fin 2304) (a : Fin 128) :
    (blk m c t).c (ix2 r a) = hCos (F := F) (ix2 r a) := by
  have ht := lt16 t
  refine Eq.trans (b := V m c main_v23 (ix2 r a)) ?_ (congrFun (V_main_v23 m c) _)
  show iblk m c 4 t (ix2 r a) = _
  blk_ext [iblk, idx t]

/-- The second rotary table of a grid point. -/
theorem blk_s (c : Dev nD) (t : Fin cfg0.N) (r : Fin 2304) (a : Fin 128) :
    (blk m c t).s (ix2 r a) = hSin (F := F) (ix2 r a) := by
  have ht := lt16 t
  refine Eq.trans (b := V m c main_v25 (ix2 r a)) ?_ (congrFun (V_main_v25 m c) _)
  show iblk m c 5 t (ix2 r a) = _
  blk_ext [iblk, idx t]

/-- The saved states of a grid point. -/
theorem blk_st (c : Dev nD) (t : Fin cfg0.N) (x y : Fin 1) (p : Fin 18) (a : Fin 128) (e : Fin 256) :
    (blk m c t).st (ix5 x y p a e) = hStates (m ((c.tc : Thread nD τ).loc main_arg0)) (m ((c.tc : Thread nD τ).loc main_arg1)) (ix5 ⟨t.val / 2, by have := lt16 t; omega⟩ ⟨t.val % 2, by omega⟩ p a e) := by
  have ht := lt16 t
  refine Eq.trans (b := V m c main_v146 (ix5 ⟨t.val / 2, by have := lt16 t; omega⟩ ⟨t.val % 2, by omega⟩ p a e)) ?_ (congrFun (V_main_v146 m c) _)
  show iblk m c 6 t (ix5 x y p a e) = _
  blk_ext [iblk, idx t]

/-- The gradient of the queries: each head's columns are what its backward point leaves. -/
theorem arr_q (c : Dev nD) : (dats m 0 c).arrAt 8 cfg0.N = (fun y : S2304x1024.Idx =>
    outq m c ⟨2 * ((y 1).val / 128) + 1, by have h1 : (y 1).val < 1024 := (y 1).isLt; have h2 : cfg0.N = 16 := (by decide); omega⟩
      (ix2 (y 0) ⟨(y 1).val % 128, by omega⟩) : FVec F S2304x1024 .bf16) := by
  refine (dats m 0 c).arrAt_eq_of_covers 8 _ (by decide +kernel) fun t hf y => ?_
  have ht := lt16 t
  have ho : t.val % 2 = 1 := by
    have := (flush8 t).symm.trans hf
    simpa using this
  have e0 : ((((cfg0.win 8).blk t).view.emb y) 0 : ℕ) = (y 0).val := by blk_simp [idx t]; try omega
  have e1 : ((((cfg0.win 8).blk t).view.emb y) 1 : ℕ) = 128 * (t.val / 2) + (y 1).val := by blk_simp [idx t]; try omega
  have y1 : (y 1).val < 128 := (y 1).isLt
  rw [after0_8]
  refine Eq.trans (b := outq m c t y) rfl ?_
  refine congr (congrArg (outq m c) (Fin.ext ?_)) (funext fun a => ?_)
  · show t.val = 2 * (((((cfg0.win 8).blk t).view.emb y) 1 : ℕ) / 128) + 1
    omega
  · match a with
    | ⟨0, _⟩ => exact Fin.ext e0.symm
    | ⟨1, _⟩ =>
      refine Fin.ext ?_
      show (y 1).val = ((((cfg0.win 8).blk t).view.emb y) 1 : ℕ) % 128
      omega

/-- The gradient of the keys: each head's columns are what its backward point leaves. -/
theorem arr_k (c : Dev nD) : (dats m 0 c).arrAt 9 cfg0.N = (fun y : S2304x1024.Idx =>
    outk m c ⟨2 * ((y 1).val / 128) + 1, by have h1 : (y 1).val < 1024 := (y 1).isLt; have h2 : cfg0.N = 16 := (by decide); omega⟩
      (ix2 (y 0) ⟨(y 1).val % 128, by omega⟩) : FVec F S2304x1024 .bf16) := by
  refine (dats m 0 c).arrAt_eq_of_covers 9 _ (by decide +kernel) fun t hf y => ?_
  have ht := lt16 t
  have ho : t.val % 2 = 1 := by
    have := (flush9 t).symm.trans hf
    simpa using this
  have e0 : ((((cfg0.win 9).blk t).view.emb y) 0 : ℕ) = (y 0).val := by blk_simp [idx t]; try omega
  have e1 : ((((cfg0.win 9).blk t).view.emb y) 1 : ℕ) = 128 * (t.val / 2) + (y 1).val := by blk_simp [idx t]; try omega
  have y1 : (y 1).val < 128 := (y 1).isLt
  rw [after0_9]
  refine Eq.trans (b := outk m c t y) rfl ?_
  refine congr (congrArg (outk m c) (Fin.ext ?_)) (funext fun a => ?_)
  · show t.val = 2 * (((((cfg0.win 9).blk t).view.emb y) 1 : ℕ) / 128) + 1
    omega
  · match a with
    | ⟨0, _⟩ => exact Fin.ext e0.symm
    | ⟨1, _⟩ =>
      refine Fin.ext ?_
      show (y 1).val = ((((cfg0.win 9).blk t).view.emb y) 1 : ℕ) % 128
      omega

/-- The gradient of the values: each head's columns are what its backward point leaves. -/
theorem arr_v (c : Dev nD) : (dats m 0 c).arrAt 10 cfg0.N = (fun y : S2304x2048.Idx =>
    outv m c ⟨2 * ((y 1).val / 256) + 1, by have h1 : (y 1).val < 2048 := (y 1).isLt; have h2 : cfg0.N = 16 := (by decide); omega⟩
      (ix2 (y 0) ⟨(y 1).val % 256, by omega⟩) : FVec F S2304x2048 .bf16) := by
  refine (dats m 0 c).arrAt_eq_of_covers 10 _ (by decide +kernel) fun t hf y => ?_
  have ht := lt16 t
  have ho : t.val % 2 = 1 := by
    have := (flush10 t).symm.trans hf
    simpa using this
  have e0 : ((((cfg0.win 10).blk t).view.emb y) 0 : ℕ) = (y 0).val := by blk_simp [idx t]; try omega
  have e1 : ((((cfg0.win 10).blk t).view.emb y) 1 : ℕ) = 256 * (t.val / 2) + (y 1).val := by blk_simp [idx t]; try omega
  have y1 : (y 1).val < 256 := (y 1).isLt
  rw [after0_10]
  refine Eq.trans (b := outv m c t y) rfl ?_
  refine congr (congrArg (outv m c) (Fin.ext ?_)) (funext fun a => ?_)
  · show t.val = 2 * (((((cfg0.win 10).blk t).view.emb y) 1 : ℕ) / 256) + 1
    omega
  · match a with
    | ⟨0, _⟩ => exact Fin.ext e0.symm
    | ⟨1, _⟩ =>
      refine Fin.ext ?_
      show (y 1).val = ((((cfg0.win 10).blk t).view.emb y) 1 : ℕ) % 256
      omega

end Cert.KernelIdeal.Hand

end
-- ==== Proof.KernelReal.lean ====
module

public import proofs.«01_k».proof.Proof.HostReal
public import proofs.«01_k».proof.Proof.Arrays

@[expose] public section

set_option maxRecDepth 16384
set_option maxHeartbeats 1000000

noncomputable section

namespace Cert.KernelIdeal.Hand

open Idealize.ShloMosaic Idealize.ShloMosaic.TcCoe Idealize.ShloMosaic.Tactic Idealize.SL.Sem
open Cert.KernelIdeal.Gen Cert.Sums Cert.Reals Cert.Target

variable (m : (ℓ : Loc nD τ sig) → Buf (Elt Ideal) ℓ)

/-! The kernel's three results as reals, when its arguments are reals. -/

/-- A device's arguments are those reals. -/
structure Args (c : Dev nD) (A : Data) : Prop where
  u : ∀ r n, (m ((c.tc : Thread nD τ).loc main_arg0) (ix2 r n) : EReal) = ((A.u r n : ℝ) : EReal)
  lg : ∀ d h, (m ((c.tc : Thread nD τ).loc main_arg1) (ix2 d h) : EReal) = ((A.lg d h : ℝ) : EReal)
  dO : ∀ r n, (m ((c.tc : Thread nD τ).loc main_arg2) (ix2 r n) : EReal) = ((A.dO r n : ℝ) : EReal)

variable {m} {c : Dev nD} {A : Data}

/-- The blocks of a grid point are the head's and direction's reals. -/
theorem holds (H : Args m c A) (t : Fin cfg0.N) (d : Fin 2) (h : Fin 8) (ht : t.val = 2 * h.val + d.val) :
    Holds (grid0.coords t) (blk m c t) (A.blk d h) := by
  have hd := d.isLt
  have c0 : (grid0.coords t 0).val = h.val := by have := (idx t).2; omega
  have c1 : (grid0.coords t 1).val = d.val := by have := (idx t).2; omega
  have e0 : (grid0.coords t 0) = h := Fin.ext c0
  have e1 : (grid0.coords t 1) = d := Fin.ext c1
  have h2 : t.val / 2 = h.val := by omega
  have m2 : t.val % 2 = d.val := by omega
  refine ⟨?_, fun r a => ?_, fun r a => ?_, fun r e => ?_, fun r a => ?_, fun r a => ?_, fun p a e => ?_, fun r e => ?_⟩
  · refine (congr (congrArg (fun x y => (blk m c t).lg (ix2 x y)) e1) e0).trans ?_
    exact (blk_lg m c t d h).trans (H.lg d h)
  · exact (blk_q m c t r a).trans ((H.u _ _).trans (congrArg _ (congrArg (A.u r) (Fin.ext (by dsimp only; rw [h2])))))
  · exact (blk_k m c t r a).trans ((H.u _ _).trans (congrArg _ (congrArg (A.u r) (Fin.ext (by dsimp only; rw [h2])))))
  · exact (blk_v m c t r e).trans ((H.u _ _).trans (congrArg _ (congrArg (A.u r) (Fin.ext (by dsimp only; rw [h2])))))
  · exact (blk_c m c t r a).trans (hCos_real r a)
  · exact (blk_s m c t r a).trans (hSin_real r a)
  · refine (blk_st m c t 0 0 p a e).trans ((hStates_real H.u H.lg _ _ p a e).trans (congrArg _ ?_))
    exact congr (congr (congr (congr (congrArg A.st (Fin.ext m2)) (Fin.ext h2)) rfl) rfl) rfl
  · exact (blk_dO m c t r e).trans ((H.dO _ _).trans (congrArg _ (congrArg (A.dO r) (Fin.ext (by dsimp only; rw [h2])))))

/-- The pair of grid points of a head. -/
theorem pair (t : Fin cfg0.N) (h : Fin 8) (ht : t.val = 2 * h.val + 1) :
    ¬ (grid0.coords t 1).val = 0 ∧ (grid0.coords t 1).val = 1 ∧ (grid0.coords (prv t) 1).val = 0 := by
  have h1 := (idx t).2
  have h0 := (idx (prv t)).2
  have hp : (prv t).val = t.val - 1 := rfl
  omega

theorem outq_real (H : Args m c A) (t : Fin cfg0.N) (h : Fin 8) (ht : t.val = 2 * h.val + 1) (r : Fin 2304) (a : Fin 128) :
    (outq m c t (ix2 r a) : EReal) = ((A.gq h r a : ℝ) : EReal) := by
  obtain ⟨hn, h1, h0⟩ := pair t h ht
  have hp : (prv t).val = 2 * h.val + (0 : Fin 2).val := by show t.val - 1 = 2 * h.val + 0; omega
  have ht' : t.val = 2 * h.val + (1 : Fin 2).val := ht
  unfold outq
  rw [if_neg hn]
  exact both_q (holds H _ 0 h hp) (holds H t 1 h ht') (by rw [h0]; exact A.saved 0 h) (by rw [h1]; exact A.saved 1 h) h0 h1 _ r a

theorem outk_real (H : Args m c A) (t : Fin cfg0.N) (h : Fin 8) (ht : t.val = 2 * h.val + 1) (r : Fin 2304) (a : Fin 128) :
    (outk m c t (ix2 r a) : EReal) = ((A.gk h r a : ℝ) : EReal) := by
  obtain ⟨hn, h1, h0⟩ := pair t h ht
  have hp : (prv t).val = 2 * h.val + (0 : Fin 2).val := by show t.val - 1 = 2 * h.val + 0; omega
  have ht' : t.val = 2 * h.val + (1 : Fin 2).val := ht
  unfold outk
  rw [if_neg hn]
  exact both_k (holds H _ 0 h hp) (holds H t 1 h ht') h0 h1 _ r a

theorem outv_real (H : Args m c A) (t : Fin cfg0.N) (h : Fin 8) (ht : t.val = 2 * h.val + 1) (r : Fin 2304) (e : Fin 256) :
    (outv m c t (ix2 r e) : EReal) = ((A.gv h r e : ℝ) : EReal) := by
  obtain ⟨hn, h1, h0⟩ := pair t h ht
  have hp : (prv t).val = 2 * h.val + (0 : Fin 2).val := by show t.val - 1 = 2 * h.val + 0; omega
  have ht' : t.val = 2 * h.val + (1 : Fin 2).val := ht
  unfold outv
  rw [if_neg hn]
  exact both_v (holds H _ 0 h hp) (holds H t 1 h ht') h0 h1 _ r e

end Cert.KernelIdeal.Hand
end
-- ==== Proof.RefReal.lean ====
module

public import proofs.«01_k».proof.Proof.Target
public import proofs.«01_k».proof.Proof.Gen.ReferenceIdeal.Run

@[expose] public section

set_option maxRecDepth 16384
set_option maxHeartbeats 400000

noncomputable section

namespace Cert.ReferenceIdeal.Hand

open Idealize.ShloMosaic Idealize.ShloMosaic.TcCoe Idealize.ShloMosaic.Tactic Idealize.ShloMosaic.StableHlo
open Cert.ReferenceIdeal Cert.ReferenceIdeal.Gen Cert.ReferenceIdeal.Value Cert.Sums Cert.Reals Cert.Target Cert.KernelIdeal.Hand

/-! The reference's three results as reals, when its arguments are reals. -/

variable {V : Valuation τ sig (Elt Ideal)}

variable {A : Data}

variable (V A) in
/-- The arguments are those reals. -/
structure Args : Prop where
  u : ∀ r n, (V (Proc.devRef .tc main_arg0) (ix2 r n) : EReal) = ((A.u r n : ℝ) : EReal)
  lg : ∀ d h, (V (Proc.devRef .tc main_arg1) (ix2 d h) : EReal) = ((A.lg d h : ℝ) : EReal)
  dO : ∀ r n, (V (Proc.devRef .tc main_arg2) (ix2 r n) : EReal) = ((A.dO r n : ℝ) : EReal)

theorem angle_real (r : Fin 2048) (a : Fin 64) : (res_main_v26 V (ix2 r a) : EReal) = ((ang r.val a.val : ℝ) : EReal) := by
  have hr := r.isLt
  have ha := a.isLt
  pointwise [res_main_v26, res_main_v15]
  exact ang_real r.val a.val (by omega) _ _ (sitofp_nat _ (by omega)) (sitofp_nat _ (by omega))

/-- The rotated queries. -/
theorem q_real (H : Args V A) (h : Fin 8) (r : Fin 2304) (a : Fin 128) :
    (res_main_v50 V (ix3 h r a) : EReal) = ((rope ct sn (A.q h) r a : ℝ) : EReal) := by
  have hk : ∀ (r' : Fin 2304) (a' : Fin 128) (n : ℕ) (hn : n < 14336), n = 4096 + 128 * h.val + a'.val →
      (V (Proc.devRef .tc main_arg0) (ix2 r' ⟨n, hn⟩) : EReal) = ((A.q h r' a' : ℝ) : EReal) := fun r' a' n hn e =>
    (H.u _ _).trans (congrArg _ (congrArg (A.u r') (Fin.ext e)))
  have hr' := r.isLt
  have ha' := a.isLt
  pointwise [res_main_v50, res_main_v32, res_main_v33, res_main_v34, res_main_v37, res_main_v41, res_main_v44, res_main_v31, res_main_v30, res_main_v27, res_main_v28]
  exact rope_halves (A.q h) r a (fun hr ha => hk r a _ _ (by omega)) (fun hr ha => hk r (rot a) _ _ (by rw [rot_lo ha]; omega))
    (fun hr ha => angle_real (V := V) ⟨r.val, hr⟩ ⟨a.val, ha⟩)
    (fun hr ha => hk r a _ _ (by omega)) (fun hr ha => hk r (rot a) _ _ (by rw [rot_hi ha]; omega))
    (fun hr ha => angle_real (V := V) ⟨r.val, hr⟩ ⟨a.val - 64, by omega⟩)
    (fun hr => (hk _ a _ _ (by omega)).trans (congrArg _ (congrArg (fun x => A.q h x a) (Fin.ext (by show 2048 + (r.val - 2048) = r.val; omega)))))

/-- The rotated and scaled keys. -/
theorem k_real (H : Args V A) (h : Fin 8) (r : Fin 2304) (a : Fin 128) :
    (res_main_v74 V (ix3 h r a) : EReal) = ((rope ct sn (A.k h) r a * scl : ℝ) : EReal) := by
  have hk : ∀ (r' : Fin 2304) (a' : Fin 128) (n : ℕ) (hn : n < 14336), n = 5120 + 128 * h.val + a'.val →
      (V (Proc.devRef .tc main_arg0) (ix2 r' ⟨n, hn⟩) : EReal) = ((A.k h r' a' : ℝ) : EReal) := fun r' a' n hn e =>
    (H.u _ _).trans (congrArg _ (congrArg (A.u r') (Fin.ext e)))
  have hr' := r.isLt
  have ha' := a.isLt
  pointwise [res_main_v74, res_main_v54, res_main_v55, res_main_v56, res_main_v59, res_main_v63, res_main_v66, res_main_v53, res_main_v52, res_main_v27, res_main_v28]
  rw [bits_scl, EReal.coe_mul]
  refine congrArg (· * ((scl : ℝ) : EReal)) ?_
  exact rope_halves (A.k h) r a (fun hr ha => hk r a _ _ (by omega)) (fun hr ha => hk r (rot a) _ _ (by rw [rot_lo ha]; omega))
    (fun hr ha => angle_real (V := V) ⟨r.val, hr⟩ ⟨a.val, ha⟩)
    (fun hr ha => hk r a _ _ (by omega)) (fun hr ha => hk r (rot a) _ _ (by rw [rot_hi ha]; omega))
    (fun hr ha => angle_real (V := V) ⟨r.val, hr⟩ ⟨a.val - 64, by omega⟩)
    (fun hr => (hk _ a _ _ (by omega)).trans (congrArg _ (congrArg (fun x => A.k h x a) (Fin.ext (by show 2048 + (r.val - 2048) = r.val; omega)))))

/-- The values. -/
theorem v_real (H : Args V A) (h : Fin 8) (r : Fin 2304) (e : Fin 256) :
    (res_main_v76 V (ix3 h r e) : EReal) = ((A.v h r e : ℝ) : EReal) := by
  pointwise [res_main_v76]
  exact (H.u _ _).trans (congrArg _ (congrArg (A.u r) (Fin.ext (by dsimp only; omega))))

/-- The cotangent of the output. -/
theorem o_real (H : Args V A) (h : Fin 8) (r : Fin 2304) (e : Fin 256) :
    (res_main_v134 V (ix3 h r e) : EReal) = ((A.o h r e : ℝ) : EReal) := by
  pointwise [res_main_v134]
  exact (H.dO _ _).trans (congrArg _ (congrArg (A.dO r) (Fin.ext (by dsimp only; omega))))

/-- The forward decays. -/
theorem wF_real (H : Args V A) (h : Fin 8) (n m : Fin 2304) :
    (res_main_v104 V (ix3 h n m) : EReal) = ((W 0 (A.lg 0 h) n m : ℝ) : EReal) := by
  pointwise [res_main_v104, res_main_v93, res_main_v84, res_main_v77]
  rw [posF_real, posF_real, H.lg]
  refine Eq.trans ?_ (W_real 0 (A.lg 0 h) n m)
  rw [EReal.coe_sub]
  refine if_congr Iff.rfl rfl ?_
  exact Ideal.ofBits_zero_f32

/-- The backward decays. -/
theorem wB_real (H : Args V A) (h : Fin 8) (n m : Fin 2304) :
    (res_main_v125 V (ix3 h n m) : EReal) = ((W 1 (A.lg 1 h) n m : ℝ) : EReal) := by
  pointwise [res_main_v125, res_main_v114, res_main_v86, res_main_v77]
  rw [posB_real, posB_real, H.lg]
  refine Eq.trans ?_ (W_real 1 (A.lg 1 h) n m)
  rw [EReal.coe_sub]
  refine if_congr Iff.rfl rfl ?_
  exact Ideal.ofBits_zero_f32

/-- The rotated queries' gradient. -/
theorem dq_real (H : Args V A) (h : Fin 8) (r : Fin 2304) (a : Fin 128) :
    (res_main_v149 V (ix3 h r a) : EReal) = (((A.blk 1 h).fq 1 r a + (A.blk 0 h).fq 0 r a : ℝ) : EReal) := by
  pointwise [res_main_v149, res_main_v138, res_main_v145]
  simp only [k_real H, v_real H, o_real H, wF_real H, wB_real H, ← EReal.coe_mul, ← EReal.coe_add, coe_sum]
  refine congrArg _ (congr (congrArg HAdd.hAdd (Finset.sum_congr rfl fun m _ => ?_)) (Finset.sum_congr rfl fun m _ => ?_))
  · rw [mul_comm _ (W _ _ _ _), mul_assoc]; rfl
  · rw [mul_comm _ (W _ _ _ _), mul_assoc]; rfl

/-- The rotated keys' gradient. -/
theorem dk_real (H : Args V A) (h : Fin 8) (r : Fin 2304) (a : Fin 128) :
    (res_main_v153 V (ix3 h r a) : EReal) = ((((A.blk 1 h).fk 1 r a + (A.blk 0 h).fk 0 r a) * scl : ℝ) : EReal) := by
  pointwise [res_main_v153, res_main_v138, res_main_v145]
  simp only [q_real H, v_real H, o_real H, wF_real H, wB_real H, bits_scl, ← EReal.coe_mul, ← EReal.coe_add, coe_sum]
  refine congrArg _ (congrArg (· * scl) (congr (congrArg HAdd.hAdd (Finset.sum_congr rfl fun m _ => ?_)) (Finset.sum_congr rfl fun m _ => ?_)))
  · rw [mul_comm _ (W _ _ _ _), mul_assoc]; rfl
  · rw [mul_comm _ (W _ _ _ _), mul_assoc]; rfl

/-- The rotary embedding's transpose of the latent rows, beside the context rows, as the result is laid out. -/
def unrot (X : FVec Ideal S8x2304x128 .f32) (C S : FVec Ideal S2048x64 .f32) : FVec Ideal S2304x1024 .bf16 :=
  truncf .bf16 (shapeCast _ (transpose S2304x8x128 [1, 0, 2] (addf (pad S8x2304x128 ![0, 2048, 0] ![0, 0, 0] ![0, 0, 0] (extractStridedSlice S8x256x128 ![0, 2048, 0] X slices_S8x2304x128_S8x256x128_0_2048_0) (constant S_ .f32 0x00000000#32) pads_S8x256x128_S8x2304x128_000_204800_000 h_S_) (pad S8x2304x128 ![0, 0, 0] ![0, 256, 0] ![0, 0, 0] (addf (pad S8x2048x128 ![0, 0, 64] ![0, 0, 0] ![0, 0, 0] (addf (mulf (extractStridedSlice S8x2048x64 ![0, 0, 64] (extractStridedSlice S8x2048x128 ![0, 0, 0] X slices_S8x2304x128_S8x2048x128_0_0_0) slices_S8x2048x128_S8x2048x64_0_0_64) (broadcastInDim S8x2048x64 ![0, 1, 2] bcast_S1x2048x64_S8x2048x64_0_1_2 (broadcastInDim S1x2048x64 ![1, 2] bcast_S2048x64_S1x2048x64_1_2 C))) (mulf (Host.negf (extractStridedSlice S8x2048x64 ![0, 0, 0] (extractStridedSlice S8x2048x128 ![0, 0, 0] X slices_S8x2304x128_S8x2048x128_0_0_0) slices_S8x2048x128_S8x2048x64_0_0_0)) (broadcastInDim S8x2048x64 ![0, 1, 2] bcast_S1x2048x64_S8x2048x64_0_1_2 (broadcastInDim S1x2048x64 ![1, 2] bcast_S2048x64_S1x2048x64_1_2 S)))) (constant S_ .f32 0x00000000#32) pads_S8x2048x64_S8x2048x128_000_000_6400 h_S_) (pad S8x2048x128 ![0, 0, 0] ![0, 0, 64] ![0, 0, 0] (addf (mulf (extractStridedSlice S8x2048x64 ![0, 0, 64] (extractStridedSlice S8x2048x128 ![0, 0, 0] X slices_S8x2304x128_S8x2048x128_0_0_0) slices_S8x2048x128_S8x2048x64_0_0_64) (broadcastInDim S8x2048x64 ![0, 1, 2] bcast_S1x2048x64_S8x2048x64_0_1_2 (broadcastInDim S1x2048x64 ![1, 2] bcast_S2048x64_S1x2048x64_1_2 S))) (mulf (extractStridedSlice S8x2048x64 ![0, 0, 0] (extractStridedSlice S8x2048x128 ![0, 0, 0] X slices_S8x2304x128_S8x2048x128_0_0_0) slices_S8x2048x128_S8x2048x64_0_0_0) (broadcastInDim S8x2048x64 ![0, 1, 2] bcast_S1x2048x64_S8x2048x64_0_1_2 (broadcastInDim S1x2048x64 ![1, 2] bcast_S2048x64_S1x2048x64_1_2 C)))) (constant S_ .f32 0x00000000#32) pads_S8x2048x64_S8x2048x128_000_000_0640 h_S_)) (constant S_ .f32 0x00000000#32) pads_S8x2048x128_S8x2304x128_000_02560_000 h_S_)) transposes_S8x2304x128_S2304x8x128_1_0_2) shapeCasts_S2304x8x128_S2304x1024) bitsLt_bf16_f32

/-- The values' gradient from the scores, as the result is laid out. -/
def vsum (O : FVec Ideal S8x2304x256 .f32) (P1 P0 : FVec Ideal S8x2304x2304 .f32) : FVec Ideal S2304x2048 .bf16 :=
  truncf .bf16 (shapeCast _ (transpose S2304x8x256 [1, 0, 2] (addf (transpose S8x2304x256 [0, 2, 1] (Host.dotGeneral dot_S8x2304x256_S8x2304x2304_S8x256x2304_1_1_2_2_0_0 none O P1) transposes_S8x256x2304_S8x2304x256_0_2_1) (transpose S8x2304x256 [0, 2, 1] (Host.dotGeneral dot_S8x2304x256_S8x2304x2304_S8x256x2304_1_1_2_2_0_0 none O P0) transposes_S8x256x2304_S8x2304x256_0_2_1)) transposes_S8x2304x256_S2304x8x256_1_0_2) shapeCasts_S2304x8x256_S2304x2048) bitsLt_bf16_f32

/-- A table of fixed size as a table over the naturals. -/
theorem extend (x : Fin 8 → Fin 2304 → Fin 128 → ℝ) :
    ∃ x' : ℕ → ℕ → ℕ → ℝ, ∀ h r a, x h r a = x' h.val r.val a.val := by
  exact Exists.intro (fun h r a => if p : h < 8 ∧ r < 2304 ∧ a < 128 then x (Fin.mk h p.1) (Fin.mk r p.2.1) (Fin.mk a p.2.2) else 0)
    (fun h r a => by dsimp only; rw [dif_pos (And.intro h.isLt (And.intro r.isLt a.isLt))])

/-- A row of the transposed embedding. -/
theorem unrot_real {X : FVec Ideal S8x2304x128 .f32} {C S : FVec Ideal S2048x64 .f32} {x : Fin 8 → Fin 2304 → Fin 128 → ℝ}
    (hX : ∀ h r a, (X (ix3 h r a) : EReal) = ((x h r a : ℝ) : EReal))
    (hC : ∀ r a, (C (ix2 r a) : EReal) = ((Real.cos (ang r.val a.val) : ℝ) : EReal))
    (hS : ∀ r a, (S (ix2 r a) : EReal) = ((Real.sin (ang r.val a.val) : ℝ) : EReal)) (r : Fin 2304) (n : Fin 1024)
    (h : Fin 8) (a : Fin 128) (eh : n.val / 128 = h.val) (ea : n.val % 128 = a.val) :
    (unrot X C S (ix2 r n) : EReal) = ((ropeT ct sn r (x h r) a : ℝ) : EReal) := by
  have hr' := r.isLt
  have hh' := h.isLt
  have ha' := a.isLt
  obtain ⟨x', hx⟩ := extend x
  have ex : x h r = fun a : Fin 128 => x' h.val r.val a.val := funext fun a => hx h r a
  rw [ex]
  pointwise [unrot]
  simp only [hX, hC, hS, hx, eh, ea]
  refine ropeT_halves (fun a : Fin 128 => x' h.val r.val a.val) r a (by omega) (by omega) (fun hr => by omega) (fun hr => by omega)
    (fun p => ?_) (fun p p' => ?_) (fun p p' => ?_) (fun p p' => rfl) (fun p p' => rfl) (fun p p' => ?_) (fun p p' => rfl) (fun p p' => rfl) (fun p p' => rfl)
  · exact congrArg Real.toEReal (congrArg (fun y => x' h.val y a.val) (by omega))
  · exact congrArg Real.toEReal (congrArg (x' h.val r.val) (by omega))
  · exact congrArg Real.toEReal (congrArg (x' h.val r.val) (by rw [rot_hi (by omega)]))
  · exact congrArg Real.toEReal (congrArg (x' h.val r.val) (by rw [rot_lo (by omega)]; omega))

theorem cos_real (r : Fin 2048) (a : Fin 64) : (res_main_v27 V (ix2 r a) : EReal) = ((Real.cos (ang r.val a.val) : ℝ) : EReal) := by
  pointwise [res_main_v27]
  rw [angle_real]
  rfl
theorem sin_real (r : Fin 2048) (a : Fin 64) : (res_main_v28 V (ix2 r a) : EReal) = ((Real.sin (ang r.val a.val) : ℝ) : EReal) := by
  pointwise [res_main_v28]
  rw [angle_real]
  rfl

/-- The queries' gradient. -/
theorem resQ_real (H : Args V A) (r : Fin 2304) (n : Fin 1024) :
    (unrot (res_main_v149 V) (res_main_v27 V) (res_main_v28 V) (ix2 r n) : EReal)
      = ((A.gq ⟨n.val / 128, by omega⟩ r ⟨n.val % 128, by omega⟩ : ℝ) : EReal) := by
  refine (unrot_real (fun h r a => dq_real H h r a) cos_real sin_real r n ⟨n.val / 128, by omega⟩ ⟨n.val % 128, by omega⟩ rfl rfl).trans (congrArg _ ?_)
  unfold Data.gq ropeT
  ring

/-- The keys' gradient. -/
theorem resK_real (H : Args V A) (r : Fin 2304) (n : Fin 1024) :
    (unrot (res_main_v153 V) (res_main_v27 V) (res_main_v28 V) (ix2 r n) : EReal)
      = ((A.gk ⟨n.val / 128, by omega⟩ r ⟨n.val % 128, by omega⟩ : ℝ) : EReal) := by
  refine (unrot_real (fun h r a => dk_real H h r a) cos_real sin_real r n ⟨n.val / 128, by omega⟩ ⟨n.val % 128, by omega⟩ rfl rfl).trans (congrArg _ ?_)
  unfold Data.gk ropeT
  ring

/-- The values' gradient. -/
theorem resV_real (H : Args V A) (r : Fin 2304) (n : Fin 2048) :
    (vsum (res_main_v134 V) (res_main_v127 V) (res_main_v106 V) (ix2 r n) : EReal)
      = ((A.gv ⟨n.val / 256, by omega⟩ r ⟨n.val % 256, by omega⟩ : ℝ) : EReal) := by
  pointwise [vsum, res_main_v127, res_main_v106]
  simp only [q_real H, k_real H, o_real H, wF_real H, wB_real H, ← EReal.coe_mul, ← EReal.coe_add, coe_sum]
  refine congrArg _ ?_
  unfold Data.gv RBlk.fv
  rw [add_comm]
  refine congr (congrArg HAdd.hAdd (Finset.sum_congr rfl fun i _ => ?_)) (Finset.sum_congr rfl fun i _ => ?_)
  · rw [mul_comm (A.o _ _ _), mul_comm _ (W _ _ _ _), mul_assoc]; rfl
  · rw [mul_comm (A.o _ _ _), mul_comm _ (W _ _ _ _), mul_assoc]; rfl

end Cert.ReferenceIdeal.Hand
end
-- ==== Proof.Finite.lean ====
module

public import proofs.«01_k».proof.Pre_finite
public import Idealize.ShloMosaic.Lib.ReduceAll
public import Idealize.ShloMosaic.Lib.Affine
public import Idealize.ShloMosaic.Lib.IdealHost
public import Idealize.ShloMosaic.Lib.Pointwise

@[expose] public section

noncomputable section

namespace Cert.Pre_finite.Hand

open Idealize.ShloMosaic Cert.Pre_finite

/-! What the precondition says: every entry of the three arguments is a real. -/

/-- The side conditions of the predicate's operations. -/
theorem facts : Cert.Pre_finite.Facts where
  bitsLt_bf16_f32 := by decide
  bcast_S_S2304x14336 := by decide
  reducesTo_S2304x14336_S_d0_1 := by decide
  h_S_ := by decide
  bcast_S_S2x8 := by decide
  reducesTo_S2x8_S_d0_1 := by decide
  bcast_S_S2304x2048 := by decide
  reducesTo_S2304x2048_S_d0_1 := by decide

theorem bits_inf : Ideal.ofBits .f32 0x7F800000#32 = ⊤ := by simp [Ideal.ofBits, Ideal.ieee]

/-- A value whose absolute value is less than infinity is a real. -/
theorem real_of_lt (x : EReal) (h : Ideal.cmp .olt (max x (-x)) (Ideal.ofBits .f32 0x7F800000#32) = 1#1) :
    x = ((x.toReal : ℝ) : EReal) := by
  rw [bits_inf] at h
  have h' : max x (-x) < ⊤ := by
    by_contra hn
    have e : decide (max x (-x) < ⊤) = false := decide_eq_false hn
    simp only [Ideal.cmp, e] at h
    exact absurd h (by decide)
  have h1 : x ≠ ⊤ := (lt_of_le_of_lt (le_max_left _ _) h').ne
  have h2 : x ≠ ⊥ := by
    rintro rfl
    have := (lt_of_le_of_lt (le_max_right (⊥ : EReal) (-⊥)) h').ne
    simp at this
  exact (EReal.coe_toReal h1 h2).symm

instance : Subsingleton S_.Idx := ⟨fun a b => funext fun i => i.elim0⟩

/-- The three arguments' entries are reals when the predicate holds of them. -/
theorem real [Cert.Pre_finite.Facts] (x : FVec Ideal S2304x14336 .bf16) (y : FVec Ideal S2x8 .f32) (z : FVec Ideal S2304x2048 .bf16)
    (h : Cert.Pre_finite.fn (F := Ideal) x y z = fun _ => 1#1) :
    (∀ i, (x i : EReal) = (((x i : EReal).toReal : ℝ) : EReal)) ∧ (∀ i, (y i : EReal) = (((y i : EReal).toReal : ℝ) : EReal))
      ∧ (∀ i, (z i : EReal) = (((z i : EReal).toReal : ℝ) : EReal)) := by
  have h0 := congrFun h ix0
  obtain ⟨h1, hz⟩ := IntOp.andi_eq_one.1 h0
  obtain ⟨hx, hy⟩ := IntOp.andi_eq_one.1 h1
  exact ⟨fun i => real_of_lt _ (Host.reduce_andi_all _ _ _ _ ix0 hx i), fun i => real_of_lt _ (Host.reduce_andi_all _ _ _ _ ix0 hy i),
    fun i => real_of_lt _ (Host.reduce_andi_all _ _ _ _ ix0 hz i)⟩

end Cert.Pre_finite.Hand
end
-- ==== Proof.Products.lean ====
module

public import Idealize.ShloMosaic.Lib.Pointwise
public import Idealize.ShloMosaic.Lib.Pipeline.ValueKit

@[expose] public section

noncomputable section

namespace Cert.Products

open Idealize.ShloMosaic Idealize.ShloMosaic.Tactic

/-! Products of two bfloat16 tables, and their indices. -/

theorem zeros : (![0, 0] : Fin 2 → ℕ) = fun _ => 0 := by
  funext a
  match a with
  | ⟨0, _⟩ => rfl
  | ⟨1, _⟩ => rfl

/-- An index whose coordinates are known. -/
theorem ix2_eq {s0 s1 : ℕ} {z : (⟨2, ![s0, s1]⟩ : Shape).Idx} {i : Fin s0} {j : Fin s1} (h0 : (z 0 : ℕ) = i) (h1 : (z 1 : ℕ) = j) :
    ix2 i j = z := by
  funext a
  match a with
  | ⟨0, _⟩ => exact Fin.ext h0.symm
  | ⟨1, _⟩ => exact Fin.ext h1.symm

/-- An index by its two coordinates. -/
theorem idx2 {s0 s1 : ℕ} (y : (⟨2, ![s0, s1]⟩ : Shape).Idx) : y = ix2 (y 0) (y 1) := (ix2_eq rfl rfl).symm

variable {M N K : ℕ} {w : FTy}

/-- The product over the second coordinate of the first table and the first of the second. -/
def rowsByCols (a : FVec Ideal ⟨2, ![M, K]⟩ .bf16) (b : FVec Ideal ⟨2, ![K, N]⟩ .bf16) : FVec Ideal ⟨2, ![M, N]⟩ w :=
  fun y => (∑ k : Fin K, (a (ix2 (y 0) k) : EReal) * b (ix2 k (y 1)) : EReal)

/-- The product over the second coordinate of both. -/
def rowsByRows (a : FVec Ideal ⟨2, ![M, K]⟩ .bf16) (b : FVec Ideal ⟨2, ![N, K]⟩ .bf16) : FVec Ideal ⟨2, ![M, N]⟩ w :=
  fun y => (∑ k : Fin K, (a (ix2 (y 0) k) : EReal) * b (ix2 (y 1) k) : EReal)

/-- The product over the first coordinate of both. -/
def colsByCols (a : FVec Ideal ⟨2, ![K, M]⟩ .bf16) (b : FVec Ideal ⟨2, ![K, N]⟩ .bf16) : FVec Ideal ⟨2, ![M, N]⟩ w :=
  fun y => (∑ k : Fin K, (a (ix2 k (y 0)) : EReal) * b (ix2 k (y 1)) : EReal)

variable {m n : ℕ} {i : Fin m} {j : Fin n} {p : Fin M} {q : Fin N}

/-- An entry of the product of two blocks is the entry of the whole product at the blocks' rows and columns. -/
theorem rowsByCols_block {x : FVec Ideal ⟨2, ![m, K]⟩ .bf16} {y : FVec Ideal ⟨2, ![K, n]⟩ .bf16} {a : FVec Ideal ⟨2, ![M, K]⟩ .bf16} {b : FVec Ideal ⟨2, ![K, N]⟩ .bf16}
    (hx : ∀ k, x (ix2 i k) = a (ix2 p k)) (hy : ∀ k, y (ix2 k j) = b (ix2 k q)) :
    rowsByCols (w := w) x y (ix2 i j) = rowsByCols (w := w) a b (ix2 p q) :=
  Finset.sum_congr rfl fun k _ => congr (congrArg (HMul.hMul (α := EReal) (β := EReal) (γ := EReal)) (hx k)) (hy k)

theorem rowsByRows_block {x : FVec Ideal ⟨2, ![m, K]⟩ .bf16} {y : FVec Ideal ⟨2, ![n, K]⟩ .bf16} {a : FVec Ideal ⟨2, ![M, K]⟩ .bf16} {b : FVec Ideal ⟨2, ![N, K]⟩ .bf16}
    (hx : ∀ k, x (ix2 i k) = a (ix2 p k)) (hy : ∀ k, y (ix2 j k) = b (ix2 q k)) :
    rowsByRows (w := w) x y (ix2 i j) = rowsByRows (w := w) a b (ix2 p q) :=
  Finset.sum_congr rfl fun k _ => congr (congrArg (HMul.hMul (α := EReal) (β := EReal) (γ := EReal)) (hx k)) (hy k)

theorem colsByCols_block {x : FVec Ideal ⟨2, ![K, m]⟩ .bf16} {y : FVec Ideal ⟨2, ![K, n]⟩ .bf16} {a : FVec Ideal ⟨2, ![K, M]⟩ .bf16} {b : FVec Ideal ⟨2, ![K, N]⟩ .bf16}
    (hx : ∀ k, x (ix2 k i) = a (ix2 k p)) (hy : ∀ k, y (ix2 k j) = b (ix2 k q)) :
    colsByCols (w := w) x y (ix2 i j) = colsByCols (w := w) a b (ix2 p q) :=
  Finset.sum_congr rfl fun k _ => congr (congrArg (HMul.hMul (α := EReal) (β := EReal) (γ := EReal)) (hx k)) (hy k)

/-- The product is the same with the tables, and the result's coordinates, exchanged. -/
theorem colsByCols_comm (a : FVec Ideal ⟨2, ![K, M]⟩ .bf16) (b : FVec Ideal ⟨2, ![K, N]⟩ .bf16) (y : (⟨2, ![M, N]⟩ : Shape).Idx) :
    colsByCols (w := w) a b y = (∑ k : Fin K, (b (ix2 k (y 1)) : EReal) * a (ix2 k (y 0)) : EReal) :=
  Finset.sum_congr rfl fun k _ => mul_comm (G := EReal) _ _

end Cert.Products

end
-- ==== Proof.InProjDw.lean ====
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel2Ideal.Hand

open Cert.Kernel2Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The weight gradient of the input projection: the tiles the kernel writes make up the whole product. -/

/-- The block index of every window at every grid point. -/
theorem idx : ∀ t : Fin cfg0.N, win0_0.index t = ![0, t.val / 14] ∧ win0_1.index t = ![0, t.val % 14]
    ∧ win0_2.index t = ![t.val / 14, t.val % 14] :=
  (by decide +kernel : ∀ t : Fin grid0.N, _)

theorem lt (t : Fin cfg0.N) : t.val < 28 := lt_of_lt_of_eq t.isLt (by decide)

/-- A grid point writes the product of its two blocks. -/
theorem out (x0 : Vec Ideal S2304x1024 .bf16) (x1 : Vec Ideal S2304x1024 .bf16) (p : Fin 1024) (q : Fin 1024) :
    out0_2 x0 x1 (ix2 p q) = colsByCols (w := .bf16) x0 x1 (ix2 p q) := by
  show (out0_2 x0 x1 (ix2 p q) : EReal) = ∑ k : Fin 2304, (x0 (ix2 k p) : EReal) * x1 (ix2 k q)
  unfold out0_2
  rw [View.canon_unit_zero (S := S1024x1024) zeros]
  unfold k0_pay1
  rw [View.ld_unit_zero (S := S2304x1024) zeros, View.ld_unit_zero (S := S2304x1024) zeros]
  simp [pointwise]

/-- The first block of a grid point. -/
theorem blk_a (c : Dev nD) (t : Fin cfg0.N) (k : Fin 2304) (p : Fin 1024) :
    (iblk m c 0 t) (ix2 k p) = m ((c.tc : Thread nD τ).loc main_arg0) (ix2 k ⟨1024 * (t.val / 14) + p.val, by have := lt t; omega⟩) := by
  have ht := lt t
  refine Eq.trans (b := V m c main_arg0 (ix2 k ⟨1024 * (t.val / 14) + p.val, by have := lt t; omega⟩)) ?_ (congrFun (V_main_arg0 m c) _)
  blk_ext [iblk, idx t]

/-- The second block of a grid point. -/
theorem blk_b (c : Dev nD) (t : Fin cfg0.N) (k : Fin 2304) (q : Fin 1024) :
    (iblk m c 1 t) (ix2 k q) = m ((c.tc : Thread nD τ).loc main_arg1) (ix2 k ⟨1024 * (t.val % 14) + q.val, by have := lt t; omega⟩) := by
  have ht := lt t
  refine Eq.trans (b := V m c main_arg1 (ix2 k ⟨1024 * (t.val % 14) + q.val, by have := lt t; omega⟩)) ?_ (congrFun (V_main_arg1 m c) _)
  blk_ext [iblk, idx t]

/-- The product of the two arguments. -/
abbrev prod (a : FVec Ideal S2304x2048 .bf16) (b : FVec Ideal S2304x14336 .bf16) : FVec Ideal S2048x14336 .bf16 := colsByCols a b

/-- What a grid point writes is its tile of the product. -/
theorem tile (c : Dev nD) (t : Fin cfg0.N) (p : Fin 1024) (q : Fin 1024) :
    out0_2 (iblk m c 0 t) (iblk m c 1 t) (ix2 p q) = prod (m ((c.tc : Thread nD τ).loc main_arg0)) (m ((c.tc : Thread nD τ).loc main_arg1))
      (ix2 ⟨1024 * (t.val / 14) + p.val, by have := lt t; omega⟩ ⟨1024 * (t.val % 14) + q.val, by have := lt t; omega⟩) :=
  (out (iblk m c 0 t) (iblk m c 1 t) p q).trans (colsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1024 * (t.val / 14) + (y 0).val := by blk_simp [idx t]; try omega
  have e1 : ((((cfg0.win 2).blk t).view.emb y) 1 : ℕ) = 1024 * (t.val % 14) + (y 1).val := by blk_simp [idx t]; try omega
  rw [after0_2]
  refine Eq.trans (b := out0_2 (iblk m c 0 t) (iblk m c 1 t) (ix2 (n0 := 1024) (n1 := 1024) (y 0) (y 1))) ?_
    ((tile m c t (y 0) (y 1)).trans ?_)
  · generalize out0_2 (iblk m c 0 t) (iblk m c 1 t) = f
    exact congrArg f (idx2 (s0 := 1024) (s1 := 1024) y)
  · exact congrArg (prod (m ((c.tc : Thread nD τ).loc main_arg0)) (m ((c.tc : Thread nD τ).loc main_arg1))) (ix2_eq e0 e1)

end Cert.Kernel2Ideal.Hand

namespace Cert.Reference2Ideal.Hand

open Cert.Reference2Ideal.Gen
open Idealize.ShloMosaic Idealize.ShloMosaic.TcCoe Idealize.ShloMosaic.Tactic

/-- The reference's result is the product. -/
theorem res (a : FVec Ideal S2304x2048 .bf16) (b : FVec Ideal S2304x14336 .bf16) :
    truncf .bf16 (transpose S2048x14336 [1, 0] (Host.dotGeneral dot_S2304x14336_S2304x2048_S14336x2048_0_0_1_1_n_n none
      (extf .f32 b bitsLt_bf16_f32) (extf .f32 a bitsLt_bf16_f32)) transposes_S14336x2048_S2048x14336_1_0) bitsLt_bf16_f32
      = Cert.Kernel2Ideal.Hand.prod a b := by
  funext y
  refine Eq.trans (b := (∑ k : Fin 2304, (b (ix2 k (y 1)) : EReal) * a (ix2 k (y 0)) : EReal)) ?_ (Cert.Products.colsByCols_comm a b y).symm
  simp [pointwise]

end Cert.Reference2Ideal.Hand

namespace Cert.Proof.Product2

open Idealize.ShloMosaic Idealize.ShloMosaic.TcCoe Idealize.ShloMosaic.StableHlo Idealize.SL.Sem

/-- The reference's run leaves its arguments unchanged and every semaphore counter at zero. -/
theorem refFrame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- From memories that agree on the arguments both programs end with equal results and unchanged arguments. -/
theorem equal : Cert.algebraic_Kernel2Ideal_Reference2Ideal (hKernel2Ideal := Cert.Kernel2Ideal.Gen.facts) (hReference2Ideal := Cert.Reference2Ideal.Gen.facts) :=
  fun m ρ m' ρ' _ hag =>
  ⟨fun c => (Cert.Kernel2Ideal.Gen.dats m 0 c).arrAt 2 Cert.Kernel2Ideal.cfg0.N, Cert.Kernel2Ideal.Value.run_blocks m ρ,
    (θ_run _ _ _).mono (fun r h c => ⟨(h c).1.trans (((Cert.Reference2Ideal.Hand.res _ _).trans
      (congr (congrArg Cert.Kernel2Ideal.Hand.prod (hag c).1) (hag c).2)).trans (Cert.Kernel2Ideal.Hand.arr m c).symm), (h c).2⟩) (Cert.Reference2Ideal.Value.run m' ρ')⟩

end Cert.Proof.Product2

end
-- ==== Proof.InProjDx.lean ====
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel3Ideal.Hand

open Cert.Kernel3Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The input gradient of the input projection: the kernel adds seven partial products into a scratch block and stores the sum;
the blocks it stores make up the whole product. -/

/-- The block index of every window at every grid point. -/
theorem idx : ∀ t : Fin cfg0.N, win0_0.index t = ![t.val / 14, t.val % 7] ∧ win0_1.index t = ![t.val / 7 % 2, t.val % 7]
    ∧ win0_2.index t = ![t.val / 14, t.val / 7 % 2] :=
  (by decide +kernel : ∀ t : Fin grid0.N, _)

theorem lt (t : Fin cfg0.N) : t.val < 28 := lt_of_lt_of_eq t.isLt (by decide)

/-- The first step of a block leaves the partial product in the scratch block. -/
theorem first (c : Dev nD) (i : grid0.Coords) (arg3 : Memref sig .tc .vmem S1152x2048 .bf16) (harg3 : arg3.IsWhole) (arg4 : Memref sig .tc .vmem S1024x2048 .bf16) (harg4 : arg4.IsWhole)
    (arg5 : Memref sig .tc .vmem S1152x1024 .f32) (harg5 : arg5.IsWhole) (arg6 : Memref sig .tc .vmem S1152x1024 .f32) (harg6 : arg6.IsWhole)
    (hc0 : cond0_0 i) (hc1 : ¬cond0_1 i) (hc2 : ¬cond0_2 i) (x0 : Vec Ideal S1152x2048 .bf16) (x1 : Vec Ideal S1024x2048 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero (S := S1152x1024) zeros]
  unfold k0_pay2
  simp only [View.readAt_eq_ld, harg3.read_unread, harg4.read_unread, harg6.read_unread, View.ld_unit_zero (S := S1152x2048) zeros,
    View.ld_unit_zero (S := S1024x2048) zeros, View.ld_unit_zero (S := S1152x1024) zeros, shapeCast_self]

/-- A middle step adds its partial product. -/
theorem middle (c : Dev nD) (i : grid0.Coords) (arg3 : Memref sig .tc .vmem S1152x2048 .bf16) (harg3 : arg3.IsWhole) (arg4 : Memref sig .tc .vmem S1024x2048 .bf16) (harg4 : arg4.IsWhole)
    (arg5 : Memref sig .tc .vmem S1152x1024 .f32) (harg5 : arg5.IsWhole) (arg6 : Memref sig .tc .vmem S1152x1024 .f32) (harg6 : arg6.IsWhole)
    (hc0 : ¬cond0_0 i) (hc1 : cond0_1 i) (hc2 : ¬cond0_2 i) (x0 : Vec Ideal S1152x2048 .bf16) (x1 : Vec Ideal S1024x2048 .bf16) (xs : Vec Ideal S1152x1024 .f32) :
    sout0_B_0 c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero (S := S1152x1024) zeros]
  unfold k0_pay3
  simp only [View.readAt_eq_ld, harg3.read_unread, harg4.read_unread, harg6.read_unread, View.ld_unit_zero (S := S1152x2048) zeros,
    View.ld_unit_zero (S := S1024x2048) zeros, View.ld_unit_zero (S := S1152x1024) zeros, shapeCast_self]

/-- So does the last step, -/
theorem last (c : Dev nD) (i : grid0.Coords) (arg3 : Memref sig .tc .vmem S1152x2048 .bf16) (harg3 : arg3.IsWhole) (arg4 : Memref sig .tc .vmem S1024x2048 .bf16) (harg4 : arg4.IsWhole)
    (arg5 : Memref sig .tc .vmem S1152x1024 .f32) (harg5 : arg5.IsWhole) (arg6 : Memref sig .tc .vmem S1152x1024 .f32) (harg6 : arg6.IsWhole)
    (hc0 : ¬cond0_0 i) (hc1 : cond0_1 i) (hc2 : cond0_2 i) (x0 : Vec Ideal S1152x2048 .bf16) (x1 : Vec Ideal S1024x2048 .bf16) (xs : Vec Ideal S1152x1024 .f32) :
    sout0_C_0 c i arg3 harg3 arg4 harg4 arg5 harg5 arg6 harg6 hc0 hc1 hc2 x0 x1 xs = addf xs (k0_pay1 x0 x1) := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero (S := S1152x1024) zeros]
  unfold k0_pay3
  simp only [View.readAt_eq_ld, harg3.read_unread, harg4.read_unread, harg6.read_unread, View.ld_unit_zero (S := S1152x2048) zeros,
    View.ld_unit_zero (S := S1024x2048) zeros, View.ld_unit_zero (S := S1152x1024) zeros, shapeCast_self]

/-- which then stores the sum as the block of the result. -/
theorem stored (c : Dev nD) (i : grid0.Coords) (arg3 : Memref sig .tc .vmem S1152x2048 .bf16) (harg3 : arg3.IsWhole) (arg4 : Memref sig .tc .vmem S1024x2048 .bf16) (harg4 : arg4.IsWhole)
    (arg5 : Memref sig .tc .vmem S1152x1024 .f32) (harg5 : arg5.IsWhole) (arg6 : Memref sig .tc .vmem S1152x1024 .f32) (harg6 : arg6.IsWhole)
    (hc0 : ¬cond0_0 i) (hc1 : cond0_1 i) (hc2 : cond0_2 i) (x0 : Vec Ideal S1152x2048 .bf16) (x1 : Vec Ideal S1024x2048 .bf16) (xs : Vec Ideal S1152x1024 .f32) :
    out0_C_2 c i arg3 harg3 arg4 harg4 arg5 harg5 arg6 harg6 hc0 hc1 hc2 x0 x1 xs = addf xs (k0_pay1 x0 x1) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero (S := S1152x1024) zeros, View.readCov_unit_zero (S := S1152x1024) _ zeros]
  unfold k0_pay3
  simp only [View.readAt_eq_ld, harg3.read_unread, harg4.read_unread, harg6.read_unread, View.ld_unit_zero (S := S1152x2048) zeros,
    View.ld_unit_zero (S := S1024x2048) zeros, View.ld_unit_zero (S := S1152x1024) zeros, shapeCast_self]

/-- The scratch block after a first step, -/
theorem scratch_first (c : Dev nD) (t : Fin cfg0.N) (h : t.val % 7 = 0) :
    (outsAt0 m c t.val t.isLt).2 = k0_pay1 (iblk m c 0 t) (iblk m c 1 t) := by
  rw [outsAt0_A m c t h (by omega) (by omega), first]

/-- after a later one, -/
theorem scratch_later (c : Dev nD) (n : ℕ) (hn : n + 1 < cfg0.N) (h : ¬(n + 1) % 7 = 0) :
    (outsAt0 m c (n + 1) hn).2 = addf (outsAt0 m c n (Nat.lt_of_succ_lt hn)).2 (k0_pay1 (iblk m c 0 ⟨n + 1, hn⟩) (iblk m c 1 ⟨n + 1, hn⟩)) := by
  by_cases h6 : (n + 1) % 7 = 6
  · rw [outsAt0_C m c ⟨n + 1, hn⟩ h (by dsimp only; omega) h6, last]
    rfl
  · rw [outsAt0_B m c ⟨n + 1, hn⟩ h (by dsimp only; omega) h6, middle]
    rfl

/-- and the block stored at a last step, which is the scratch block then. -/
theorem stored_last (c : Dev nD) (t : Fin cfg0.N) (h : t.val % 7 = 6) :
    (outsAt0 m c t.val t.isLt).1 = (outsAt0 m c t.val t.isLt).2 := by
  rw [outsAt0_C m c t (by omega) (by omega) h, stored, last]

/-- An entry of a partial product. -/
theorem part (x0 : Vec Ideal S1152x2048 .bf16) (x1 : Vec Ideal S1024x2048 .bf16) (p : Fin 1152) (q : Fin 1024) :
    (k0_pay1 x0 x1 (ix2 p q) : EReal) = ∑ k : Fin 2048, (x0 (ix2 p k) : EReal) * x1 (ix2 q k) := by
  unfold k0_pay1
  simp [pointwise]

/-- The first block of a grid point. -/
theorem blk_a (c : Dev nD) (t : Fin cfg0.N) (p : Fin 1152) (k : Fin 2048) :
    (iblk m c 0 t) (ix2 p k) = m ((c.tc : Thread nD τ).loc main_arg0) (ix2 ⟨1152 * (t.val / 14) + p.val, by have := lt t; omega⟩ ⟨2048 * (t.val % 7) + k.val, by omega⟩) := by
  have ht := lt t
  refine Eq.trans (b := V m c main_arg0 (ix2 ⟨1152 * (t.val / 14) + p.val, by have := lt t; omega⟩ ⟨2048 * (t.val % 7) + k.val, by omega⟩)) ?_ (congrFun (V_main_arg0 m c) _)
  blk_ext [iblk, idx t]

/-- The second block of a grid point. -/
theorem blk_b (c : Dev nD) (t : Fin cfg0.N) (q : Fin 1024) (k : Fin 2048) :
    (iblk m c 1 t) (ix2 q k) = m ((c.tc : Thread nD τ).loc main_arg1) (ix2 ⟨1024 * (t.val / 7 % 2) + q.val, by omega⟩ ⟨2048 * (t.val % 7) + k.val, by omega⟩) := by
  have ht := lt t
  refine Eq.trans (b := V m c main_arg1 (ix2 ⟨1024 * (t.val / 7 % 2) + q.val, by omega⟩ ⟨2048 * (t.val % 7) + k.val, by omega⟩)) ?_ (congrFun (V_main_arg1 m c) _)
  blk_ext [iblk, idx t]

/-- The product of the two arguments. -/
abbrev prod (a : FVec Ideal S2304x14336 .bf16) (b : FVec Ideal S2048x14336 .bf16) : FVec Ideal S2304x2048 .f32 := rowsByRows a b

/-- The terms of an entry of the product, numbered from zero. -/
def term (a : FVec Ideal S2304x14336 .bf16) (b : FVec Ideal S2048x14336 .bf16) (i j k : ℕ) : EReal :=
  if h : i < 2304 ∧ j < 2048 ∧ k < 14336 then (a (ix2 ⟨i, h.1⟩ ⟨k, h.2.2⟩) : EReal) * b (ix2 ⟨j, h.2.1⟩ ⟨k, h.2.2⟩) else 0

/-- All of an entry's terms add up to it. -/
theorem terms (a : FVec Ideal S2304x14336 .bf16) (b : FVec Ideal S2048x14336 .bf16) (i : Fin 2304) (j : Fin 2048) :
    ∑ k ∈ Finset.range 14336, term a b i.val j.val k = (prod a b (ix2 i j) : EReal) := by
  rw [← Fin.sum_univ_eq_sum_range]
  exact Finset.sum_congr rfl fun k _ => dif_pos ⟨i.isLt, j.isLt, k.isLt⟩

/-- A partial product adds up 2048 of the terms. -/
theorem part_terms (c : Dev nD) (t : Fin cfg0.N) (p : Fin 1152) (q : Fin 1024) :
    (k0_pay1 (iblk m c 0 t) (iblk m c 1 t) (ix2 p q) : EReal)
      = ∑ k ∈ Finset.range 2048, term (m ((c.tc : Thread nD τ).loc main_arg0)) (m ((c.tc : Thread nD τ).loc main_arg1)) (1152 * (t.val / 14) + p.val) (1024 * (t.val / 7 % 2) + q.val) (2048 * (t.val % 7) + k) := by
  have ht := lt t
  rw [← Fin.sum_univ_eq_sum_range (fun k => term (m ((c.tc : Thread nD τ).loc main_arg0)) (m ((c.tc : Thread nD τ).loc main_arg1)) (1152 * (t.val / 14) + p.val) (1024 * (t.val / 7 % 2) + q.val) (2048 * (t.val % 7) + k))]
  refine (part (iblk m c 0 t) (iblk m c 1 t) p q).trans (Finset.sum_congr rfl fun k _ => ?_)
  refine Eq.trans (b := HMul.hMul (α := EReal) (β := EReal) (γ := EReal) (m ((c.tc : Thread nD τ).loc main_arg0) (ix2 ⟨1152 * (t.val / 14) + p.val, by omega⟩ ⟨2048 * (t.val % 7) + k.val, by omega⟩))
    (m ((c.tc : Thread nD τ).loc main_arg1) (ix2 ⟨1024 * (t.val / 7 % 2) + q.val, by omega⟩ ⟨2048 * (t.val % 7) + k.val, by omega⟩)))
    (congr (congrArg (HMul.hMul (α := EReal) (β := EReal) (γ := EReal)) (blk_a m c t p k)) (blk_b m c t q k)) ?_
  have hk : 1152 * (t.val / 14) + p.val < 2304 ∧ 1024 * (t.val / 7 % 2) + q.val < 2048 ∧ 2048 * (t.val % 7) + k.val < 14336 := ⟨by omega, by omega, by omega⟩
  unfold term
  refine Eq.symm ((dif_pos hk).trans ?_)
  rfl

/-- The scratch block after a step holds the terms so far, added up. -/
theorem scratch (c : Dev nD) : ∀ (n : ℕ) (hn : n < cfg0.N) (p : Fin 1152) (q : Fin 1024),
    ((outsAt0 m c n hn).2 (ix2 p q) : EReal)
      = ∑ k ∈ Finset.range (2048 * (n % 7 + 1)), term (m ((c.tc : Thread nD τ).loc main_arg0)) (m ((c.tc : Thread nD τ).loc main_arg1)) (1152 * (n / 14) + p.val) (1024 * (n / 7 % 2) + q.val) k := by
  intro n
  induction n with
  | zero =>
    intro hn p q
    refine (congrFun (scratch_first m c ⟨0, hn⟩ rfl) (ix2 p q)).trans ((part_terms m c ⟨0, hn⟩ p q).trans ?_)
    exact Finset.sum_congr rfl fun k _ => congrArg _ (Nat.zero_add k)
  | succ n ih =>
    intro hn p q
    by_cases h : (n + 1) % 7 = 0
    · refine (congrFun (scratch_first m c ⟨n + 1, hn⟩ h) (ix2 p q)).trans ((part_terms m c ⟨n + 1, hn⟩ p q).trans ?_)
      dsimp only
      rw [h]
      exact Finset.sum_congr rfl fun k _ => congrArg _ (Nat.zero_add k)
    · refine (congrFun (scratch_later m c n hn h) (ix2 p q)).trans ?_
      refine Eq.trans (b := ((outsAt0 m c n (Nat.lt_of_succ_lt hn)).2 (ix2 p q) : EReal) + k0_pay1 (iblk m c 0 ⟨n + 1, hn⟩) (iblk m c 1 ⟨n + 1, hn⟩) (ix2 p q)) rfl ?_
      refine (congr (congrArg HAdd.hAdd (ih (Nat.lt_of_succ_lt hn) p q)) (part_terms m c ⟨n + 1, hn⟩ p q)).trans ?_
      dsimp only
      have e0 : n / 14 = (n + 1) / 14 := by omega
      have e1 : n / 7 % 2 = (n + 1) / 7 % 2 := by omega
      have e2 : n % 7 + 1 = (n + 1) % 7 := by omega
      rw [e0, e1, e2, Nat.mul_succ, Finset.sum_range_add]

/-- What a last step stores is its block of the product. -/
theorem tile (c : Dev nD) (t : Fin cfg0.N) (h : t.val % 7 = 6) (p : Fin 1152) (q : Fin 1024) :
    (outsAt0 m c t.val t.isLt).1 (ix2 p q) = prod (m ((c.tc : Thread nD τ).loc main_arg0)) (m ((c.tc : Thread nD τ).loc main_arg1))
      (ix2 ⟨1152 * (t.val / 14) + p.val, by have := lt t; omega⟩ ⟨1024 * (t.val / 7 % 2) + q.val, by omega⟩) := by
  refine (congrFun (stored_last m c t h) (ix2 p q)).trans ((scratch m c t.val t.isLt p q).trans ?_)
  rw [h]
  exact terms (m ((c.tc : Thread nD τ).loc main_arg0)) (m ((c.tc : Thread nD τ).loc main_arg1)) ⟨1152 * (t.val / 14) + p.val, by have := lt t; omega⟩ ⟨1024 * (t.val / 7 % 2) + q.val, by omega⟩

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have h6 : t.val % 7 = 6 := (flush0_2 t).mp hf
  have ht := lt t
  have e0 : ((((cfg0.win 2).blk t).view.emb y) 0 : ℕ) = 1152 * (t.val / 14) + (y 0).val := by blk_simp [idx t]; try omega
  have e1 : ((((cfg0.win 2).blk t).view.emb y) 1 : ℕ) = 1024 * (t.val / 7 % 2) + (y 1).val := by blk_simp [idx t]; try omega
  rw [after0_2]
  refine Eq.trans (b := (outsAt0 m c t.val t.isLt).1 (ix2 (n0 := 1152) (n1 := 1024) (y 0) (y 1))) ?_
    ((tile m c t h6 (y 0) (y 1)).trans ?_)
  · generalize (outsAt0 m c t.val t.isLt).1 = f
    exact congrArg f (idx2 (s0 := 1152) (s1 := 1024) y)
  · exact congrArg (prod (m ((c.tc : Thread nD τ).loc main_arg0)) (m ((c.tc : Thread nD τ).loc main_arg1))) (ix2_eq e0 e1)

end Cert.Kernel3Ideal.Hand

namespace Cert.Reference3Ideal.Hand

open Cert.Reference3Ideal.Gen
open Idealize.ShloMosaic Idealize.ShloMosaic.TcCoe Idealize.ShloMosaic.Tactic

/-- The reference's result is the product. -/
theorem res (a : FVec Ideal S2304x14336 .bf16) (b : FVec Ideal S2048x14336 .bf16) :
    Host.dotGeneral dot_S2304x14336_S2048x14336_S2304x2048_1_1_0_0_n_n none
      (extf .f32 a bitsLt_bf16_f32) (extf .f32 b bitsLt_bf16_f32)
      = Cert.Kernel3Ideal.Hand.prod a b := by
  funext y
  refine Eq.trans (b := (∑ k : Fin 14336, (a (ix2 (y 0) k) : EReal) * b (ix2 (y 1) k) : EReal)) ?_ rfl
  simp [pointwise]

end Cert.Reference3Ideal.Hand

namespace Cert.Proof.Product3

open Idealize.ShloMosaic Idealize.ShloMosaic.TcCoe Idealize.ShloMosaic.StableHlo Idealize.SL.Sem

/-- The reference's run leaves its arguments unchanged and every semaphore counter at zero. -/
theorem refFrame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- From memories that agree on the arguments both programs end with equal results and unchanged arguments. -/
theorem equal : Cert.algebraic_Kernel3Ideal_Reference3Ideal (hKernel3Ideal := Cert.Kernel3Ideal.Gen.facts) (hReference3Ideal := Cert.Reference3Ideal.Gen.facts) :=
  fun m ρ m' ρ' _ hag =>
  ⟨fun c => (Cert.Kernel3Ideal.Gen.dats m 0 c).arrAt 2 Cert.Kernel3Ideal.cfg0.N, Cert.Kernel3Ideal.Value.run_blocks m ρ,
    (θ_run _ _ _).mono (fun r h c => ⟨(h c).1.trans (((Cert.Reference3Ideal.Hand.res _ _).trans
      (congr (congrArg Cert.Kernel3Ideal.Hand.prod (hag c).1) (hag c).2)).trans (Cert.Kernel3Ideal.Hand.arr m c).symm), (h c).2⟩) (Cert.Reference3Ideal.Value.run m' ρ')⟩

end Cert.Proof.Product3

end
-- ==== Proof.InProj.lean ====
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel4Ideal.Hand

open Cert.Kernel4Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The input projection: the tiles the kernel writes make up the whole product. -/

/-- The block index of every window at every grid point. -/
theorem idx : ∀ t : Fin cfg0.N, win0_0.index t = ![t.val / 14, 0] ∧ win0_1.index t = ![0, t.val % 14]
    ∧ win0_2.index t = ![t.val / 14, t.val % 14] :=
  (by decide +kernel : ∀ t : Fin grid0.N, _)

theorem lt (t : Fin cfg0.N) : t.val < 28 := lt_of_lt_of_eq t.isLt (by decide)

/-- A grid point writes the product of its two blocks. -/
theorem out (x0 : Vec Ideal S1152x2048 .bf16) (x1 : Vec Ideal S2048x1024 .bf16) (p : Fin 1152) (q : Fin 1024) :
    out0_2 x0 x1 (ix2 p q) = rowsByCols (w := .bf16) x0 x1 (ix2 p q) := by
  show (out0_2 x0 x1 (ix2 p q) : EReal) = ∑ k : Fin 2048, (x0 (ix2 p k) : EReal) * x1 (ix2 k q)
  unfold out0_2
  rw [View.canon_unit_zero (S := S1152x1024) zeros]
  unfold k0_pay1
  rw [View.ld_unit_zero (S := S1152x2048) zeros, View.ld_unit_zero (S := S2048x1024) zeros]
  simp [pointwise]

/-- The first block of a grid point. -/
theorem blk_a (c : Dev nD) (t : Fin cfg0.N) (k : Fin 2048) (p : Fin 1152) :
    (iblk m c 0 t) (ix2 p k) = m ((c.tc : Thread nD τ).loc main_arg0) (ix2 ⟨1152 * (t.val / 14) + p.val, by have := lt t; omega⟩ k) := by
  have ht := lt t
  refine Eq.trans (b := V m c main_arg0 (ix2 ⟨1152 * (t.val / 14) + p.val, by have := lt t; omega⟩ k)) ?_ (congrFun (V_main_arg0 m c) _)
  blk_ext [iblk, idx t]

/-- The second block of a grid point. -/
theorem blk_b (c : Dev nD) (t : Fin cfg0.N) (k : Fin 2048) (q : Fin 1024) :
    (iblk m c 1 t) (ix2 k q) = m ((c.tc : Thread nD τ).loc main_arg1) (ix2 k ⟨1024 * (t.val % 14) + q.val, by have := lt t; omega⟩) := by
  have ht := lt t
  refine Eq.trans (b := V m c main_arg1 (ix2 k ⟨1024 * (t.val % 14) + q.val, by have := lt t; omega⟩)) ?_ (congrFun (V_main_arg1 m c) _)
  blk_ext [iblk, idx t]

/-- The product of the two arguments. -/
abbrev prod (a : FVec Ideal S2304x2048 .bf16) (b : FVec Ideal S2048x14336 .bf16) : FVec Ideal S2304x14336 .bf16 := rowsByCols a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 14) + p.val, by have := lt t; omega⟩ ⟨1024 * (t.val % 14) + q.val, by have := lt t; omega⟩) :=
  (out (iblk m c 0 t) (iblk m c 1 t) p q).trans (rowsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 14) + (y 0).val := by blk_simp [idx t]; try omega
  have e1 : ((((cfg0.win 2).blk t).view.emb y) 1 : ℕ) = 1024 * (t.val % 14) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel4Ideal.Hand

namespace Cert.Reference4Ideal.Hand

open Cert.Reference4Ideal.Gen
open Idealize.ShloMosaic Idealize.ShloMosaic.TcCoe Idealize.ShloMosaic.Tactic

/-- The reference's result is the product. -/
theorem res (a : FVec Ideal S2304x2048 .bf16) (b : FVec Ideal S2048x14336 .bf16) :
    truncf .bf16 (Host.dotGeneral dot_S2304x2048_S2048x14336_S2304x14336_1_0_0_1_n_n none
      (extf .f32 a bitsLt_bf16_f32) (extf .f32 b bitsLt_bf16_f32)) bitsLt_bf16_f32
      = Cert.Kernel4Ideal.Hand.prod a b := by
  funext y
  refine Eq.trans (b := (∑ k : Fin 2048, (a (ix2 (y 0) k) : EReal) * b (ix2 k (y 1)) : EReal)) ?_ rfl
  simp [pointwise]

end Cert.Reference4Ideal.Hand

namespace Cert.Proof.Product4

open Idealize.ShloMosaic Idealize.ShloMosaic.TcCoe Idealize.ShloMosaic.StableHlo Idealize.SL.Sem

/-- The reference's run leaves its arguments unchanged and every semaphore counter at zero. -/
theorem refFrame : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- From memories that agree on the arguments both programs end with equal results and unchanged arguments. -/
theorem equal : Cert.algebraic_Kernel4Ideal_Reference4Ideal (hKernel4Ideal := Cert.Kernel4Ideal.Gen.facts) (hReference4Ideal := Cert.Reference4Ideal.Gen.facts) :=
  fun m ρ m' ρ' _ hag =>
  ⟨fun c => (Cert.Kernel4Ideal.Gen.dats m 0 c).arrAt 2 Cert.Kernel4Ideal.cfg0.N, Cert.Kernel4Ideal.Value.run_blocks m ρ,
    (θ_run _ _ _).mono (fun r h c => ⟨(h c).1.trans (((Cert.Reference4Ideal.Hand.res _ _).trans
      (congr (congrArg Cert.Kernel4Ideal.Hand.prod (hag c).1) (hag c).2)).trans (Cert.Kernel4Ideal.Hand.arr m c).symm), (h c).2⟩) (Cert.Reference4Ideal.Value.run m' ρ')⟩

end Cert.Proof.Product4

end
-- ==== Proof.ProjNa.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel5Ideal.Hand

open Cert.Kernel5Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The projection of the neighborhood branch: the tiles the kernel writes make up the whole product. -/

/-- The block index of every window at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem lt (t : Fin cfg0.N) : t.val < 4 := lt_of_lt_of_eq t.isLt (by decide)

/-- A grid point writes the product of its two blocks. -/
theorem out (x0 : Vec Ideal S1152x1024 .bf16) (x1 : Vec Ideal S1024x1024 .bf16) (p : Fin 1152) (q : Fin 1024) :
    out0_2 x0 x1 (ix2 p q) = rowsByCols (w := .bf16) x0 x1 (ix2 p q) := by
  show (out0_2 x0 x1 (ix2 p q) : EReal) = ∑ k : Fin 1024, (x0 (ix2 p k) : EReal) * x1 (ix2 k q)
  unfold out0_2
  rw [View.canon_unit_zero (S := S1152x1024) zeros]
  unfold k0_pay1
  rw [View.ld_unit_zero (S := S1152x1024) zeros, View.ld_unit_zero (S := S1024x1024) zeros]
  simp [pointwise]

/-- The first block of a grid point. -/
theorem blk_a (c : Dev nD) (t : Fin cfg0.N) (k : Fin 1024) (p : Fin 1152) :
    (iblk m c 0 t) (ix2 p k) = m ((c.tc : Thread nD τ).loc main_arg0) (ix2 ⟨1152 * (t.val / 2) + p.val, by have := lt t; omega⟩ k) := by
  have ht := lt t
  refine Eq.trans (b := V m c main_arg0 (ix2 ⟨1152 * (t.val / 2) + p.val, by have := lt t; omega⟩ k)) ?_ (congrFun (V_main_arg0 m c) _)
  blk_ext [iblk, idx t]

/-- The second block of a grid point. -/
theorem blk_b (c : Dev nD) (t : Fin cfg0.N) (k : Fin 1024) (q : Fin 1024) :
    (iblk m c 1 t) (ix2 k q) = m ((c.tc : Thread nD τ).loc main_arg1) (ix2 k ⟨1024 * (t.val % 2) + q.val, by have := lt t; omega⟩) := by
  have ht := lt t
  refine Eq.trans (b := V m c main_arg1 (ix2 k ⟨1024 * (t.val % 2) + q.val, by have := lt t; omega⟩)) ?_ (congrFun (V_main_arg1 m c) _)
  blk_ext [iblk, idx t]

/-- The product of the two arguments. -/
abbrev prod (a : FVec Ideal S2304x1024 .bf16) (b : FVec Ideal S1024x2048 .bf16) : FVec Ideal S2304x2048 .bf16 := rowsByCols a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 2) + p.val, by have := lt t; omega⟩ ⟨1024 * (t.val % 2) + q.val, by have := lt t; omega⟩) :=
  (out (iblk m c 0 t) (iblk m c 1 t) p q).trans (rowsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel5Ideal.Hand

namespace Cert.Reference5Ideal.Hand

open Cert.Reference5Ideal.Gen
open Idealize.ShloMosaic Idealize.ShloMosaic.TcCoe Idealize.ShloMosaic.Tactic

/-- The reference's result is the product. -/
theorem res (a : FVec Ideal S2304x1024 .bf16) (b : FVec Ideal S1024x2048 .bf16) :
    truncf .bf16 (Host.dotGeneral dot_S2304x1024_S1024x2048_S2304x2048_1_0_0_1_n_n none
      (extf .f32 a bitsLt_bf16_f32) (extf .f32 b bitsLt_bf16_f32)) bitsLt_bf16_f32
      = Cert.Kernel5Ideal.Hand.prod a b := by
  funext y
  refine Eq.trans (b := (∑ k : Fin 1024, (a (ix2 (y 0) k) : EReal) * b (ix2 k (y 1)) : EReal)) ?_ rfl
  simp [pointwise]

end Cert.Reference5Ideal.Hand

namespace Cert.Proof.Product5

open Idealize.ShloMosaic Idealize.ShloMosaic.TcCoe Idealize.ShloMosaic.StableHlo Idealize.SL.Sem

/-- The reference's run leaves its arguments unchanged and every semaphore counter at zero. -/
theorem refFrame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- From memories that agree on the arguments both programs end with equal results and unchanged arguments. -/
theorem equal : Cert.algebraic_Kernel5Ideal_Reference5Ideal (hKernel5Ideal := Cert.Kernel5Ideal.Gen.facts) (hReference5Ideal := Cert.Reference5Ideal.Gen.facts) :=
  fun m ρ m' ρ' _ hag =>
  ⟨fun c => (Cert.Kernel5Ideal.Gen.dats m 0 c).arrAt 2 Cert.Kernel5Ideal.cfg0.N, Cert.Kernel5Ideal.Value.run_blocks m ρ,
    (θ_run _ _ _).mono (fun r h c => ⟨(h c).1.trans (((Cert.Reference5Ideal.Hand.res _ _).trans
      (congr (congrArg Cert.Kernel5Ideal.Hand.prod (hag c).1) (hag c).2)).trans (Cert.Kernel5Ideal.Hand.arr m c).symm), (h c).2⟩) (Cert.Reference5Ideal.Value.run m' ρ')⟩

end Cert.Proof.Product5

end
-- ==== Proof.ProjNaDx.lean ====
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel6Ideal.Hand

open Cert.Kernel6Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The input gradient of the projection of the neighborhood branch: the tiles the kernel writes make up the whole product. -/

/-- The block index of every window at every grid point. -/
theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem lt (t : Fin cfg0.N) : t.val < 2 := lt_of_lt_of_eq t.isLt (by decide)

/-- A grid point writes the product of its two blocks. -/
theorem out (x0 : Vec Ideal S1152x2048 .bf16) (x1 : Vec Ideal S1024x2048 .bf16) (p : Fin 1152) (q : Fin 1024) :
    out0_2 x0 x1 (ix2 p q) = rowsByRows (w := .bf16) x0 x1 (ix2 p q) := by
  show (out0_2 x0 x1 (ix2 p q) : EReal) = ∑ k : Fin 2048, (x0 (ix2 p k) : EReal) * x1 (ix2 q k)
  unfold out0_2
  rw [View.canon_unit_zero (S := S1152x1024) zeros]
  unfold k0_pay1
  rw [View.ld_unit_zero (S := S1152x2048) zeros, View.ld_unit_zero (S := S1024x2048) zeros]
  simp [pointwise]

/-- The first block of a grid point. -/
theorem blk_a (c : Dev nD) (t : Fin cfg0.N) (k : Fin 2048) (p : Fin 1152) :
    (iblk m c 0 t) (ix2 p k) = m ((c.tc : Thread nD τ).loc main_arg0) (ix2 ⟨1152 * (t.val / 1) + p.val, by have := lt t; omega⟩ k) := by
  have ht := lt t
  refine Eq.trans (b := V m c main_arg0 (ix2 ⟨1152 * (t.val / 1) + p.val, by have := lt t; omega⟩ k)) ?_ (congrFun (V_main_arg0 m c) _)
  blk_ext [iblk, idx t]

/-- The second block of a grid point. -/
theorem blk_b (c : Dev nD) (t : Fin cfg0.N) (k : Fin 2048) (q : Fin 1024) :
    (iblk m c 1 t) (ix2 q k) = m ((c.tc : Thread nD τ).loc main_arg1) (ix2 ⟨1024 * (t.val % 1) + q.val, by have := lt t; omega⟩ k) := by
  have ht := lt t
  refine Eq.trans (b := V m c main_arg1 (ix2 ⟨1024 * (t.val % 1) + q.val, by have := lt t; omega⟩ k)) ?_ (congrFun (V_main_arg1 m c) _)
  blk_ext [iblk, idx t]

/-- The product of the two arguments. -/
abbrev prod (a : FVec Ideal S2304x2048 .bf16) (b : FVec Ideal S1024x2048 .bf16) : FVec Ideal S2304x1024 .bf16 := rowsByRows a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 1) + p.val, by have := lt t; omega⟩ ⟨1024 * (t.val % 1) + q.val, by have := lt t; omega⟩) :=
  (out (iblk m c 0 t) (iblk m c 1 t) p q).trans (rowsByRows_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 1) + (y 0).val := by blk_simp [idx t]; try omega
  have e1 : ((((cfg0.win 2).blk t).view.emb y) 1 : ℕ) = 1024 * (t.val % 1) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel6Ideal.Hand

namespace Cert.Reference6Ideal.Hand

open Cert.Reference6Ideal.Gen
open Idealize.ShloMosaic Idealize.ShloMosaic.TcCoe Idealize.ShloMosaic.Tactic

/-- The reference's result is the product. -/
theorem res (a : FVec Ideal S2304x2048 .bf16) (b : FVec Ideal S1024x2048 .bf16) :
    truncf .bf16 (Host.dotGeneral dot_S2304x2048_S1024x2048_S2304x1024_1_1_0_0_n_n none
      (extf .f32 a bitsLt_bf16_f32) (extf .f32 b bitsLt_bf16_f32)) bitsLt_bf16_f32
      = Cert.Kernel6Ideal.Hand.prod a b := by
  funext y
  refine Eq.trans (b := (∑ k : Fin 2048, (a (ix2 (y 0) k) : EReal) * b (ix2 (y 1) k) : EReal)) ?_ rfl
  simp [pointwise]

end Cert.Reference6Ideal.Hand

namespace Cert.Proof.Product6

open Idealize.ShloMosaic Idealize.ShloMosaic.TcCoe Idealize.ShloMosaic.StableHlo Idealize.SL.Sem

/-- The reference's run leaves its arguments unchanged and every semaphore counter at zero. -/
theorem refFrame : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- From memories that agree on the arguments both programs end with equal results and unchanged arguments. -/
theorem equal : Cert.algebraic_Kernel6Ideal_Reference6Ideal (hKernel6Ideal := Cert.Kernel6Ideal.Gen.facts) (hReference6Ideal := Cert.Reference6Ideal.Gen.facts) :=
  fun m ρ m' ρ' _ hag =>
  ⟨fun c => (Cert.Kernel6Ideal.Gen.dats m 0 c).arrAt 2 Cert.Kernel6Ideal.cfg0.N, Cert.Kernel6Ideal.Value.run_blocks m ρ,
    (θ_run _ _ _).mono (fun r h c => ⟨(h c).1.trans (((Cert.Reference6Ideal.Hand.res _ _).trans
      (congr (congrArg Cert.Kernel6Ideal.Hand.prod (hag c).1) (hag c).2)).trans (Cert.Kernel6Ideal.Hand.arr m c).symm), (h c).2⟩) (Cert.Reference6Ideal.Value.run m' ρ')⟩

end Cert.Proof.Product6

end
-- ==== Proof.ProjNaDw.lean ====
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel7Ideal.Hand

open Cert.Kernel7Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The weight gradient of the projection of the neighborhood branch: the tiles the kernel writes make up the whole product. -/

/-- The block index of every window at every grid point. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

theorem lt (t : Fin cfg0.N) : t.val < 2 := lt_of_lt_of_eq t.isLt (by decide)

/-- A grid point writes the product of its two blocks. -/
theorem out (x0 : Vec Ideal S2304x1024 .bf16) (x1 : Vec Ideal S2304x1024 .bf16) (p : Fin 1024) (q : Fin 1024) :
    out0_2 x0 x1 (ix2 p q) = colsByCols (w := .bf16) x0 x1 (ix2 p q) := by
  show (out0_2 x0 x1 (ix2 p q) : EReal) = ∑ k : Fin 2304, (x0 (ix2 k p) : EReal) * x1 (ix2 k q)
  unfold out0_2
  rw [View.canon_unit_zero (S := S1024x1024) zeros]
  unfold k0_pay1
  rw [View.ld_unit_zero (S := S2304x1024) zeros, View.ld_unit_zero (S := S2304x1024) zeros]
  simp [pointwise]

/-- The first block of a grid point. -/
theorem blk_a (c : Dev nD) (t : Fin cfg0.N) (k : Fin 2304) (p : Fin 1024) :
    (iblk m c 0 t) (ix2 k p) = m ((c.tc : Thread nD τ).loc main_arg0) (ix2 k ⟨1024 * (t.val / 2) + p.val, by have := lt t; omega⟩) := by
  have ht := lt t
  refine Eq.trans (b := V m c main_arg0 (ix2 k ⟨1024 * (t.val / 2) + p.val, by have := lt t; omega⟩)) ?_ (congrFun (V_main_arg0 m c) _)
  blk_ext [iblk, idx t]

/-- The second block of a grid point. -/
theorem blk_b (c : Dev nD) (t : Fin cfg0.N) (k : Fin 2304) (q : Fin 1024) :
    (iblk m c 1 t) (ix2 k q) = m ((c.tc : Thread nD τ).loc main_arg1) (ix2 k ⟨1024 * (t.val % 2) + q.val, by have := lt t; omega⟩) := by
  have ht := lt t
  refine Eq.trans (b := V m c main_arg1 (ix2 k ⟨1024 * (t.val % 2) + q.val, by have := lt t; omega⟩)) ?_ (congrFun (V_main_arg1 m c) _)
  blk_ext [iblk, idx t]

/-- The product of the two arguments. -/
abbrev prod (a : FVec Ideal S2304x1024 .bf16) (b : FVec Ideal S2304x2048 .bf16) : FVec Ideal S1024x2048 .bf16 := colsByCols a b

/-- What a grid point writes is its tile of the product. -/
theorem tile (c : Dev nD) (t : Fin cfg0.N) (p : Fin 1024) (q : Fin 1024) :
    out0_2 (iblk m c 0 t) (iblk m c 1 t) (ix2 p q) = prod (m ((c.tc : Thread nD τ).loc main_arg0)) (m ((c.tc : Thread nD τ).loc main_arg1))
      (ix2 ⟨1024 * (t.val / 2) + p.val, by have := lt t; omega⟩ ⟨1024 * (t.val % 2) + q.val, by have := lt t; omega⟩) :=
  (out (iblk m c 0 t) (iblk m c 1 t) p q).trans (colsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1024 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1024) (n1 := 1024) (y 0) (y 1))) ?_
    ((tile m c t (y 0) (y 1)).trans ?_)
  · generalize out0_2 (iblk m c 0 t) (iblk m c 1 t) = f
    exact congrArg f (idx2 (s0 := 1024) (s1 := 1024) y)
  · exact congrArg (prod (m ((c.tc : Thread nD τ).loc main_arg0)) (m ((c.tc : Thread nD τ).loc main_arg1))) (ix2_eq e0 e1)

end Cert.Kernel7Ideal.Hand

namespace Cert.Reference7Ideal.Hand

open Cert.Reference7Ideal.Gen
open Idealize.ShloMosaic Idealize.ShloMosaic.TcCoe Idealize.ShloMosaic.Tactic

/-- The reference's result is the product. -/
theorem res (a : FVec Ideal S2304x1024 .bf16) (b : FVec Ideal S2304x2048 .bf16) :
    truncf .bf16 (transpose S1024x2048 [1, 0] (Host.dotGeneral dot_S2304x2048_S2304x1024_S2048x1024_0_0_1_1_n_n none
      (extf .f32 b bitsLt_bf16_f32) (extf .f32 a bitsLt_bf16_f32)) transposes_S2048x1024_S1024x2048_1_0) bitsLt_bf16_f32
      = Cert.Kernel7Ideal.Hand.prod a b := by
  funext y
  refine Eq.trans (b := (∑ k : Fin 2304, (b (ix2 k (y 1)) : EReal) * a (ix2 k (y 0)) : EReal)) ?_ (Cert.Products.colsByCols_comm a b y).symm
  simp [pointwise]

end Cert.Reference7Ideal.Hand

namespace Cert.Proof.Product7

open Idealize.ShloMosaic Idealize.ShloMosaic.TcCoe Idealize.ShloMosaic.StableHlo Idealize.SL.Sem

/-- The reference's run leaves its arguments unchanged and every semaphore counter at zero. -/
theorem refFrame : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

/-- From memories that agree on the arguments both programs end with equal results and unchanged arguments. -/
theorem equal : Cert.algebraic_Kernel7Ideal_Reference7Ideal (hKernel7Ideal := Cert.Kernel7Ideal.Gen.facts) (hReference7Ideal := Cert.Reference7Ideal.Gen.facts) :=
  fun m ρ m' ρ' _ hag =>
  ⟨fun c => (Cert.Kernel7Ideal.Gen.dats m 0 c).arrAt 2 Cert.Kernel7Ideal.cfg0.N, Cert.Kernel7Ideal.Value.run_blocks m ρ,
    (θ_run _ _ _).mono (fun r h c => ⟨(h c).1.trans (((Cert.Reference7Ideal.Hand.res _ _).trans
      (congr (congrArg Cert.Kernel7Ideal.Hand.prod (hag c).1) (hag c).2)).trans (Cert.Kernel7Ideal.Hand.arr m c).symm), (h c).2⟩) (Cert.Reference7Ideal.Value.run m' ρ')⟩

end Cert.Proof.Product7

end
-- ==== Proof.ProjRet.lean ====
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel8Ideal.Hand

open Cert.Kernel8Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The projection of the retention branch: the tiles the kernel writes make up the whole product. -/

/-- The block index of every window at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem lt (t : Fin cfg0.N) : t.val < 4 := lt_of_lt_of_eq t.isLt (by decide)

/-- A grid point writes the product of its two blocks. -/
theorem out (x0 : Vec Ideal S1152x2048 .bf16) (x1 : Vec Ideal S2048x1024 .bf16) (p : Fin 1152) (q : Fin 1024) :
    out0_2 x0 x1 (ix2 p q) = rowsByCols (w := .bf16) x0 x1 (ix2 p q) := by
  show (out0_2 x0 x1 (ix2 p q) : EReal) = ∑ k : Fin 2048, (x0 (ix2 p k) : EReal) * x1 (ix2 k q)
  unfold out0_2
  rw [View.canon_unit_zero (S := S1152x1024) zeros]
  unfold k0_pay1
  rw [View.ld_unit_zero (S := S1152x2048) zeros, View.ld_unit_zero (S := S2048x1024) zeros]
  simp [pointwise]

/-- The first block of a grid point. -/
theorem blk_a (c : Dev nD) (t : Fin cfg0.N) (k : Fin 2048) (p : Fin 1152) :
    (iblk m c 0 t) (ix2 p k) = m ((c.tc : Thread nD τ).loc main_arg0) (ix2 ⟨1152 * (t.val / 2) + p.val, by have := lt t; omega⟩ k) := by
  have ht := lt t
  refine Eq.trans (b := V m c main_arg0 (ix2 ⟨1152 * (t.val / 2) + p.val, by have := lt t; omega⟩ k)) ?_ (congrFun (V_main_arg0 m c) _)
  blk_ext [iblk, idx t]

/-- The second block of a grid point. -/
theorem blk_b (c : Dev nD) (t : Fin cfg0.N) (k : Fin 2048) (q : Fin 1024) :
    (iblk m c 1 t) (ix2 k q) = m ((c.tc : Thread nD τ).loc main_arg1) (ix2 k ⟨1024 * (t.val % 2) + q.val, by have := lt t; omega⟩) := by
  have ht := lt t
  refine Eq.trans (b := V m c main_arg1 (ix2 k ⟨1024 * (t.val % 2) + q.val, by have := lt t; omega⟩)) ?_ (congrFun (V_main_arg1 m c) _)
  blk_ext [iblk, idx t]

/-- The product of the two arguments. -/
abbrev prod (a : FVec Ideal S2304x2048 .bf16) (b : FVec Ideal S2048x2048 .bf16) : FVec Ideal S2304x2048 .bf16 := rowsByCols a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 2) + p.val, by have := lt t; omega⟩ ⟨1024 * (t.val % 2) + q.val, by have := lt t; omega⟩) :=
  (out (iblk m c 0 t) (iblk m c 1 t) p q).trans (rowsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel8Ideal.Hand

namespace Cert.Reference8Ideal.Hand

open Cert.Reference8Ideal.Gen
open Idealize.ShloMosaic Idealize.ShloMosaic.TcCoe Idealize.ShloMosaic.Tactic

/-- The reference's result is the product. -/
theorem res (a : FVec Ideal S2304x2048 .bf16) (b : FVec Ideal S2048x2048 .bf16) :
    truncf .bf16 (Host.dotGeneral dot_S2304x2048_S2048x2048_S2304x2048_1_0_0_1_n_n none
      (extf .f32 a bitsLt_bf16_f32) (extf .f32 b bitsLt_bf16_f32)) bitsLt_bf16_f32
      = Cert.Kernel8Ideal.Hand.prod a b := by
  funext y
  refine Eq.trans (b := (∑ k : Fin 2048, (a (ix2 (y 0) k) : EReal) * b (ix2 k (y 1)) : EReal)) ?_ rfl
  simp [pointwise]

end Cert.Reference8Ideal.Hand

namespace Cert.Proof.Product8

open Idealize.ShloMosaic Idealize.ShloMosaic.TcCoe Idealize.ShloMosaic.StableHlo Idealize.SL.Sem

/-- The reference's run leaves its arguments unchanged and every semaphore counter at zero. -/
theorem refFrame : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

/-- From memories that agree on the arguments both programs end with equal results and unchanged arguments. -/
theorem equal : Cert.algebraic_Kernel8Ideal_Reference8Ideal (hKernel8Ideal := Cert.Kernel8Ideal.Gen.facts) (hReference8Ideal := Cert.Reference8Ideal.Gen.facts) :=
  fun m ρ m' ρ' _ hag =>
  ⟨fun c => (Cert.Kernel8Ideal.Gen.dats m 0 c).arrAt 2 Cert.Kernel8Ideal.cfg0.N, Cert.Kernel8Ideal.Value.run_blocks m ρ,
    (θ_run _ _ _).mono (fun r h c => ⟨(h c).1.trans (((Cert.Reference8Ideal.Hand.res _ _).trans
      (congr (congrArg Cert.Kernel8Ideal.Hand.prod (hag c).1) (hag c).2)).trans (Cert.Kernel8Ideal.Hand.arr m c).symm), (h c).2⟩) (Cert.Reference8Ideal.Value.run m' ρ')⟩

end Cert.Proof.Product8

end
-- ==== Proof.ProjRetDx.lean ====
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel9Ideal.Hand

open Cert.Kernel9Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The input gradient of the projection of the retention branch: the tiles the kernel writes make up the whole product. -/

/-- The block index of every window at every grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem lt (t : Fin cfg0.N) : t.val < 4 := lt_of_lt_of_eq t.isLt (by decide)

/-- A grid point writes the product of its two blocks. -/
theorem out (x0 : Vec Ideal S1152x2048 .bf16) (x1 : Vec Ideal S1024x2048 .bf16) (p : Fin 1152) (q : Fin 1024) :
    out0_2 x0 x1 (ix2 p q) = rowsByRows (w := .bf16) x0 x1 (ix2 p q) := by
  show (out0_2 x0 x1 (ix2 p q) : EReal) = ∑ k : Fin 2048, (x0 (ix2 p k) : EReal) * x1 (ix2 q k)
  unfold out0_2
  rw [View.canon_unit_zero (S := S1152x1024) zeros]
  unfold k0_pay1
  rw [View.ld_unit_zero (S := S1152x2048) zeros, View.ld_unit_zero (S := S1024x2048) zeros]
  simp [pointwise]

/-- The first block of a grid point. -/
theorem blk_a (c : Dev nD) (t : Fin cfg0.N) (k : Fin 2048) (p : Fin 1152) :
    (iblk m c 0 t) (ix2 p k) = m ((c.tc : Thread nD τ).loc main_arg0) (ix2 ⟨1152 * (t.val / 2) + p.val, by have := lt t; omega⟩ k) := by
  have ht := lt t
  refine Eq.trans (b := V m c main_arg0 (ix2 ⟨1152 * (t.val / 2) + p.val, by have := lt t; omega⟩ k)) ?_ (congrFun (V_main_arg0 m c) _)
  blk_ext [iblk, idx t]

/-- The second block of a grid point. -/
theorem blk_b (c : Dev nD) (t : Fin cfg0.N) (k : Fin 2048) (q : Fin 1024) :
    (iblk m c 1 t) (ix2 q k) = m ((c.tc : Thread nD τ).loc main_arg1) (ix2 ⟨1024 * (t.val % 2) + q.val, by have := lt t; omega⟩ k) := by
  have ht := lt t
  refine Eq.trans (b := V m c main_arg1 (ix2 ⟨1024 * (t.val % 2) + q.val, by have := lt t; omega⟩ k)) ?_ (congrFun (V_main_arg1 m c) _)
  blk_ext [iblk, idx t]

/-- The product of the two arguments. -/
abbrev prod (a : FVec Ideal S2304x2048 .bf16) (b : FVec Ideal S2048x2048 .bf16) : FVec Ideal S2304x2048 .bf16 := rowsByRows a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 2) + p.val, by have := lt t; omega⟩ ⟨1024 * (t.val % 2) + q.val, by have := lt t; omega⟩) :=
  (out (iblk m c 0 t) (iblk m c 1 t) p q).trans (rowsByRows_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel9Ideal.Hand

namespace Cert.Reference9Ideal.Hand

open Cert.Reference9Ideal.Gen
open Idealize.ShloMosaic Idealize.ShloMosaic.TcCoe Idealize.ShloMosaic.Tactic

/-- The reference's result is the product. -/
theorem res (a : FVec Ideal S2304x2048 .bf16) (b : FVec Ideal S2048x2048 .bf16) :
    truncf .bf16 (Host.dotGeneral dot_S2304x2048_S2048x2048_S2304x2048_1_1_0_0_n_n none
      (extf .f32 a bitsLt_bf16_f32) (extf .f32 b bitsLt_bf16_f32)) bitsLt_bf16_f32
      = Cert.Kernel9Ideal.Hand.prod a b := by
  funext y
  refine Eq.trans (b := (∑ k : Fin 2048, (a (ix2 (y 0) k) : EReal) * b (ix2 (y 1) k) : EReal)) ?_ rfl
  simp [pointwise]

end Cert.Reference9Ideal.Hand

namespace Cert.Proof.Product9

open Idealize.ShloMosaic Idealize.ShloMosaic.TcCoe Idealize.ShloMosaic.StableHlo Idealize.SL.Sem

/-- The reference's run leaves its arguments unchanged and every semaphore counter at zero. -/
theorem refFrame : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)

/-- From memories that agree on the arguments both programs end with equal results and unchanged arguments. -/
theorem equal : Cert.algebraic_Kernel9Ideal_Reference9Ideal (hKernel9Ideal := Cert.Kernel9Ideal.Gen.facts) (hReference9Ideal := Cert.Reference9Ideal.Gen.facts) :=
  fun m ρ m' ρ' _ hag =>
  ⟨fun c => (Cert.Kernel9Ideal.Gen.dats m 0 c).arrAt 2 Cert.Kernel9Ideal.cfg0.N, Cert.Kernel9Ideal.Value.run_blocks m ρ,
    (θ_run _ _ _).mono (fun r h c => ⟨(h c).1.trans (((Cert.Reference9Ideal.Hand.res _ _).trans
      (congr (congrArg Cert.Kernel9Ideal.Hand.prod (hag c).1) (hag c).2)).trans (Cert.Kernel9Ideal.Hand.arr m c).symm), (h c).2⟩) (Cert.Reference9Ideal.Value.run m' ρ')⟩

end Cert.Proof.Product9

end
-- ==== Proof.ProjRetDw.lean ====
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel10Ideal.Hand

open Cert.Kernel10Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The weight gradient of the projection of the retention branch: the tiles the kernel writes make up the whole product. -/

/-- The block index of every window at every grid point. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

theorem lt (t : Fin cfg0.N) : t.val < 4 := lt_of_lt_of_eq t.isLt (by decide)

/-- A grid point writes the product of its two blocks. -/
theorem out (x0 : Vec Ideal S2304x1024 .bf16) (x1 : Vec Ideal S2304x1024 .bf16) (p : Fin 1024) (q : Fin 1024) :
    out0_2 x0 x1 (ix2 p q) = colsByCols (w := .bf16) x0 x1 (ix2 p q) := by
  show (out0_2 x0 x1 (ix2 p q) : EReal) = ∑ k : Fin 2304, (x0 (ix2 k p) : EReal) * x1 (ix2 k q)
  unfold out0_2
  rw [View.canon_unit_zero (S := S1024x1024) zeros]
  unfold k0_pay1
  rw [View.ld_unit_zero (S := S2304x1024) zeros, View.ld_unit_zero (S := S2304x1024) zeros]
  simp [pointwise]

/-- The first block of a grid point. -/
theorem blk_a (c : Dev nD) (t : Fin cfg0.N) (k : Fin 2304) (p : Fin 1024) :
    (iblk m c 0 t) (ix2 k p) = m ((c.tc : Thread nD τ).loc main_arg0) (ix2 k ⟨1024 * (t.val / 2) + p.val, by have := lt t; omega⟩) := by
  have ht := lt t
  refine Eq.trans (b := V m c main_arg0 (ix2 k ⟨1024 * (t.val / 2) + p.val, by have := lt t; omega⟩)) ?_ (congrFun (V_main_arg0 m c) _)
  blk_ext [iblk, idx t]

/-- The second block of a grid point. -/
theorem blk_b (c : Dev nD) (t : Fin cfg0.N) (k : Fin 2304) (q : Fin 1024) :
    (iblk m c 1 t) (ix2 k q) = m ((c.tc : Thread nD τ).loc main_arg1) (ix2 k ⟨1024 * (t.val % 2) + q.val, by have := lt t; omega⟩) := by
  have ht := lt t
  refine Eq.trans (b := V m c main_arg1 (ix2 k ⟨1024 * (t.val % 2) + q.val, by have := lt t; omega⟩)) ?_ (congrFun (V_main_arg1 m c) _)
  blk_ext [iblk, idx t]

/-- The product of the two arguments. -/
abbrev prod (a : FVec Ideal S2304x2048 .bf16) (b : FVec Ideal S2304x2048 .bf16) : FVec Ideal S2048x2048 .bf16 := colsByCols a b

/-- What a grid point writes is its tile of the product. -/
theorem tile (c : Dev nD) (t : Fin cfg0.N) (p : Fin 1024) (q : Fin 1024) :
    out0_2 (iblk m c 0 t) (iblk m c 1 t) (ix2 p q) = prod (m ((c.tc : Thread nD τ).loc main_arg0)) (m ((c.tc : Thread nD τ).loc main_arg1))
      (ix2 ⟨1024 * (t.val / 2) + p.val, by have := lt t; omega⟩ ⟨1024 * (t.val % 2) + q.val, by have := lt t; omega⟩) :=
  (out (iblk m c 0 t) (iblk m c 1 t) p q).trans (colsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1024 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1024) (n1 := 1024) (y 0) (y 1))) ?_
    ((tile m c t (y 0) (y 1)).trans ?_)
  · generalize out0_2 (iblk m c 0 t) (iblk m c 1 t) = f
    exact congrArg f (idx2 (s0 := 1024) (s1 := 1024) y)
  · exact congrArg (prod (m ((c.tc : Thread nD τ).loc main_arg0)) (m ((c.tc : Thread nD τ).loc main_arg1))) (ix2_eq e0 e1)

end Cert.Kernel10Ideal.Hand

namespace Cert.Reference10Ideal.Hand

open Cert.Reference10Ideal.Gen
open Idealize.ShloMosaic Idealize.ShloMosaic.TcCoe Idealize.ShloMosaic.Tactic

/-- The reference's result is the product. -/
theorem res (a : FVec Ideal S2304x2048 .bf16) (b : FVec Ideal S2304x2048 .bf16) :
    truncf .bf16 (transpose S2048x2048 [1, 0] (Host.dotGeneral dot_S2304x2048_S2304x2048_S2048x2048_0_0_1_1_n_n none
      (extf .f32 b bitsLt_bf16_f32) (extf .f32 a bitsLt_bf16_f32)) transposes_S2048x2048_S2048x2048_1_0) bitsLt_bf16_f32
      = Cert.Kernel10Ideal.Hand.prod a b := by
  funext y
  refine Eq.trans (b := (∑ k : Fin 2304, (b (ix2 k (y 1)) : EReal) * a (ix2 k (y 0)) : EReal)) ?_ (Cert.Products.colsByCols_comm a b y).symm
  simp [pointwise]

end Cert.Reference10Ideal.Hand

namespace Cert.Proof.Product10

open Idealize.ShloMosaic Idealize.ShloMosaic.TcCoe Idealize.ShloMosaic.StableHlo Idealize.SL.Sem

/-- The reference's run leaves its arguments unchanged and every semaphore counter at zero. -/
theorem refFrame : Cert.quiescent_Reference10Ideal (hReference10Ideal := Cert.Reference10Ideal.Gen.facts) := fun m ρ _ =>
  (θ_run _ _ _).mono (fun r h => ⟨fun c => (h c).2, sem_eq_zero_of_no_sems (by decide) r.2⟩) (Cert.Reference10Ideal.Value.run m ρ)

/-- From memories that agree on the arguments both programs end with equal results and unchanged arguments. -/
theorem equal : Cert.algebraic_Kernel10Ideal_Reference10Ideal (hKernel10Ideal := Cert.Kernel10Ideal.Gen.facts) (hReference10Ideal := Cert.Reference10Ideal.Gen.facts) :=
  fun m ρ m' ρ' _ hag =>
  ⟨fun c => (Cert.Kernel10Ideal.Gen.dats m 0 c).arrAt 2 Cert.Kernel10Ideal.cfg0.N, Cert.Kernel10Ideal.Value.run_blocks m ρ,
    (θ_run _ _ _).mono (fun r h c => ⟨(h c).1.trans (((Cert.Reference10Ideal.Hand.res _ _).trans
      (congr (congrArg Cert.Kernel10Ideal.Hand.prod (hag c).1) (hag c).2)).trans (Cert.Kernel10Ideal.Hand.arr m c).symm), (h c).2⟩) (Cert.Reference10Ideal.Value.run m' ρ')⟩

end Cert.Proof.Product10

end
-- ==== Proof.OutProj.lean ====
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Products
public import Idealize.ShloMosaic.Lib.Pointwise
public import Idealize.ShloMosaic.Lib.Quiescent
public import Idealize.ShloMosaic.Lib.Pipeline.ValueKit

@[expose] public section

set_option maxRecDepth 16384

noncomputable section

namespace Cert.Kernel11Ideal.Hand

open Cert.Kernel11Ideal.Gen Cert.Products
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The output projection: the tiles the kernel writes make up the whole product. -/

/-- The block index of every window at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem lt (t : Fin cfg0.N) : t.val < 4 := lt_of_lt_of_eq t.isLt (by decide)

/-- A grid point writes the product of its two blocks. -/
theorem out (x0 : Vec Ideal S1152x2048 .bf16) (x1 : Vec Ideal S2048x1024 .bf16) (p : Fin 1152) (q : Fin 1024) :
    out0_2 x0 x1 (ix2 p q) = rowsByCols (w := .f32) x0 x1 (ix2 p q) := by
  show (out0_2 x0 x1 (ix2 p q) : EReal) = ∑ k : Fin 2048, (x0 (ix2 p k) : EReal) * x1 (ix2 k q)
  unfold out0_2
  rw [View.canon_unit_zero (S := S1152x1024) zeros]
  unfold k0_pay1
  rw [View.ld_unit_zero (S := S1152x2048) zeros, View.ld_unit_zero (S := S2048x1024) zeros]
  simp [pointwise]

/-- The first block of a grid point. -/
theorem blk_a (c : Dev nD) (t : Fin cfg0.N) (k : Fin 2048) (p : Fin 1152) :
    (iblk m c 0 t) (ix2 p k) = m ((c.tc : Thread nD τ).loc main_arg0) (ix2 ⟨1152 * (t.val / 2) + p.val, by have := lt t; omega⟩ k) := by
  have ht := lt t
  refine Eq.trans (b := V m c main_arg0 (ix2 ⟨1152 * (t.val / 2) + p.val, by have := lt t; omega⟩ k)) ?_ (congrFun (V_main_arg0 m c) _)
  blk_ext [iblk, idx t]

/-- The second block of a grid point. -/
theorem blk_b (c : Dev nD) (t : Fin cfg0.N) (k : Fin 2048) (q : Fin 1024) :
    (iblk m c 1 t) (ix2 k q) = m ((c.tc : Thread nD τ).loc main_arg1) (ix2 k ⟨1024 * (t.val % 2) + q.val, by have := lt t; omega⟩) := by
  have ht := lt t
  refine Eq.trans (b := V m c main_arg1 (ix2 k ⟨1024 * (t.val % 2) + q.val, by have := lt t; omega⟩)) ?_ (congrFun (V_main_arg1 m c) _)
  blk_ext [iblk, idx t]

/-- The product of the two arguments. -/
abbrev prod (a : FVec Ideal S2304x2048 .bf16) (b : FVec Ideal S2048x2048 .bf16) : FVec Ideal S2304x2048 .f32 := rowsByCols a b

/-- What a grid point writes is its tile of the product. -/
theorem tile (c : Dev nD) (t : Fin cfg0.N) (p : Fin 1152) (q : Fin 1024) :
    out0_2 (iblk m c 0 t) (iblk m c 1 t) (ix2 p q) = prod (m ((c.tc : Thread nD τ).loc main_arg0)) (m ((c.tc : Thread nD τ).loc main_arg1))
      (ix2 ⟨1152 * (t.val / 2) + p.val, by have := lt t; omega⟩ ⟨1024 * (t.val % 2) + q.val, by have := lt t; omega⟩) :=
  (out (iblk m c 0 t) (iblk m c 1 t) p q).trans (rowsByCols_block (fun k => blk_a m c t k p) (fun k => blk_b m c t k q))

/-- The array the kernel leaves is the product. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  have e0 : ((((cfg0.win 2).blk t).view.emb y) 0 : ℕ) = 1152 * (t.val / 2) + (y 0).val := by blk_simp [idx t]; try omega
  have e1 : ((((cfg0.win 2).blk t).view.emb y) 1 : ℕ) = 1024 * (t.val % 2) + (y 1).val := by blk_simp [idx t]; try omega
  rw [after0_2]
  refine Eq.trans (b := out0_2 (iblk m c 0 t) (iblk m c 1 t) (ix2 (n0 := 1152) (n1 := 1024) (y 0) (y 1))) ?_
    ((tile m c t (y 0) (y 1)).trans ?_)
  · generalize out0_2 (iblk m c 0 t) (iblk m c 1 t) = f
    exact congrArg f (idx2 (s0 := 1152) (s1 := 1024) y)
  · exact congrArg (prod (m ((c.tc : Thread nD τ).loc main_arg0)) (m ((c.tc : Thread nD τ).loc main_arg1))) (ix2_eq e0 e1)

end Cert.Kernel11Ideal.Hand

namespace Cert.Reference11Ideal.Hand

open Cert.Reference11Ideal.Gen
open Idealize.ShloMosaic Idealize.ShloMosaic.TcCoe Idealize.ShloMosaic.Tactic

/-- The reference's result is the product. -/
theorem res (a : FVec Ideal S2304x2048 .bf16) (b : FVec Ideal S2048x2048 .bf16) :
    Host.dotGeneral dot_S2304x2048_S2048x2048_S2304x2048_1_0_0_1_n_n none
      (extf .f32 a bitsLt_bf16_f32) (extf .f32 b bitsLt_bf16_f32)
      = Cert.Kernel11Ideal.Hand.prod a b := by
  funext y
  refine Eq.trans (b := (∑ k : Fin 2048, (a (ix2 (y 0) k) : EReal) * b (ix2 k (y 1)) : EReal)) ?_ rfl
  simp [pointwise]

end Cert.Reference11Ideal.Hand

namespace Cert.Proof.Product11

open Idealize.ShloMosaic Idealize.ShloMosaic.TcCoe Idealize.ShloMosaic.StableHlo Idealize.SL.Sem

/-- The reference's run leaves its arguments unchanged and every semaphore counter at zero. -/
theorem refFrame : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run m ρ)

/-- From memories that agree on the arguments both programs end with equal results and unchanged arguments. -/
theorem equal : Cert.algebraic_Kernel11Ideal_Reference11Ideal (hKernel11Ideal := Cert.Kernel11Ideal.Gen.facts) (hReference11Ideal := Cert.Reference11Ideal.Gen.facts) :=
  fun m ρ m' ρ' _ hag =>
  ⟨fun c => (Cert.Kernel11Ideal.Gen.dats m 0 c).arrAt 2 Cert.Kernel11Ideal.cfg0.N, Cert.Kernel11Ideal.Value.run_blocks m ρ,
    (θ_run _ _ _).mono (fun r h c => ⟨(h c).1.trans (((Cert.Reference11Ideal.Hand.res _ _).trans
      (congr (congrArg Cert.Kernel11Ideal.Hand.prod (hag c).1) (hag c).2)).trans (Cert.Kernel11Ideal.Hand.arr m c).symm), (h c).2⟩) (Cert.Reference11Ideal.Value.run m' ρ')⟩

end Cert.Proof.Product11

end
-- ==== Proof.Gates.lean ====
module

public import Idealize.ShloMosaic.Lib.Pointwise
public import Idealize.ShloMosaic.Lib.Pipeline.ValueKit

@[expose] public section

noncomputable section

namespace Cert.Gates

open Idealize.ShloMosaic Idealize.ShloMosaic.Tactic

/-! The gates of the two branches and their gradients, entry by entry over bfloat16 tables. -/

variable {M N K : ℕ}

/-- A gate: one over one plus the exponential of the negative. -/
def gate (x : EReal) : EReal := Ideal.div 1 (1 + Ideal.exp (-x))

/-- The columns from `o` on. -/
def columns (o : ℕ) (h : o + N ≤ K) (u : FVec Ideal ⟨2, ![M, K]⟩ .bf16) : FVec Ideal ⟨2, ![M, N]⟩ .bf16 :=
  fun y => u (ix2 (y 0) ⟨o + (y 1).val, lt_of_lt_of_le (Nat.add_lt_add_left (y 1).isLt o) h⟩)

/-- The rows from `o` on. -/
def rows (o : ℕ) (h : o + N ≤ M) (u : FVec Ideal ⟨2, ![M, K]⟩ .bf16) : FVec Ideal ⟨2, ![N, K]⟩ .bf16 :=
  fun y => u (ix2 ⟨o + (y 0).val, lt_of_lt_of_le (Nat.add_lt_add_left (y 0).isLt o) h⟩ (y 1))

/-- A table times the gates. -/
def gated (a g : FVec Ideal ⟨2, ![M, N]⟩ .bf16) : FVec Ideal ⟨2, ![M, N]⟩ .bf16 :=
  fun y => ((a y : EReal) * gate (g y) : EReal)

/-- The sum of two tables, each times its gates. -/
def gatedSum (a b g h : FVec Ideal ⟨2, ![M, N]⟩ .bf16) : FVec Ideal ⟨2, ![M, N]⟩ .bf16 :=
  fun y => (gate (g y) * (a y : EReal) + gate (h y) * (b y : EReal) : EReal)

/-- The gradient of the gates: the cotangent times the table times the derivative of the gate. -/
def gateGrad (d a g : FVec Ideal ⟨2, ![M, N]⟩ .bf16) : FVec Ideal ⟨2, ![M, N]⟩ .bf16 :=
  fun y => ((d y : EReal) * a y * gate (g y) * (1 - gate (g y)) : EReal)

end Cert.Gates

end
-- ==== Proof.MergeBwd.lean ====
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Products
public import proofs.«01_k».proof.Proof.Gates
public import Idealize.ShloMosaic.Lib.Pointwise
public import Idealize.ShloMosaic.Lib.Quiescent
public import Idealize.ShloMosaic.Lib.Pipeline.ValueKit

@[expose] public section

set_option maxRecDepth 16384

noncomputable section

namespace Cert.Kernel12Ideal.Hand

open Cert.Kernel12Ideal.Gen Cert.Products Cert.Gates
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The gradients of the gated sum: a grid point has 256 tokens of every argument. -/

/-- The block index of every window at every grid point. -/
theorem idx : ∀ t : Fin cfg0.N, win0_0.index t = ![t.val, 0] ∧ win0_1.index t = ![t.val, 0] ∧ win0_2.index t = ![t.val, 0] ∧ win0_3.index t = ![t.val, 5] ∧ win0_4.index t = ![t.val, 6] ∧ win0_5.index t = ![t.val, 0] ∧ win0_6.index t = ![t.val, 0] ∧ win0_7.index t = ![t.val, 0] ∧ win0_8.index t = ![t.val, 0] :=
  (by decide +kernel : ∀ t : Fin grid0.N, _)

theorem lt (t : Fin cfg0.N) : 256 * t.val + 256 ≤ 2304 := by
  have h : t.val < 9 := lt_of_lt_of_eq t.isLt (by decide)
  omega

/-- The tile of a table that a grid point has. -/
abbrev tile (t : Fin cfg0.N) (a : FVec Ideal S2304x2048 .bf16) : FVec Ideal S256x2048 .bf16 := rows (256 * t.val) (lt t) a

/-- The first branch's gradient. -/
theorem out5 (x0 x1 x2 x3 x4 : Vec Ideal S256x2048 .bf16) : out0_5 x0 x1 x2 x3 x4 = gated x0 x3 := by
  funext y
  unfold out0_5
  rw [View.canon_unit_zero (S := S256x2048) zeros]
  simp only [View.ld_unit_zero (S := S256x2048) zeros]
  unfold k0_pay10 k0_pay4 k0_pay5
  simp [pointwise, gated, gate]

/-- The second branch's gradient. -/
theorem out6 (x0 x1 x2 x3 x4 : Vec Ideal S256x2048 .bf16) : out0_6 x0 x1 x2 x3 x4 = gated x0 x4 := by
  funext y
  unfold out0_6
  rw [View.canon_unit_zero (S := S256x2048) zeros]
  simp only [View.ld_unit_zero (S := S256x2048) zeros]
  unfold k0_pay1 k0_pay7 k0_pay4 k0_pay6
  simp [pointwise, gated, gate]

/-- The gradient of the first branch's gates. -/
theorem out7 (x0 x1 x2 x3 x4 : Vec Ideal S256x2048 .bf16) : out0_7 x0 x1 x2 x3 x4 = gateGrad x0 x1 x3 := by
  funext y
  unfold out0_7
  rw [View.canon_unit_zero (S := S256x2048) zeros]
  simp only [View.ld_unit_zero (S := S256x2048) zeros]
  unfold k0_pay2 k0_pay8 k0_pay4 k0_pay5
  simp [pointwise, gateGrad, gate]

/-- The gradient of the second branch's gates. -/
theorem out8 (x0 x1 x2 x3 x4 : Vec Ideal S256x2048 .bf16) : out0_8 x0 x1 x2 x3 x4 = gateGrad x0 x2 x4 := by
  funext y
  unfold out0_8
  rw [View.canon_unit_zero (S := S256x2048) zeros]
  simp only [View.ld_unit_zero (S := S256x2048) zeros]
  unfold k0_pay3 k0_pay9 k0_pay4 k0_pay6
  simp [pointwise, gateGrad, gate]

/-! The block of each argument at a grid point is its tile. -/

theorem blk0 (c : Dev nD) (t : Fin cfg0.N) : iblk m c 0 t = tile t (m ((c.tc : Thread nD τ).loc main_arg0)) := by
  have ht := lt t
  funext y
  refine Eq.trans (b := V m c main_arg0 (ix2 ⟨256 * t.val + (y 0).val, lt_of_lt_of_le (Nat.add_lt_add_left (y 0).isLt _) ht⟩ ⟨0 + (y 1).val, lt_of_lt_of_le (Nat.add_lt_add_left (y 1).isLt _) (by decide : 0 + 2048 ≤ 2048)⟩)) ?_ ((congrFun (V_main_arg0 m c) _).trans ?_)
  · blk_ext [iblk, idx t]
  · refine congrArg (m ((c.tc : Thread nD τ).loc main_arg0)) (ix2_eq ?_ ?_) <;> simp

theorem blk1 (c : Dev nD) (t : Fin cfg0.N) : iblk m c 1 t = tile t (m ((c.tc : Thread nD τ).loc main_arg1)) := by
  have ht := lt t
  funext y
  refine Eq.trans (b := V m c main_arg1 (ix2 ⟨256 * t.val + (y 0).val, lt_of_lt_of_le (Nat.add_lt_add_left (y 0).isLt _) ht⟩ ⟨0 + (y 1).val, lt_of_lt_of_le (Nat.add_lt_add_left (y 1).isLt _) (by decide : 0 + 2048 ≤ 2048)⟩)) ?_ ((congrFun (V_main_arg1 m c) _).trans ?_)
  · blk_ext [iblk, idx t]
  · refine congrArg (m ((c.tc : Thread nD τ).loc main_arg1)) (ix2_eq ?_ ?_) <;> simp

theorem blk2 (c : Dev nD) (t : Fin cfg0.N) : iblk m c 2 t = tile t (m ((c.tc : Thread nD τ).loc main_arg2)) := by
  have ht := lt t
  funext y
  refine Eq.trans (b := V m c main_arg2 (ix2 ⟨256 * t.val + (y 0).val, lt_of_lt_of_le (Nat.add_lt_add_left (y 0).isLt _) ht⟩ ⟨0 + (y 1).val, lt_of_lt_of_le (Nat.add_lt_add_left (y 1).isLt _) (by decide : 0 + 2048 ≤ 2048)⟩)) ?_ ((congrFun (V_main_arg2 m c) _).trans ?_)
  · blk_ext [iblk, idx t]
  · refine congrArg (m ((c.tc : Thread nD τ).loc main_arg2)) (ix2_eq ?_ ?_) <;> simp

theorem blk3 (c : Dev nD) (t : Fin cfg0.N) : iblk m c 3 t = tile t (columns 10240 (by decide) (m ((c.tc : Thread nD τ).loc main_arg3))) := by
  have ht := lt t
  funext y
  refine Eq.trans (b := V m c main_arg3 (ix2 ⟨256 * t.val + (y 0).val, lt_of_lt_of_le (Nat.add_lt_add_left (y 0).isLt _) ht⟩ ⟨10240 + (y 1).val, lt_of_lt_of_le (Nat.add_lt_add_left (y 1).isLt _) (by decide : 10240 + 2048 ≤ 14336)⟩)) ?_ ((congrFun (V_main_arg3 m c) _).trans ?_)
  · blk_ext [iblk, idx t]
  · refine congrArg (m ((c.tc : Thread nD τ).loc main_arg3)) (ix2_eq ?_ ?_) <;> simp

theorem blk4 (c : Dev nD) (t : Fin cfg0.N) : iblk m c 4 t = tile t (columns 12288 (by decide) (m ((c.tc : Thread nD τ).loc main_arg3))) := by
  have ht := lt t
  funext y
  refine Eq.trans (b := V m c main_arg3 (ix2 ⟨256 * t.val + (y 0).val, lt_of_lt_of_le (Nat.add_lt_add_left (y 0).isLt _) ht⟩ ⟨12288 + (y 1).val, lt_of_lt_of_le (Nat.add_lt_add_left (y 1).isLt _) (by decide : 12288 + 2048 ≤ 14336)⟩)) ?_ ((congrFun (V_main_arg3 m c) _).trans ?_)
  · blk_ext [iblk, idx t]
  · refine congrArg (m ((c.tc : Thread nD τ).loc main_arg3)) (ix2_eq ?_ ?_) <;> simp

/-- What array 0 of the results holds. -/
theorem arr5 (c : Dev nD) : (dats m 0 c).arrAt 5 cfg0.N
    = gated (m ((c.tc : Thread nD τ).loc main_arg0)) (columns 10240 (by decide) (m ((c.tc : Thread nD τ).loc main_arg3))) := by
  refine (dats m 0 c).arrAt_eq_of_covers 5 _ (by decide +kernel) fun t hf y => ?_
  have e0 : ((((cfg0.win 5).blk t).view.emb y) 0 : ℕ) = 256 * t.val + (y 0).val := by blk_simp [idx t]; try omega
  have e1 : ((((cfg0.win 5).blk t).view.emb y) 1 : ℕ) = (y 1).val := by blk_simp [idx t]; try omega
  rw [after0_5, out5, blk0, blk3]
  exact congrArg (gated (m ((c.tc : Thread nD τ).loc main_arg0)) (columns 10240 (by decide) (m ((c.tc : Thread nD τ).loc main_arg3)))) (ix2_eq e0 e1)

/-- What array 1 of the results holds. -/
theorem arr6 (c : Dev nD) : (dats m 0 c).arrAt 6 cfg0.N
    = gated (m ((c.tc : Thread nD τ).loc main_arg0)) (columns 12288 (by decide) (m ((c.tc : Thread nD τ).loc main_arg3))) := by
  refine (dats m 0 c).arrAt_eq_of_covers 6 _ (by decide +kernel) fun t hf y => ?_
  have e0 : ((((cfg0.win 6).blk t).view.emb y) 0 : ℕ) = 256 * t.val + (y 0).val := by blk_simp [idx t]; try omega
  have e1 : ((((cfg0.win 6).blk t).view.emb y) 1 : ℕ) = (y 1).val := by blk_simp [idx t]; try omega
  rw [after0_6, out6, blk0, blk4]
  exact congrArg (gated (m ((c.tc : Thread nD τ).loc main_arg0)) (columns 12288 (by decide) (m ((c.tc : Thread nD τ).loc main_arg3)))) (ix2_eq e0 e1)

/-- What array 2 of the results holds. -/
theorem arr7 (c : Dev nD) : (dats m 0 c).arrAt 7 cfg0.N
    = gateGrad (m ((c.tc : Thread nD τ).loc main_arg0)) (m ((c.tc : Thread nD τ).loc main_arg1)) (columns 10240 (by decide) (m ((c.tc : Thread nD τ).loc main_arg3))) := by
  refine (dats m 0 c).arrAt_eq_of_covers 7 _ (by decide +kernel) fun t hf y => ?_
  have e0 : ((((cfg0.win 7).blk t).view.emb y) 0 : ℕ) = 256 * t.val + (y 0).val := by blk_simp [idx t]; try omega
  have e1 : ((((cfg0.win 7).blk t).view.emb y) 1 : ℕ) = (y 1).val := by blk_simp [idx t]; try omega
  rw [after0_7, out7, blk0, blk1, blk3]
  exact congrArg (gateGrad (m ((c.tc : Thread nD τ).loc main_arg0)) (m ((c.tc : Thread nD τ).loc main_arg1)) (columns 10240 (by decide) (m ((c.tc : Thread nD τ).loc main_arg3)))) (ix2_eq e0 e1)

/-- What array 3 of the results holds. -/
theorem arr8 (c : Dev nD) : (dats m 0 c).arrAt 8 cfg0.N
    = gateGrad (m ((c.tc : Thread nD τ).loc main_arg0)) (m ((c.tc : Thread nD τ).loc main_arg2)) (columns 12288 (by decide) (m ((c.tc : Thread nD τ).loc main_arg3))) := by
  refine (dats m 0 c).arrAt_eq_of_covers 8 _ (by decide +kernel) fun t hf y => ?_
  have e0 : ((((cfg0.win 8).blk t).view.emb y) 0 : ℕ) = 256 * t.val + (y 0).val := by blk_simp [idx t]; try omega
  have e1 : ((((cfg0.win 8).blk t).view.emb y) 1 : ℕ) = (y 1).val := by blk_simp [idx t]; try omega
  rw [after0_8, out8, blk0, blk2, blk4]
  exact congrArg (gateGrad (m ((c.tc : Thread nD τ).loc main_arg0)) (m ((c.tc : Thread nD τ).loc main_arg2)) (columns 12288 (by decide) (m ((c.tc : Thread nD τ).loc main_arg3)))) (ix2_eq e0 e1)

end Cert.Kernel12Ideal.Hand

namespace Cert.Reference12Ideal.Hand

open Cert.Reference12Ideal.Gen Cert.Gates
open Idealize.ShloMosaic Idealize.ShloMosaic.TcCoe Idealize.ShloMosaic.Tactic

abbrev one : FVec Ideal S2304x2048 .f32 := broadcastInDim S2304x2048 ![] bcast_S_S2304x2048 (constant S_ .f32 0x3F800000#32)

/-- The first branch's gates. -/
abbrev gateNa (u : FVec Ideal S2304x14336 .bf16) : FVec Ideal S2304x2048 .f32 :=
  Host.divf one (addf one (Host.exp (Host.negf (extf .f32 (extractStridedSlice S2304x2048 ![0, 10240] u slices_S2304x14336_S2304x2048_0_10240) bitsLt_bf16_f32))))

/-- The second branch's gates. -/
abbrev gateRet (u : FVec Ideal S2304x14336 .bf16) : FVec Ideal S2304x2048 .f32 :=
  Host.divf one (addf one (Host.exp (Host.negf (extf .f32 (extractStridedSlice S2304x2048 ![0, 12288] u slices_S2304x14336_S2304x2048_0_12288) bitsLt_bf16_f32))))

/-- The first branch's gradient. -/
theorem res5 (d : FVec Ideal S2304x2048 .bf16) (u : FVec Ideal S2304x14336 .bf16) :
    truncf .bf16 (mulf (gateNa u) (extf .f32 d bitsLt_bf16_f32)) bitsLt_bf16_f32 = gated d (columns 10240 (by decide) u) := by
  funext y
  refine Eq.trans (b := (gate ((columns 10240 (by decide) u) y) * (d y : EReal) : EReal)) ?_ (mul_comm (G := EReal) _ _)
  simp [pointwise, gate, columns]

/-- The second branch's gradient. -/
theorem res6 (d : FVec Ideal S2304x2048 .bf16) (u : FVec Ideal S2304x14336 .bf16) :
    truncf .bf16 (mulf (gateRet u) (extf .f32 d bitsLt_bf16_f32)) bitsLt_bf16_f32 = gated d (columns 12288 (by decide) u) := by
  funext y
  refine Eq.trans (b := (gate ((columns 12288 (by decide) u) y) * (d y : EReal) : EReal)) ?_ (mul_comm (G := EReal) _ _)
  simp [pointwise, gate, columns]

/-- The gradient of the first branch's gates. -/
theorem res7 (d a : FVec Ideal S2304x2048 .bf16) (u : FVec Ideal S2304x14336 .bf16) :
    truncf .bf16 (mulf (mulf (extf .f32 d bitsLt_bf16_f32) (extf .f32 a bitsLt_bf16_f32)) (mulf (gateNa u) (subf one (gateNa u)))) bitsLt_bf16_f32
      = gateGrad d a (columns 10240 (by decide) u) := by
  funext y
  refine Eq.trans (b := ((d y : EReal) * a y * (gate ((columns 10240 (by decide) u) y) * (1 - gate ((columns 10240 (by decide) u) y))) : EReal)) ?_ (mul_assoc (G := EReal) _ _ _).symm
  simp [pointwise, gate, columns]

/-- The gradient of the second branch's gates. -/
theorem res8 (d a : FVec Ideal S2304x2048 .bf16) (u : FVec Ideal S2304x14336 .bf16) :
    truncf .bf16 (mulf (mulf (extf .f32 d bitsLt_bf16_f32) (extf .f32 a bitsLt_bf16_f32)) (mulf (gateRet u) (subf one (gateRet u)))) bitsLt_bf16_f32
      = gateGrad d a (columns 12288 (by decide) u) := by
  funext y
  refine Eq.trans (b := ((d y : EReal) * a y * (gate ((columns 12288 (by decide) u) y) * (1 - gate ((columns 12288 (by decide) u) y))) : EReal)) ?_ (mul_assoc (G := EReal) _ _ _).symm
  simp [pointwise, gate, columns]

end Cert.Reference12Ideal.Hand

namespace Cert.Proof.Call12

open Idealize.ShloMosaic Idealize.ShloMosaic.TcCoe Idealize.ShloMosaic.StableHlo Idealize.SL.Sem

/-- The reference's run leaves its arguments unchanged and every semaphore counter at zero. -/
theorem refFrame : Cert.quiescent_Reference12Ideal (hReference12Ideal := Cert.Reference12Ideal.Gen.facts) := fun m ρ _ =>
  (θ_run _ _ _).mono (fun r h => ⟨fun c => (h c).2.2.2.2, sem_eq_zero_of_no_sems (by decide) r.2⟩) (Cert.Reference12Ideal.Value.run m ρ)

/-- From memories that agree on the arguments both programs end with equal results and unchanged arguments. -/
theorem equal : Cert.algebraic_Kernel12Ideal_Reference12Ideal (hKernel12Ideal := Cert.Kernel12Ideal.Gen.facts) (hReference12Ideal := Cert.Reference12Ideal.Gen.facts) :=
  fun m ρ m' ρ' _ hag =>
  ⟨fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N, fun c => (Cert.Kernel12Ideal.Gen.dats m 0 c).arrAt 8 Cert.Kernel12Ideal.cfg0.N, Cert.Kernel12Ideal.Value.run_blocks m ρ,
    (θ_run _ _ _).mono (fun r h c => ⟨((h c).1).trans ((((Cert.Reference12Ideal.Hand.res5 _ _)).trans (congr (congrArg (Cert.Gates.gated) ((hag c).1)) (congrArg (Cert.Gates.columns 10240 (by decide)) ((hag c).2.2.2)))).trans (Cert.Kernel12Ideal.Hand.arr5 m c).symm), ((h c).2.1).trans ((((Cert.Reference12Ideal.Hand.res6 _ _)).trans (congr (congrArg (Cert.Gates.gated) ((hag c).1)) (congrArg (Cert.Gates.columns 12288 (by decide)) ((hag c).2.2.2)))).trans (Cert.Kernel12Ideal.Hand.arr6 m c).symm), ((h c).2.2.1).trans ((((Cert.Reference12Ideal.Hand.res7 _ _ _)).trans (congr (congr (congrArg (Cert.Gates.gateGrad) ((hag c).1)) ((hag c).2.1)) (congrArg (Cert.Gates.columns 10240 (by decide)) ((hag c).2.2.2)))).trans (Cert.Kernel12Ideal.Hand.arr7 m c).symm), ((h c).2.2.2.1).trans ((((Cert.Reference12Ideal.Hand.res8 _ _ _)).trans (congr (congr (congrArg (Cert.Gates.gateGrad) ((hag c).1)) ((hag c).2.2.1)) (congrArg (Cert.Gates.columns 12288 (by decide)) ((hag c).2.2.2)))).trans (Cert.Kernel12Ideal.Hand.arr8 m c).symm), (h c).2.2.2.2⟩) (Cert.Reference12Ideal.Value.run m' ρ')⟩

end Cert.Proof.Call12

end
-- ==== Proof.Merge.lean ====
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Products
public import proofs.«01_k».proof.Proof.Gates
public import Idealize.ShloMosaic.Lib.Pointwise
public import Idealize.ShloMosaic.Lib.Quiescent
public import Idealize.ShloMosaic.Lib.Pipeline.ValueKit

@[expose] public section

set_option maxRecDepth 16384

noncomputable section

namespace Cert.Kernel13Ideal.Hand

open Cert.Kernel13Ideal.Gen Cert.Products Cert.Gates
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! The gated sum of the two branches: a grid point has 256 tokens of every argument. -/

/-- The block index of every window at every grid point. -/
theorem idx : ∀ t : Fin cfg0.N, win0_0.index t = ![t.val, 0] ∧ win0_1.index t = ![t.val, 0] ∧ win0_2.index t = ![t.val, 5] ∧ win0_3.index t = ![t.val, 6] ∧ win0_4.index t = ![t.val, 0] :=
  (by decide +kernel : ∀ t : Fin grid0.N, _)

theorem lt (t : Fin cfg0.N) : 256 * t.val + 256 ≤ 2304 := by
  have h : t.val < 9 := lt_of_lt_of_eq t.isLt (by decide)
  omega

/-- The tile of a table that a grid point has. -/
abbrev tile (t : Fin cfg0.N) (a : FVec Ideal S2304x2048 .bf16) : FVec Ideal S256x2048 .bf16 := rows (256 * t.val) (lt t) a

/-- The gated sum of the blocks. -/
theorem out4 (x0 x1 x2 x3 : Vec Ideal S256x2048 .bf16) : out0_4 x0 x1 x2 x3 = gatedSum x0 x1 x2 x3 := by
  funext y
  unfold out0_4
  rw [View.canon_unit_zero (S := S256x2048) zeros]
  simp only [View.ld_unit_zero (S := S256x2048) zeros]
  unfold k0_pay1
  simp [pointwise, gatedSum, gate]

/-! The block of each argument at a grid point is its tile. -/

theorem blk0 (c : Dev nD) (t : Fin cfg0.N) : iblk m c 0 t = tile t (m ((c.tc : Thread nD τ).loc main_arg0)) := by
  have ht := lt t
  funext y
  refine Eq.trans (b := V m c main_arg0 (ix2 ⟨256 * t.val + (y 0).val, lt_of_lt_of_le (Nat.add_lt_add_left (y 0).isLt _) ht⟩ ⟨0 + (y 1).val, lt_of_lt_of_le (Nat.add_lt_add_left (y 1).isLt _) (by decide : 0 + 2048 ≤ 2048)⟩)) ?_ ((congrFun (V_main_arg0 m c) _).trans ?_)
  · blk_ext [iblk, idx t]
  · refine congrArg (m ((c.tc : Thread nD τ).loc main_arg0)) (ix2_eq ?_ ?_) <;> simp

theorem blk1 (c : Dev nD) (t : Fin cfg0.N) : iblk m c 1 t = tile t (m ((c.tc : Thread nD τ).loc main_arg1)) := by
  have ht := lt t
  funext y
  refine Eq.trans (b := V m c main_arg1 (ix2 ⟨256 * t.val + (y 0).val, lt_of_lt_of_le (Nat.add_lt_add_left (y 0).isLt _) ht⟩ ⟨0 + (y 1).val, lt_of_lt_of_le (Nat.add_lt_add_left (y 1).isLt _) (by decide : 0 + 2048 ≤ 2048)⟩)) ?_ ((congrFun (V_main_arg1 m c) _).trans ?_)
  · blk_ext [iblk, idx t]
  · refine congrArg (m ((c.tc : Thread nD τ).loc main_arg1)) (ix2_eq ?_ ?_) <;> simp

theorem blk2 (c : Dev nD) (t : Fin cfg0.N) : iblk m c 2 t = tile t (columns 10240 (by decide) (m ((c.tc : Thread nD τ).loc main_arg2))) := by
  have ht := lt t
  funext y
  refine Eq.trans (b := V m c main_arg2 (ix2 ⟨256 * t.val + (y 0).val, lt_of_lt_of_le (Nat.add_lt_add_left (y 0).isLt _) ht⟩ ⟨10240 + (y 1).val, lt_of_lt_of_le (Nat.add_lt_add_left (y 1).isLt _) (by decide : 10240 + 2048 ≤ 14336)⟩)) ?_ ((congrFun (V_main_arg2 m c) _).trans ?_)
  · blk_ext [iblk, idx t]
  · refine congrArg (m ((c.tc : Thread nD τ).loc main_arg2)) (ix2_eq ?_ ?_) <;> simp

theorem blk3 (c : Dev nD) (t : Fin cfg0.N) : iblk m c 3 t = tile t (columns 12288 (by decide) (m ((c.tc : Thread nD τ).loc main_arg2))) := by
  have ht := lt t
  funext y
  refine Eq.trans (b := V m c main_arg2 (ix2 ⟨256 * t.val + (y 0).val, lt_of_lt_of_le (Nat.add_lt_add_left (y 0).isLt _) ht⟩ ⟨12288 + (y 1).val, lt_of_lt_of_le (Nat.add_lt_add_left (y 1).isLt _) (by decide : 12288 + 2048 ≤ 14336)⟩)) ?_ ((congrFun (V_main_arg2 m c) _).trans ?_)
  · blk_ext [iblk, idx t]
  · refine congrArg (m ((c.tc : Thread nD τ).loc main_arg2)) (ix2_eq ?_ ?_) <;> simp

/-- What array 0 of the results holds. -/
theorem arr4 (c : Dev nD) : (dats m 0 c).arrAt 4 cfg0.N
    = gatedSum (m ((c.tc : Thread nD τ).loc main_arg0)) (m ((c.tc : Thread nD τ).loc main_arg1)) (columns 10240 (by decide) (m ((c.tc : Thread nD τ).loc main_arg2))) (columns 12288 (by decide) (m ((c.tc : Thread nD τ).loc main_arg2))) := by
  refine (dats m 0 c).arrAt_eq_of_covers 4 _ (by decide +kernel) fun t hf y => ?_
  have e0 : ((((cfg0.win 4).blk t).view.emb y) 0 : ℕ) = 256 * t.val + (y 0).val := by blk_simp [idx t]; try omega
  have e1 : ((((cfg0.win 4).blk t).view.emb y) 1 : ℕ) = (y 1).val := by blk_simp [idx t]; try omega
  rw [after0_4, out4, blk0, blk1, blk2, blk3]
  exact congrArg (gatedSum (m ((c.tc : Thread nD τ).loc main_arg0)) (m ((c.tc : Thread nD τ).loc main_arg1)) (columns 10240 (by decide) (m ((c.tc : Thread nD τ).loc main_arg2))) (columns 12288 (by decide) (m ((c.tc : Thread nD τ).loc main_arg2)))) (ix2_eq e0 e1)

end Cert.Kernel13Ideal.Hand

namespace Cert.Reference13Ideal.Hand

open Cert.Reference13Ideal.Gen Cert.Gates
open Idealize.ShloMosaic Idealize.ShloMosaic.TcCoe Idealize.ShloMosaic.Tactic

abbrev one : FVec Ideal S2304x2048 .f32 := broadcastInDim S2304x2048 ![] bcast_S_S2304x2048 (constant S_ .f32 0x3F800000#32)

/-- The first branch's gates. -/
abbrev gateNa (u : FVec Ideal S2304x14336 .bf16) : FVec Ideal S2304x2048 .f32 :=
  Host.divf one (addf one (Host.exp (Host.negf (extf .f32 (extractStridedSlice S2304x2048 ![0, 10240] u slices_S2304x14336_S2304x2048_0_10240) bitsLt_bf16_f32))))

/-- The second branch's gates. -/
abbrev gateRet (u : FVec Ideal S2304x14336 .bf16) : FVec Ideal S2304x2048 .f32 :=
  Host.divf one (addf one (Host.exp (Host.negf (extf .f32 (extractStridedSlice S2304x2048 ![0, 12288] u slices_S2304x14336_S2304x2048_0_12288) bitsLt_bf16_f32))))

/-- The gated sum. -/
theorem res4 (a b : FVec Ideal S2304x2048 .bf16) (u : FVec Ideal S2304x14336 .bf16) :
    truncf .bf16 (addf (mulf (gateNa u) (extf .f32 a bitsLt_bf16_f32)) (mulf (gateRet u) (extf .f32 b bitsLt_bf16_f32))) bitsLt_bf16_f32
      = gatedSum a b (columns 10240 (by decide) u) (columns 12288 (by decide) u) := by
  funext y
  refine Eq.trans (b := (gate ((columns 10240 (by decide) u) y) * (a y : EReal) + gate ((columns 12288 (by decide) u) y) * (b y : EReal) : EReal)) ?_ rfl
  simp [pointwise, gate, columns]

end Cert.Reference13Ideal.Hand

namespace Cert.Proof.Call13

open Idealize.ShloMosaic Idealize.ShloMosaic.TcCoe Idealize.ShloMosaic.StableHlo Idealize.SL.Sem

/-- The reference's run leaves its arguments unchanged and every semaphore counter at zero. -/
theorem refFrame : Cert.quiescent_Reference13Ideal (hReference13Ideal := Cert.Reference13Ideal.Gen.facts) := fun m ρ _ =>
  (θ_run _ _ _).mono (fun r h => ⟨fun c => (h c).2, sem_eq_zero_of_no_sems (by decide) r.2⟩) (Cert.Reference13Ideal.Value.run m ρ)

/-- From memories that agree on the arguments both programs end with equal results and unchanged arguments. -/
theorem equal : Cert.algebraic_Kernel13Ideal_Reference13Ideal (hKernel13Ideal := Cert.Kernel13Ideal.Gen.facts) (hReference13Ideal := Cert.Reference13Ideal.Gen.facts) :=
  fun m ρ m' ρ' _ hag =>
  ⟨fun c => (Cert.Kernel13Ideal.Gen.dats m 0 c).arrAt 4 Cert.Kernel13Ideal.cfg0.N, Cert.Kernel13Ideal.Value.run_blocks m ρ,
    (θ_run _ _ _).mono (fun r h c => ⟨((h c).1).trans ((((Cert.Reference13Ideal.Hand.res4 _ _ _)).trans (congr (congr (congr (congrArg (Cert.Gates.gatedSum) ((hag c).1)) ((hag c).2.1)) (congrArg (Cert.Gates.columns 10240 (by decide)) ((hag c).2.2))) (congrArg (Cert.Gates.columns 12288 (by decide)) ((hag c).2.2)))).trans (Cert.Kernel13Ideal.Hand.arr4 m c).symm), (h c).2⟩) (Cert.Reference13Ideal.Value.run m' ρ')⟩

end Cert.Proof.Call13

end
-- ==== Proof.lean ====
module

public import proofs.«01_k».proof.Defs
public import proofs.«01_k».proof.Proof.Gen.Kernel
public import proofs.«01_k».proof.Proof.KernelFrame
public import proofs.«01_k».proof.Proof.KernelReal
public import proofs.«01_k».proof.Proof.RefReal
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.InProjDw
public import proofs.«01_k».proof.Proof.InProjDx
public import proofs.«01_k».proof.Proof.InProj
public import proofs.«01_k».proof.Proof.ProjNa
public import proofs.«01_k».proof.Proof.ProjNaDx
public import proofs.«01_k».proof.Proof.ProjNaDw
public import proofs.«01_k».proof.Proof.ProjRet
public import proofs.«01_k».proof.Proof.ProjRetDx
public import proofs.«01_k».proof.Proof.ProjRetDw
public import proofs.«01_k».proof.Proof.OutProj
public import proofs.«01_k».proof.Proof.MergeBwd
public import proofs.«01_k».proof.Proof.Merge
public import Idealize.ShloMosaic.Lib.Quiescent

@[expose] public section

set_option maxRecDepth 16384
set_option maxHeartbeats 1000000

noncomputable section

namespace Cert.Proof

open Idealize.ShloMosaic Idealize.ShloMosaic.TcCoe Idealize.ShloMosaic.StableHlo Idealize.SL.Sem Cert.Target

/-- The kernel's memory and the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

variable (m : KMem) (m' : RMem) (c : Dev Cert.KernelIdeal.nD)

/-- The kernel's arguments on a device. -/
abbrev kU : FVec Ideal Cert.KernelIdeal.S2304x14336 .bf16 := m ((c.tc : Thread Cert.KernelIdeal.nD Cert.KernelIdeal.τ).loc Cert.KernelIdeal.main_arg0)
abbrev kLg : FVec Ideal Cert.KernelIdeal.S2x8 .f32 := m ((c.tc : Thread Cert.KernelIdeal.nD Cert.KernelIdeal.τ).loc Cert.KernelIdeal.main_arg1)
abbrev kDo : FVec Ideal Cert.KernelIdeal.S2304x2048 .bf16 := m ((c.tc : Thread Cert.KernelIdeal.nD Cert.KernelIdeal.τ).loc Cert.KernelIdeal.main_arg2)

/-- The reals a device's arguments are. -/
def data : Data := ⟨fun r n => (kU m c (ix2 r n) : EReal).toReal, fun d h => (kLg m c (ix2 d h) : EReal).toReal,
  fun r n => (kDo m c (ix2 r n) : EReal).toReal⟩

/-- Under the precondition a device's arguments are those reals. -/
theorem args (h : Cert.Pre_KernelIdeal_finite (hPre_finite := Cert.Pre_finite.Hand.facts) m) :
    Cert.KernelIdeal.Hand.Args m c (data m c) := by
  haveI := Cert.Pre_finite.Hand.facts
  obtain ⟨hx, hy, hz⟩ := Cert.Pre_finite.Hand.real (kU m c) (kLg m c) (kDo m c) (h c)
  exact ⟨fun r n => hx (ix2 r n), fun d h => hy (ix2 d h), fun r n => hz (ix2 r n)⟩

/-- The two memories agree on the arguments. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m' c}

/-- The reference's arguments on a device are the same reals. -/
theorem refArgs (H : Cert.KernelIdeal.Hand.Args m c (data m c)) (hag : Agree m m') :
    Cert.ReferenceIdeal.Hand.Args (launchContents m' c) (data m c) :=
  ⟨fun r n => (congrFun (hag c).1 (ix2 r n)).trans (H.u r n), fun d h => (congrFun (hag c).2.1 (ix2 d h)).trans (H.lg d h),
    fun r n => (congrFun (hag c).2.2 (ix2 r n)).trans (H.dO r n)⟩

/-- An index of a table by its two coordinates. -/
theorem idx2 {s0 s1 : ℕ} (y : (⟨2, ![s0, s1]⟩ : Shape).Idx) : y = ix2 (y 0) (y 1) := by
  funext a
  match a with
  | ⟨0, _⟩ => rfl
  | ⟨1, _⟩ => rfl

/-- The queries' gradient: the reference's is the kernel's. -/
theorem eq_q (H : Cert.KernelIdeal.Hand.Args m c (data m c)) (hag : Agree m m') :
    Cert.ReferenceIdeal.Hand.unrot (Cert.ReferenceIdeal.Value.res_main_v149 (launchContents m' c)) (Cert.ReferenceIdeal.Value.res_main_v27 (launchContents m' c)) (Cert.ReferenceIdeal.Value.res_main_v28 (launchContents m' c))
      = (Cert.KernelIdeal.Hand.dats m 0 c).arrAt 8 Cert.KernelIdeal.cfg0.N := by
  rw [Cert.KernelIdeal.Hand.arr_q]
  funext y
  refine ((congrArg _ (idx2 y)).trans (Cert.ReferenceIdeal.Hand.resQ_real (refArgs H hag) (y 0) (y 1))).trans ?_
  exact (Cert.KernelIdeal.Hand.outq_real H _ _ rfl (y 0) _).symm

/-- The keys' gradient: the reference's is the kernel's. -/
theorem eq_k (H : Cert.KernelIdeal.Hand.Args m c (data m c)) (hag : Agree m m') :
    Cert.ReferenceIdeal.Hand.unrot (Cert.ReferenceIdeal.Value.res_main_v153 (launchContents m' c)) (Cert.ReferenceIdeal.Value.res_main_v27 (launchContents m' c)) (Cert.ReferenceIdeal.Value.res_main_v28 (launchContents m' c))
      = (Cert.KernelIdeal.Hand.dats m 0 c).arrAt 9 Cert.KernelIdeal.cfg0.N := by
  rw [Cert.KernelIdeal.Hand.arr_k]
  funext y
  refine ((congrArg _ (idx2 y)).trans (Cert.ReferenceIdeal.Hand.resK_real (refArgs H hag) (y 0) (y 1))).trans ?_
  exact (Cert.KernelIdeal.Hand.outk_real H _ _ rfl (y 0) _).symm

/-- The values' gradient: the reference's is the kernel's. -/
theorem eq_v (H : Cert.KernelIdeal.Hand.Args m c (data m c)) (hag : Agree m m') :
    Cert.ReferenceIdeal.Hand.vsum (Cert.ReferenceIdeal.Value.res_main_v134 (launchContents m' c)) (Cert.ReferenceIdeal.Value.res_main_v127 (launchContents m' c)) (Cert.ReferenceIdeal.Value.res_main_v106 (launchContents m' c))
      = (Cert.KernelIdeal.Hand.dats m 0 c).arrAt 10 Cert.KernelIdeal.cfg0.N := by
  rw [Cert.KernelIdeal.Hand.arr_v]
  funext y
  refine ((congrArg _ (idx2 y)).trans (Cert.ReferenceIdeal.Hand.resV_real (refArgs H hag) (y 0) (y 1))).trans ?_
  exact (Cert.KernelIdeal.Hand.outv_real H _ _ rfl (y 0) _).symm

/-- The reference's run leaves its arguments unchanged, and it has no semaphore. -/
theorem refFrame (m : RMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩) (Cert.ReferenceIdeal.Value.run m ρ)

/-- From memories that agree on finite arguments both programs end with equal results and unchanged arguments. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Hand.facts) := fun m ρ m' ρ' hpre hag =>
  ⟨fun c => (Cert.KernelIdeal.Hand.dats m 0 c).arrAt 8 Cert.KernelIdeal.cfg0.N, fun c => (Cert.KernelIdeal.Hand.dats m 0 c).arrAt 9 Cert.KernelIdeal.cfg0.N,
    fun c => (Cert.KernelIdeal.Hand.dats m 0 c).arrAt 10 Cert.KernelIdeal.cfg0.N, Cert.KernelIdeal.Hand.run_arrays m ρ,
    (θ_run _ _ _).mono (fun r h c => ⟨(h c).1.trans (eq_q (args m c hpre) hag), (h c).2.1.trans (eq_k (args m c hpre) hag),
      (h c).2.2.1.trans (eq_v (args m c hpre) hag), (h c).2.2.2⟩) (Cert.ReferenceIdeal.Value.run m' ρ')⟩

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Hand.facts,
    printedFrame, fun m ρ _ => Cert.KernelIdeal.Hand.frame m ρ, fun m ρ _ => Cert.KernelIdeal.Hand.frame m ρ,
    fun m ρ _ => refFrame m ρ, fun m ρ _ => refFrame m ρ,
    fun m ρ _ => Cert.Kernel2.Gen.frame m ρ, fun m ρ _ => Cert.Kernel2Ideal.Gen.frame m ρ, Product2.refFrame,
    fun m ρ _ => Cert.Kernel3.Gen.frame m ρ, fun m ρ _ => Cert.Kernel3Ideal.Gen.frame m ρ, Product3.refFrame,
    fun m ρ _ => Cert.Kernel4.Gen.frame m ρ, fun m ρ _ => Cert.Kernel4Ideal.Gen.frame m ρ, Product4.refFrame,
    fun m ρ _ => Cert.Kernel5.Gen.frame m ρ, fun m ρ _ => Cert.Kernel5Ideal.Gen.frame m ρ, Product5.refFrame,
    fun m ρ _ => Cert.Kernel6.Gen.frame m ρ, fun m ρ _ => Cert.Kernel6Ideal.Gen.frame m ρ, Product6.refFrame,
    fun m ρ _ => Cert.Kernel7.Gen.frame m ρ, fun m ρ _ => Cert.Kernel7Ideal.Gen.frame m ρ, Product7.refFrame,
    fun m ρ _ => Cert.Kernel8.Gen.frame m ρ, fun m ρ _ => Cert.Kernel8Ideal.Gen.frame m ρ, Product8.refFrame,
    fun m ρ _ => Cert.Kernel9.Gen.frame m ρ, fun m ρ _ => Cert.Kernel9Ideal.Gen.frame m ρ, Product9.refFrame,
    fun m ρ _ => Cert.Kernel10.Gen.frame m ρ, fun m ρ _ => Cert.Kernel10Ideal.Gen.frame m ρ, Product10.refFrame,
    fun m ρ _ => Cert.Kernel11.Gen.frame m ρ, fun m ρ _ => Cert.Kernel11Ideal.Gen.frame m ρ, Product11.refFrame,
    fun m ρ _ => Cert.Kernel12.Gen.frame m ρ, fun m ρ _ => Cert.Kernel12Ideal.Gen.frame m ρ, Call12.refFrame,
    fun m ρ _ => Cert.Kernel13.Gen.frame m ρ, fun m ρ _ => Cert.Kernel13Ideal.Gen.frame m ρ, Call13.refFrame,
    trivial, equal, trivial, Product2.equal, trivial, Product3.equal, trivial, Product4.equal, trivial, Product5.equal, trivial, Product6.equal, trivial, Product7.equal, trivial, Product8.equal, trivial, Product9.equal, trivial, Product10.equal, trivial, Product11.equal,
    trivial, Call12.equal, trivial, Call13.equal⟩

end Cert.Proof

end
